-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  IdealRules.named_const.Statement Cert.KernelIdeal.κ "neg" .f32 0xF149F2CA#32 ⊥
  ∧ IdealRules.named_const.Statement Cert.KernelIdeal.κ "qscale" .f32 0x3E38AA3B#32 (((8 * (Real.log 2))⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v20)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x2304x13888 : Shape := ⟨3, ![8, 2304, 13888]⟩
abbrev S16 : Shape := ⟨1, ![16]⟩
abbrev S_ : Shape := ⟨0, ![]⟩

class Facts : Prop where
  bcast_S_S8x2304x13888 : S_.BroadcastsInDim S8x2304x13888 (![] : Fin 0 → Fin S8x2304x13888.rank)
  reducesTo_S8x2304x13888_S_d0_1_2 : S8x2304x13888.ReducesTo [0, 1, 2] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S8x2304x13888 .bf16) (main_arg1 : FVec F S16 .f32) : IVec S_ 1 :=
  let main_v0 : FVec F S8x2304x13888 .bf16 := Host.absf main_arg0
  let main_cst : FVec F S_ .bf16 := constant S_ .bf16 0x7F80#16
  let main_v1 : FVec F S8x2304x13888 .bf16 := broadcastInDim S8x2304x13888 ![] bcast_S_S8x2304x13888 main_cst
  let main_v2 : IVec S8x2304x13888 1 := cmpf .olt main_v0 main_v1
  let main_c : IVec S_ 1 := constantI S_ 1 1#1
  let main_v3 : IVec S_ 1 := (fun x v => Host.reduce IntOp.andi x v reducesTo_S8x2304x13888_S_d0_1_2 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  main_v8
-- ==== Kernel.lean ====
abbrev S8x2304x13888 : Shape := ⟨3, ![8, 2304, 13888]⟩
abbrev S16 : Shape := ⟨1, ![16]⟩
abbrev S2048x128 : Shape := ⟨2, ![2048, 128]⟩
abbrev S_ : Shape := ⟨0, ![]⟩
abbrev S3x384x128 : Shape := ⟨3, ![3, 384, 128]⟩
abbrev S8x2304x4096 : Shape := ⟨3, ![8, 2304, 4096]⟩
abbrev S8x2304x1024 : Shape := ⟨3, ![8, 2304, 1024]⟩
abbrev S8x2304x256 : Shape := ⟨3, ![8, 2304, 256]⟩
abbrev S8x2304x4x1x64 : Shape := ⟨5, ![8, 2304, 4, 1, 64]⟩
abbrev S8x2304x4x2x64 : Shape := ⟨5, ![8, 2304, 4, 2, 64]⟩
abbrev S8x2304x512 : Shape := ⟨3, ![8, 2304, 512]⟩
abbrev S8x2304x2048 : Shape := ⟨3, ![8, 2304, 2048]⟩
abbrev S8x2304x3072 : Shape := ⟨3, ![8, 2304, 3072]⟩
abbrev S8x2304x14336 : Shape := ⟨3, ![8, 2304, 14336]⟩
abbrev S8x2048x1024 : Shape := ⟨3, ![8, 2048, 1024]⟩
abbrev S1x2304x512 : Shape := ⟨3, ![1, 2304, 512]⟩
abbrev S1x2304x256 : Shape := ⟨3, ![1, 2304, 256]⟩
abbrev S1x2048x512 : Shape := ⟨3, ![1, 2048, 512]⟩
abbrev S2048x256 : Shape := ⟨2, ![2048, 256]⟩
abbrev S2x64x2304 : Shape := ⟨3, ![2, 64, 2304]⟩
abbrev S640x512 : Shape := ⟨2, ![640, 512]⟩
abbrev S8x512 : Shape := ⟨2, ![8, 512]⟩
abbrev S128x128 : Shape := ⟨2, ![128, 128]⟩
abbrev S1x512 : Shape := ⟨2, ![1, 512]⟩
abbrev S512x128 : Shape := ⟨2, ![512, 128]⟩
abbrev S1x256x128 : Shape := ⟨3, ![1, 256, 128]⟩
abbrev S256x128 : Shape := ⟨2, ![256, 128]⟩
abbrev S1x128x128 : Shape := ⟨3, ![1, 128, 128]⟩
abbrev S64x128 : Shape := ⟨2, ![64, 128]⟩
abbrev S1x64x128 : Shape := ⟨3, ![1, 64, 128]⟩
abbrev S384x128 : Shape := ⟨2, ![384, 128]⟩
abbrev S1x384x128 : Shape := ⟨3, ![1, 384, 128]⟩
abbrev S384x256 : Shape := ⟨2, ![384, 256]⟩
abbrev S512x256 : Shape := ⟨2, ![512, 256]⟩
abbrev S384x512 : Shape := ⟨2, ![384, 512]⟩
abbrev S256x512 : Shape := ⟨2, ![256, 512]⟩
abbrev S1 : Shape := ⟨1, ![1]⟩
abbrev S512 : Shape := ⟨1, ![512]⟩
abbrev S1x64x384 : Shape := ⟨3, ![1, 64, 384]⟩
abbrev S64x384 : Shape := ⟨2, ![64, 384]⟩
abbrev S64x512 : Shape := ⟨2, ![64, 512]⟩
abbrev S1x64x256 : Shape := ⟨3, ![1, 64, 256]⟩
abbrev S64x256 : Shape := ⟨2, ![64, 256]⟩
abbrev S128x256 : Shape := ⟨2, ![128, 256]⟩
abbrev S1x128x256 : Shape := ⟨3, ![1, 128, 256]⟩

abbrev nBuf : Space → Nat
  | .hbm => 75
  | .vmem => 19
  | .smem => 1
  | _ => 0

abbrev bufTy : (tb : Table) → Fin (tcTables nBuf tb) → BufTy
  | .hbm, ⟨0, _⟩ => ⟨S8x2304x13888, .bf16⟩
  | .hbm, ⟨1, _⟩ => ⟨S16, .f32⟩
  | .hbm, ⟨2, _⟩ => ⟨S2048x128, .i32⟩
  | .hbm, ⟨3, _⟩ => ⟨S2048x128, .i32⟩
  | .hbm, ⟨4, _⟩ => ⟨S_, .i32⟩
  | .hbm, ⟨5, _⟩ => ⟨S2048x128, .i32⟩
  | .hbm, ⟨6, _⟩ => ⟨S2048x128, .i32⟩
  | .hbm, ⟨7, _⟩ => ⟨S_, .i32⟩
  | .hbm, ⟨8, _⟩ => ⟨S2048x128, .i32⟩
  | .hbm, ⟨9, _⟩ => ⟨S2048x128, .i32⟩
  | .hbm, ⟨10, _⟩ => ⟨S2048x128, .f32⟩
  | .hbm, ⟨11, _⟩ => ⟨S2048x128, .f32⟩
  | .hbm, ⟨12, _⟩ => ⟨S_, .f32⟩
  | .hbm, ⟨13, _⟩ => ⟨S2048x128, .f32⟩
  | .hbm, ⟨14, _⟩ => ⟨S2048x128, .f32⟩
  | .hbm, ⟨15, _⟩ => ⟨S_, .f32⟩
  | .hbm, ⟨16, _⟩ => ⟨S2048x128, .f32⟩
  | .hbm, ⟨17, _⟩ => ⟨S2048x128, .f32⟩
  | .hbm, ⟨18, _⟩ => ⟨S_, .i32⟩
  | .hbm, ⟨19, _⟩ => ⟨S2048x128, .i32⟩
  | .hbm, ⟨20, _⟩ => ⟨S2048x128, .i1⟩
  | .hbm, ⟨21, _⟩ => ⟨S_, .i32⟩
  | .hbm, ⟨22, _⟩ => ⟨S2048x128, .i32⟩
  | .hbm, ⟨23, _⟩ => ⟨S2048x128, .i32⟩
  | .hbm, ⟨24, _⟩ => ⟨S_, .i32⟩
  | .hbm, ⟨25, _⟩ => ⟨S2048x128, .i32⟩
  | .hbm, ⟨26, _⟩ => ⟨S2048x128, .i32⟩
  | .hbm, ⟨27, _⟩ => ⟨S2048x128, .i32⟩
  | .hbm, ⟨28, _⟩ => ⟨S2048x128, .f32⟩
  | .hbm, ⟨29, _⟩ => ⟨S2048x128, .f32⟩
  | .hbm, ⟨30, _⟩ => ⟨S2048x128, .f32⟩
  | .hbm, ⟨31, _⟩ => ⟨S2048x128, .f32⟩
  | .hbm, ⟨32, _⟩ => ⟨S_, .i32⟩
  | .hbm, ⟨33, _⟩ => ⟨S2048x128, .i32⟩
  | .hbm, ⟨34, _⟩ => ⟨S2048x128, .i32⟩
  | .hbm, ⟨35, _⟩ => ⟨S_, .i32⟩
  | .hbm, ⟨36, _⟩ => ⟨S2048x128, .i32⟩
  | .hbm, ⟨37, _⟩ => ⟨S2048x128, .i1⟩
  | .hbm, ⟨38, _⟩ => ⟨S2048x128, .f32⟩
  | .hbm, ⟨39, _⟩ => ⟨S2048x128, .f32⟩
  | .hbm, ⟨40, _⟩ => ⟨S3x384x128, .i32⟩
  | .hbm, ⟨41, _⟩ => ⟨S3x384x128, .i32⟩
  | .hbm, ⟨42, _⟩ => ⟨S3x384x128, .i32⟩
  | .hbm, ⟨43, _⟩ => ⟨S_, .i32⟩
  | .hbm, ⟨44, _⟩ => ⟨S3x384x128, .i32⟩
  | .hbm, ⟨45, _⟩ => ⟨S3x384x128, .i32⟩
  | .hbm, ⟨46, _⟩ => ⟨S3x384x128, .i32⟩
  | .hbm, ⟨47, _⟩ => ⟨S3x384x128, .i32⟩
  | .hbm, ⟨48, _⟩ => ⟨S3x384x128, .i32⟩
  | .hbm, ⟨49, _⟩ => ⟨S_, .i32⟩
  | .hbm, ⟨50, _⟩ => ⟨S3x384x128, .i32⟩
  | .hbm, ⟨51, _⟩ => ⟨S3x384x128, .i1⟩
  | .hbm, ⟨52, _⟩ => ⟨S_, .f32⟩
  | .hbm, ⟨53, _⟩ => ⟨S3x384x128, .f32⟩
  | .hbm, ⟨54, _⟩ => ⟨S_, .f32⟩
  | .hbm, ⟨55, _⟩ => ⟨S3x384x128, .f32⟩
  | .hbm, ⟨56, _⟩ => ⟨S3x384x128, .f32⟩
  | .hbm, ⟨57, _⟩ => ⟨S3x384x128, .bf16⟩
  | .hbm, ⟨58, _⟩ => ⟨S8x2304x4096, .bf16⟩
  | .hbm, ⟨59, _⟩ => ⟨S8x2304x1024, .bf16⟩
  | .hbm, ⟨60, _⟩ => ⟨S8x2304x1024, .bf16⟩
  | .hbm, ⟨61, _⟩ => ⟨S8x2304x256, .bf16⟩
  | .hbm, ⟨62, _⟩ => ⟨S8x2304x4x1x64, .bf16⟩
  | .hbm, ⟨63, _⟩ => ⟨S8x2304x4x2x64, .bf16⟩
  | .hbm, ⟨64, _⟩ => ⟨S8x2304x512, .bf16⟩
  | .hbm, ⟨65, _⟩ => ⟨S8x2304x256, .bf16⟩
  | .hbm, ⟨66, _⟩ => ⟨S8x2304x4x1x64, .bf16⟩
  | .hbm, ⟨67, _⟩ => ⟨S8x2304x4x2x64, .bf16⟩
  | .hbm, ⟨68, _⟩ => ⟨S8x2304x512, .bf16⟩
  | .hbm, ⟨69, _⟩ => ⟨S8x2304x2048, .bf16⟩
  | .hbm, ⟨70, _⟩ => ⟨S8x2304x1024, .bf16⟩
  | .hbm, ⟨71, _⟩ => ⟨S8x2304x1024, .bf16⟩
  | .hbm, ⟨72, _⟩ => ⟨S8x2304x3072, .bf16⟩
  | .hbm, ⟨73, _⟩ => ⟨S8x2304x14336, .bf16⟩
  | .hbm, ⟨74, _⟩ => ⟨S8x2048x1024, .bf16⟩
  | .local _ .vmem, ⟨0, _⟩ => ⟨S1x2304x512, .bf16⟩
  | .local _ .vmem, ⟨1, _⟩ => ⟨S1x2304x512, .bf16⟩
  | .local _ .vmem, ⟨2, _⟩ => ⟨S1x2304x256, .bf16⟩
  | .local _ .vmem, ⟨3, _⟩ => ⟨S1x2304x256, .bf16⟩
  | .local _ .vmem, ⟨4, _⟩ => ⟨S1x2304x256, .bf16⟩
  | .local _ .vmem, ⟨5, _⟩ => ⟨S1x2304x256, .bf16⟩
  | .local _ .vmem, ⟨6, _⟩ => ⟨S2048x128, .f32⟩
  | .local _ .vmem, ⟨7, _⟩ => ⟨S2048x128, .f32⟩
  | .local _ .vmem, ⟨8, _⟩ => ⟨S3x384x128, .bf16⟩
  | .local _ .vmem, ⟨9, _⟩ => ⟨S1x2048x512, .bf16⟩
  | .local _ .vmem, ⟨10, _⟩ => ⟨S1x2048x512, .bf16⟩
  | .local _ .vmem, ⟨11, _⟩ => ⟨S2048x256, .bf16⟩
  | .local _ .vmem, ⟨12, _⟩ => ⟨S2x64x2304, .bf16⟩
  | .local _ .vmem, ⟨13, _⟩ => ⟨S640x512, .f32⟩
  | .local _ .vmem, ⟨14, _⟩ => ⟨S640x512, .f32⟩
  | .local _ .vmem, ⟨15, _⟩ => ⟨S640x512, .bf16⟩
  | .local _ .vmem, ⟨16, _⟩ => ⟨S640x512, .bf16⟩
  | .local _ .vmem, ⟨17, _⟩ => ⟨S8x512, .f32⟩
  | .local _ .vmem, ⟨18, _⟩ => ⟨S8x512, .f32⟩
  | .local _ .smem, ⟨0, _⟩ => ⟨S16, .f32⟩
  | _, _ => ⟨S8x2304x13888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_5 : Ref sig .tc := ⟨.hbm, 32, rfl⟩
abbrev main_v23 : Ref sig .tc := ⟨.hbm, 33, rfl⟩
abbrev main_v24 : Ref sig .tc := ⟨.hbm, 34, rfl⟩
abbrev main_c_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_8 : Ref sig .tc := ⟨.hbm, 49, rfl⟩
abbrev main_v37 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev main_cst_10 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32_5 : BitVec 32 := 0#32
  let c8_i32 : BitVec 32 := 8#32
  let v28 : BitVec 32 := Scalar.addi c0_i32_5 c8_i32
  let c1_i32_6 : BitVec 32 := 1#32
  ⟨c0_i32_5, v28, c1_i32_6⟩
def k0_mult1 (k0_t1 : Fin k0_t1_loop.trips) : BitVec 32 :=
  let c0_i32_5 : BitVec 32 := 0#32
  let c1_i32_6 : BitVec 32 := 1#32
  let arg18 : BitVec 32 := Scf.iv c0_i32_5 c1_i32_6 k0_t1
  let c256_i32_169 : BitVec 32 := 256#32
  let v405 : BitVec 32 := Scalar.muli arg18 c256_i32_169
  v405
def k0_off1 (k0_t1 : Fin k0_t1_loop.trips) : Fin 3 → Nat :=
  let c0_170 : Index := 0#32
  let c0_i32_5 : BitVec 32 := 0#32
  let c1_i32_6 : BitVec 32 := 1#32
  let arg18 : BitVec 32 := Scf.iv c0_i32_5 c1_i32_6 k0_t1
  let c256_i32_169 : BitVec 32 := 256#32
  let v405 : BitVec 32 := Scalar.muli arg18 c256_i32_169
  let v406 : BitVec 32 := v405
  let v407 : Index := Scalar.indexCast v406
  let c0_171 : Index := 0#32
  ![0, v407.toNat, 0]
def k0_off2 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let c256_i32_169 : BitVec 32 := 256#32
  let v405 : BitVec 32 := Scalar.muli arg18 c256_i32_169
  let v406 : BitVec 32 := v405
  let v412 : Index := Scalar.indexCast v406
  let c0_172 : Index := 0#32
  ![v412.toNat, 0]
def k0_off3 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let c256_i32_169 : BitVec 32 := 256#32
  let v405 : BitVec 32 := Scalar.muli arg18 c256_i32_169
  let v406 : BitVec 32 := v405
  let v443 : Index := Scalar.indexCast v406
  let c0_183 : Index := 0#32
  ![v443.toNat, 0]
def k0_off4 (k0_t1 : Fin k0_t1_loop.trips) : Fin 3 → Nat :=
  let c0_184 : Index := 0#32
  let c0_i32_5 : BitVec 32 := 0#32
  let c1_i32_6 : BitVec 32 := 1#32
  let arg18 : BitVec 32 := Scf.iv c0_i32_5 c1_i32_6 k0_t1
  let c256_i32_169 : BitVec 32 := 256#32
  let v405 : BitVec 32 := Scalar.muli arg18 c256_i32_169
  let v406 : BitVec 32 := v405
  let v447 : Index := Scalar.indexCast v406
  let c128_185 : Index := 128#32
  ![0, v447.toNat, 128]
def k0_off5 (k0_t1 : Fin k0_t1_loop.trips) : Fin 2 → Nat :=
  let c0_i32_5 : BitVec 32 := 0#32
  let c1_i32_6 : BitVec 32 := 1#32
  let arg18 : BitVec 32 := Scf.iv c0_i32_5 c1_i32_6 k0_t1
  let c256_i32_169 : BitVec 32 := 256#32
  let v405 : BitVec 32 := Scalar.muli arg18 c256_i32_169
  let v406 : BitVec 32 := v405
  let v483 : Index := Scalar.indexCast v406
  let c128_197 : Index := 128#32
  ![v483.toNat, 128]
@[reducible] def k0_t2_loop : Scf.Loop 32 :=
  let c0_i32_8 : BitVec 32 := 0#32
  let c18_i32 : BitVec 32 := 18#32
  let v29 : BitVec 32 := Scalar.addi c0_i32_8 c18_i32
  let c1_i32_9 : BitVec 32 := 1#32
  ⟨c0_i32_8, v29, c1_i32_9⟩
def k0_mult2 (k0_t2 : Fin k0_t2_loop.trips) : BitVec 32 :=
  let c0_i32_8 : BitVec 32 := 0#32
  let c1_i32_9 : BitVec 32 := 1#32
  let arg18 : BitVec 32 := Scf.iv c0_i32_8 c1_i32_9 k0_t2
  let c128_i32_169 : BitVec 32 := 128#32
  let v405 : BitVec 32 := Scalar.muli arg18 c128_i32_169
  v405
def k0_off6 (k0_t2 : Fin k0_t2_loop.trips) : Fin 3 → Nat :=
  let c0_170 : Index := 0#32
  let c0_i32_8 : BitVec 32 := 0#32
  let c1_i32_9 : BitVec 32 := 1#32
  let arg18 : BitVec 32 := Scf.iv c0_i32_8 c1_i32_9 k0_t2
  let c128_i32_169 : BitVec 32 := 128#32
  let v405 : BitVec 32 := Scalar.muli arg18 c128_i32_169
  let v406 : BitVec 32 := v405
  let v407 : Index := Scalar.indexCast v406
  let c0_171 : Index := 0#32
  ![0, v407.toNat, 0]
def k0_off7 (k0_t2 : Fin k0_t2_loop.trips) : Fin 3 → Nat :=
  let c0_172 : Index := 0#32
  let c0_173 : Index := 0#32
  let c0_i32_8 : BitVec 32 := 0#32
  let c1_i32_9 : BitVec 32 := 1#32
  let arg18 : BitVec 32 := Scf.iv c0_i32_8 c1_i32_9 k0_t2
  let c128_i32_169 : BitVec 32 := 128#32
  let v405 : BitVec 32 := Scalar.muli arg18 c128_i32_169
  let v406 : BitVec 32 := v405
  let v414 : Index := Scalar.indexCast v406
  ![0, 0, v414.toNat]
def k0_off8 (k0_t2 : Fin k0_t2_loop.trips) : Fin 3 → Nat :=
  let c0_174 : Index := 0#32
  let c0_i32_8 : BitVec 32 := 0#32
  let c1_i32_9 : BitVec 32 := 1#32
  let arg18 : BitVec 32 := Scf.iv c0_i32_8 c1_i32_9 k0_t2
  let c128_i32_169 : BitVec 32 := 128#32
  let v405 : BitVec 32 := Scalar.muli arg18 c128_i32_169
  let v406 : BitVec 32 := v405
  let v418 : Index := Scalar.indexCast v406
  let c128_175 : Index := 128#32
  ![0, v418.toNat, 128]
def k0_off9 (k0_t2 : Fin k0_t2_loop.trips) : Fin 3 → Nat :=
  let c1_176 : Index := 1#32
  let c0_177 : Index := 0#32
  let c0_i32_8 : BitVec 32 := 0#32
  let c1_i32_9 : BitVec 32 := 1#32
  let arg18 : BitVec 32 := Scf.iv c0_i32_8 c1_i32_9 k0_t2
  let c128_i32_169 : BitVec 32 := 128#32
  let v405 : BitVec 32 := Scalar.muli arg18 c128_i32_169
  let v406 : BitVec 32 := v405
  let v425 : Index := Scalar.indexCast v406
  ![1, 0, v425.toNat]
def k0_mult3 : BitVec 32 :=
  let c0_i32_11 : BitVec 32 := 0#32
  c0_i32_11
def k0_mult4 : BitVec 32 :=
  let c1664_i32 : BitVec 32 := 1664#32
  let c0_i32_12 : BitVec 32 := 0#32
  let c_m128_i32 : BitVec 32 := 4294967168#32
  let v31 : BitVec 32 := Scalar.maxsi c0_i32_12 c_m128_i32
  let v32 : BitVec 32 := Scalar.minsi c1664_i32 v31
  v32
def k0_off10 : Fin 2 → Nat :=
  let c1664_i32 : BitVec 32 := 1664#32
  let c0_i32_12 : BitVec 32 := 0#32
  let c_m128_i32 : BitVec 32 := 4294967168#32
  let v31 : BitVec 32 := Scalar.maxsi c0_i32_12 c_m128_i32
  let v32 : BitVec 32 := Scalar.minsi c1664_i32 v31
  let v33 : BitVec 32 := v32
  let v118 : Index := Scalar.indexCast v33
  let c0_41 : Index := 0#32
  ![v118.toNat, 0]
def k0_off11 : Fin 3 → Nat :=
  let v_false : BitVec 1 := 0#1
  let c1_i32_13 : BitVec 32 := 1#32
  let c0_i32_14 : BitVec 32 := 0#32
  let v34 : BitVec 32 := Scalar.select v_false c1_i32_13 c0_i32_14
  let false_15 : BitVec 1 := 0#1
  let c1_i32_16 : BitVec 32 := 1#32
  let c0_i32_17 : BitVec 32 := 0#32
  let v35 : BitVec 32 := Scalar.select false_15 c1_i32_16 c0_i32_17
  let v36 : BitVec 32 := Scalar.addi v34 v35
  let v120 : Index := Scalar.indexCast v36
  let c0_42 : Index := 0#32
  let c0_43 : Index := 0#32
  ![v120.toNat, 0, 0]
def k0_mult5 : BitVec 32 :=
  let c0_i32_51 : BitVec 32 := 0#32
  c0_i32_51
def k0_mult6 : BitVec 32 :=
  let c1664_i32_54 : BitVec 32 := 1664#32
  let c0_i32_53 : BitVec 32 := 0#32
  let c_m128_i32_52 : BitVec 32 := 4294967168#32
  let v136 : BitVec 32 := Scalar.maxsi c0_i32_53 c_m128_i32_52
  let v137 : BitVec 32 := Scalar.minsi c1664_i32_54 v136
  v137
def k0_off12 : Fin 2 → Nat :=
  let c1664_i32_54 : BitVec 32 := 1664#32
  let c0_i32_53 : BitVec 32 := 0#32
  let c_m128_i32_52 : BitVec 32 := 4294967168#32
  let v136 : BitVec 32 := Scalar.maxsi c0_i32_53 c_m128_i32_52
  let v137 : BitVec 32 := Scalar.minsi c1664_i32_54 v136
  let v138 : BitVec 32 := v137
  let v223 : Index := Scalar.indexCast v138
  let c128_88 : Index := 128#32
  ![v223.toNat, 128]
def k0_off13 (i : grid0.Coords) (c0_i32_103 : BitVec 32) : Fin 1 → Nat :=
  let arg1 : BitVec 32 := BitVec.ofNat 32 (i 1).val
  let c8_i32_102 : BitVec 32 := 8#32
  let v241 : BitVec 32 := Scalar.muli arg1 c8_i32_102
  let v242 : BitVec 32 := Scalar.addi v241 c0_i32_103
  let v245 : Index := Scalar.indexCast v242
  ![v245.toNat]
def k0_off14 (i : grid0.Coords) (c0_i32_103 : BitVec 32) (c1_i32_105 : BitVec 32) : Fin 1 → Nat :=
  let arg1 : BitVec 32 := BitVec.ofNat 32 (i 1).val
  let c8_i32_102 : BitVec 32 := 8#32
  let v241 : BitVec 32 := Scalar.muli arg1 c8_i32_102
  let v242 : BitVec 32 := Scalar.addi v241 c0_i32_103
  let v249 : BitVec 32 := Scalar.addi v242 c1_i32_105
  let v250 : Index := Scalar.indexCast v249
  ![v250.toNat]
@[reducible] def k0_t3_loop : Scf.Loop 32 :=
  let c1_i32_114 : BitVec 32 := 1#32
  let c15_i32 : BitVec 32 := 15#32
  let v291 : BitVec 32 := Scalar.addi c1_i32_114 c15_i32
  let c1_i32_115 : BitVec 32 := 1#32
  ⟨c1_i32_114, v291, c1_i32_115⟩
def k0_mult7 (k0_t3 : Fin k0_t3_loop.trips) : BitVec 32 :=
  let c1_i32_114 : BitVec 32 := 1#32
  let c1_i32_115 : BitVec 32 := 1#32
  let arg18 : BitVec 32 := Scf.iv c1_i32_114 c1_i32_115 k0_t3
  let c1_i32_169 : BitVec 32 := 1#32
  let v405 : BitVec 32 := Scalar.subi arg18 c1_i32_169
  let c128_i32_170 : BitVec 32 := 128#32
  let v406 : BitVec 32 := Scalar.muli v405 c128_i32_170
  v406
def k0_mult8 (k0_t3 : Fin k0_t3_loop.trips) : BitVec 32 :=
  let c1664_i32_174 : BitVec 32 := 1664#32
  let c0_i32_173 : BitVec 32 := 0#32
  let c1_i32_114 : BitVec 32 := 1#32
  let c1_i32_115 : BitVec 32 := 1#32
  let arg18 : BitVec 32 := Scf.iv c1_i32_114 c1_i32_115 k0_t3
  let c1_i32_169 : BitVec 32 := 1#32
  let v405 : BitVec 32 := Scalar.subi arg18 c1_i32_169
  let c1_i32_171 : BitVec 32 := 1#32
  let v408 : BitVec 32 := Scalar.subi v405 c1_i32_171
  let c128_i32_172 : BitVec 32 := 128#32
  let v409 : BitVec 32 := Scalar.muli v408 c128_i32_172
  let v410 : BitVec 32 := Scalar.maxsi c0_i32_173 v409
  let v411 : BitVec 32 := Scalar.minsi c1664_i32_174 v410
  v411
def k0_off15 (k0_t3 : Fin k0_t3_loop.trips) : Fin 3 → Nat :=
  let c0_175 : Index := 0#32
  let c0_176 : Index := 0#32
  let c1664_i32_174 : BitVec 32 := 1664#32
  let c0_i32_173 : BitVec 32 := 0#32
  let c1_i32_114 : BitVec 32 := 1#32
  let c1_i32_115 : BitVec 32 := 1#32
  let arg18 : BitVec 32 := Scf.iv c1_i32_114 c1_i32_115 k0_t3
  let c1_i32_169 : BitVec 32 := 1#32
  let v405 : BitVec 32 := Scalar.subi arg18 c1_i32_169
  let c1_i32_171 : BitVec 32 := 1#32
  let v408 : BitVec 32 := Scalar.subi v405 c1_i32_171
  let c128_i32_172 : BitVec 32 := 128#32
  let v409 : BitVec 32 := Scalar.muli v408 c128_i32_172
  let v410 : BitVec 32 := Scalar.maxsi c0_i32_173 v409
  let v411 : BitVec 32 := Scalar.minsi c1664_i32_174 v410
  let v412 : BitVec 32 := v411
  let v413 : Index := Scalar.indexCast v412
  ![0, 0, v413.toNat]
def k0_off16 (k0_t3 : Fin k0_t3_loop.trips) : Fin 3 → Nat :=
  let c0_188 : Index := 0#32
  let c1_i32_114 : BitVec 32 := 1#32
  let c1_i32_115 : BitVec 32 := 1#32
  let arg18 : BitVec 32 := Scf.iv c1_i32_114 c1_i32_115 k0_t3
  let c1_i32_169 : BitVec 32 := 1#32
  let v405 : BitVec 32 := Scalar.subi arg18 c1_i32_169
  let c128_i32_170 : BitVec 32 := 128#32
  let v406 : BitVec 32 := Scalar.muli v405 c128_i32_170
  let v407 : BitVec 32 := v406
  let v436 : Index := Scalar.indexCast v407
  let c0_189 : Index := 0#32
  ![0, v436.toNat, 0]
def k0_mult9 (k0_t3 : Fin k0_t3_loop.trips) : BitVec 32 :=
  let c1_i32_114 : BitVec 32 := 1#32
  let c1_i32_115 : BitVec 32 := 1#32
  let arg18 : BitVec 32 := Scf.iv c1_i32_114 c1_i32_115 k0_t3
  let c128_i32_190 : BitVec 32 := 128#32
  let v440 : BitVec 32 := Scalar.muli arg18 c128_i32_190
  v440
def k0_mult10 (k0_t3 : Fin k0_t3_loop.trips) : BitVec 32 :=
  let c1664_i32_194 : BitVec 32 := 1664#32
  let c0_i32_193 : BitVec 32 := 0#32
  let c1_i32_114 : BitVec 32 := 1#32
  let c1_i32_115 : BitVec 32 := 1#32
  let arg18 : BitVec 32 := Scf.iv c1_i32_114 c1_i32_115 k0_t3
  let c1_i32_191 : BitVec 32 := 1#32
  let v442 : BitVec 32 := Scalar.subi arg18 c1_i32_191
  let c128_i32_192 : BitVec 32 := 128#32
  let v443 : BitVec 32 := Scalar.muli v442 c128_i32_192
  let v444 : BitVec 32 := Scalar.maxsi c0_i32_193 v443
  let v445 : BitVec 32 := Scalar.minsi c1664_i32_194 v444
  v445
def k0_off17 (k0_t3 : Fin k0_t3_loop.trips) : Fin 3 → Nat :=
  let c0_201 : Index := 0#32
  let c1_i32_114 : BitVec 32 := 1#32
  let c1_i32_115 : BitVec 32 := 1#32
  let arg18 : BitVec 32 := Scf.iv c1_i32_114 c1_i32_115 k0_t3
  let c128_i32_190 : BitVec 32 := 128#32
  let v440 : BitVec 32 := Scalar.muli arg18 c128_i32_190
  let v441 : BitVec 32 := v440
  let v452 : Index := Scalar.indexCast v441
  let c0_202 : Index := 0#32
  ![0, v452.toNat, 0]
def k0_off18 (k0_t3 : Fin k0_t3_loop.trips) : Fin 2 → Nat :=
  let c1_i32_114 : BitVec 32 := 1#32
  let c1_i32_115 : BitVec 32 := 1#32
  let arg18 : BitVec 32 := Scf.iv c1_i32_114 c1_i32_115 k0_t3
  let c128_i32_190 : BitVec 32 := 128#32
  let v440 : BitVec 32 := Scalar.muli arg18 c128_i32_190
  let v441 : BitVec 32 := v440
  let v457 : Index := Scalar.indexCast v441
  let c0_203 : Index := 0#32
  ![v457.toNat, 0]
def k0_off19 (k0_t3 : Fin k0_t3_loop.trips) : Fin 3 → Nat :=
  let c0_215 : Index := 0#32
  let c1_i32_114 : BitVec 32 := 1#32
  let c1_i32_115 : BitVec 32 := 1#32
  let arg18 : BitVec 32 := Scf.iv c1_i32_114 c1_i32_115 k0_t3
  let c128_i32_190 : BitVec 32 := 128#32
  let v440 : BitVec 32 := Scalar.muli arg18 c128_i32_190
  let v441 : BitVec 32 := v440
  let v489 : Index := Scalar.indexCast v441
  let c128_216 : Index := 128#32
  ![0, v489.toNat, 128]
def k0_off20 (k0_t3 : Fin k0_t3_loop.trips) : Fin 2 → Nat :=
  let c1664_i32_194 : BitVec 32 := 1664#32
  let c0_i32_193 : BitVec 32 := 0#32
  let c1_i32_114 : BitVec 32 := 1#32
  let c1_i32_115 : BitVec 32 := 1#32
  let arg18 : BitVec 32 := Scf.iv c1_i32_114 c1_i32_115 k0_t3
  let c1_i32_191 : BitVec 32 := 1#32
  let v442 : BitVec 32 := Scalar.subi arg18 c1_i32_191
  let c128_i32_192 : BitVec 32 := 128#32
  let v443 : BitVec 32 := Scalar.muli v442 c128_i32_192
  let v444 : BitVec 32 := Scalar.maxsi c0_i32_193 v443
  let v445 : BitVec 32 := Scalar.minsi c1664_i32_194 v444
  let v446 : BitVec 32 := v445
  let v533 : Index := Scalar.indexCast v446
  let c0_229 : Index := 0#32
  ![v533.toNat, 0]
def k0_off21 (k0_t3 : Fin k0_t3_loop.trips) : Fin 3 → Nat :=
  let c1_i32_114 : BitVec 32 := 1#32
  let c1_i32_115 : BitVec 32 := 1#32
  let arg18 : BitVec 32 := Scf.iv c1_i32_114 c1_i32_115 k0_t3
  let c1_i32_195 : BitVec 32 := 1#32
  let v447 : BitVec 1 := Scalar.cmpi .sge arg18 c1_i32_195
  let c1_i32_196 : BitVec 32 := 1#32
  let c0_i32_197 : BitVec 32 := 0#32
  let v448 : BitVec 32 := Scalar.select v447 c1_i32_196 c0_i32_197
  let c15_i32_198 : BitVec 32 := 15#32
  let v449 : BitVec 1 := Scalar.cmpi .sge arg18 c15_i32_198
  let c1_i32_199 : BitVec 32 := 1#32
  let c0_i32_200 : BitVec 32 := 0#32
  let v450 : BitVec 32 := Scalar.select v449 c1_i32_199 c0_i32_200
  let v451 : BitVec 32 := Scalar.addi v448 v450
  let v535 : Index := Scalar.indexCast v451
  let c0_230 : Index := 0#32
  let c0_231 : Index := 0#32
  ![v535.toNat, 0, 0]
def k0_off22 (i : grid0.Coords) (c4_i32_244 : BitVec 32) : Fin 1 → Nat :=
  let arg1 : BitVec 32 := BitVec.ofNat 32 (i 1).val
  let c8_i32_243 : BitVec 32 := 8#32
  let v551 : BitVec 32 := Scalar.muli arg1 c8_i32_243
  let v552 : BitVec 32 := Scalar.addi v551 c4_i32_244
  let v555 : Index := Scalar.indexCast v552
  ![v555.toNat]
def k0_off23 (i : grid0.Coords) (c4_i32_244 : BitVec 32) (c1_i32_247 : BitVec 32) : Fin 1 → Nat :=
  let arg1 : BitVec 32 := BitVec.ofNat 32 (i 1).val
  let c8_i32_243 : BitVec 32 := 8#32
  let v551 : BitVec 32 := Scalar.muli arg1 c8_i32_243
  let v552 : BitVec 32 := Scalar.addi v551 c4_i32_244
  let v559 : BitVec 32 := Scalar.addi v552 c1_i32_247
  let v560 : Index := Scalar.indexCast v559
  ![v560.toNat]
def k0_mult11 (k0_t3 : Fin k0_t3_loop.trips) : BitVec 32 :=
  let c1_i32_114 : BitVec 32 := 1#32
  let c1_i32_115 : BitVec 32 := 1#32
  let arg18 : BitVec 32 := Scf.iv c1_i32_114 c1_i32_115 k0_t3
  let c1_i32_259 : BitVec 32 := 1#32
  let v601 : BitVec 32 := Scalar.subi arg18 c1_i32_259
  let c128_i32_260 : BitVec 32 := 128#32
  let v602 : BitVec 32 := Scalar.muli v601 c128_i32_260
  v602
def k0_mult12 (k0_t3 : Fin k0_t3_loop.trips) : BitVec 32 :=
  let c1664_i32_264 : BitVec 32 := 1664#32
  let c0_i32_263 : BitVec 32 := 0#32
  let c1_i32_114 : BitVec 32 := 1#32
  let c1_i32_115 : BitVec 32 := 1#32
  let arg18 : BitVec 32 := Scf.iv c1_i32_114 c1_i32_115 k0_t3
  let c1_i32_259 : BitVec 32 := 1#32
  let v601 : BitVec 32 := Scalar.subi arg18 c1_i32_259
  let c1_i32_261 : BitVec 32 := 1#32
  let v604 : BitVec 32 := Scalar.subi v601 c1_i32_261
  let c128_i32_262 : BitVec 32 := 128#32
  let v605 : BitVec 32 := Scalar.muli v604 c128_i32_262
  let v606 : BitVec 32 := Scalar.maxsi c0_i32_263 v605
  let v607 : BitVec 32 := Scalar.minsi c1664_i32_264 v606
  v607
def k0_off24 (k0_t3 : Fin k0_t3_loop.trips) : Fin 3 → Nat :=
  let c1_265 : Index := 1#32
  let c0_266 : Index := 0#32
  let c1664_i32_264 : BitVec 32 := 1664#32
  let c0_i32_263 : BitVec 32 := 0#32
  let c1_i32_114 : BitVec 32 := 1#32
  let c1_i32_115 : BitVec 32 := 1#32
  let arg18 : BitVec 32 := Scf.iv c1_i32_114 c1_i32_115 k0_t3
  let c1_i32_259 : BitVec 32 := 1#32
  let v601 : BitVec 32 := Scalar.subi arg18 c1_i32_259
  let c1_i32_261 : BitVec 32 := 1#32
  let v604 : BitVec 32 := Scalar.subi v601 c1_i32_261
  let c128_i32_262 : BitVec 32 := 128#32
  let v605 : BitVec 32 := Scalar.muli v604 c128_i32_262
  let v606 : BitVec 32 := Scalar.maxsi c0_i32_263 v605
  let v607 : BitVec 32 := Scalar.minsi c1664_i32_264 v606
  let v608 : BitVec 32 := v607
  let v609 : Index := Scalar.indexCast v608
  ![1, 0, v609.toNat]
def k0_off25 (k0_t3 : Fin k0_t3_loop.trips) : Fin 3 → Nat :=
  let c0_278 : Index := 0#32
  let c1_i32_114 : BitVec 32 := 1#32
  let c1_i32_115 : BitVec 32 := 1#32
  let arg18 : BitVec 32 := Scf.iv c1_i32_114 c1_i32_115 k0_t3
  let c1_i32_259 : BitVec 32 := 1#32
  let v601 : BitVec 32 := Scalar.subi arg18 c1_i32_259
  let c128_i32_260 : BitVec 32 := 128#32
  let v602 : BitVec 32 := Scalar.muli v601 c128_i32_260
  let v603 : BitVec 32 := v602
  let v632 : Index := Scalar.indexCast v603
  let c256_279 : Index := 256#32
  ![0, v632.toNat, 256]
def k0_mult13 (k0_t3 : Fin k0_t3_loop.trips) : BitVec 32 :=
  let c1_i32_114 : BitVec 32 := 1#32
  let c1_i32_115 : BitVec 32 := 1#32
  let arg18 : BitVec 32 := Scf.iv c1_i32_114 c1_i32_115 k0_t3
  let c128_i32_280 : BitVec 32 := 128#32
  let v636 : BitVec 32 := Scalar.muli arg18 c128_i32_280
  v636
def k0_mult14 (k0_t3 : Fin k0_t3_loop.trips) : BitVec 32 :=
  let c1664_i32_284 : BitVec 32 := 1664#32
  let c0_i32_283 : BitVec 32 := 0#32
  let c1_i32_114 : BitVec 32 := 1#32
  let c1_i32_115 : BitVec 32 := 1#32
  let arg18 : BitVec 32 := Scf.iv c1_i32_114 c1_i32_115 k0_t3
  let c1_i32_281 : BitVec 32 := 1#32
  let v638 : BitVec 32 := Scalar.subi arg18 c1_i32_281
  let c128_i32_282 : BitVec 32 := 128#32
  let v639 : BitVec 32 := Scalar.muli v638 c128_i32_282
  let v640 : BitVec 32 := Scalar.maxsi c0_i32_283 v639
  let v641 : BitVec 32 := Scalar.minsi c1664_i32_284 v640
  v641
def k0_off26 (k0_t3 : Fin k0_t3_loop.trips) : Fin 3 → Nat :=
  let c0_291 : Index := 0#32
  let c1_i32_114 : BitVec 32 := 1#32
  let c1_i32_115 : BitVec 32 := 1#32
  let arg18 : BitVec 32 := Scf.iv c1_i32_114 c1_i32_115 k0_t3
  let c128_i32_280 : BitVec 32 := 128#32
  let v636 : BitVec 32 := Scalar.muli arg18 c128_i32_280
  let v637 : BitVec 32 := v636
  let v648 : Index := Scalar.indexCast v637
  let c256_292 : Index := 256#32
  ![0, v648.toNat, 256]
def k0_off27 (k0_t3 : Fin k0_t3_loop.trips) : Fin 3 → Nat :=
  let c0_305 : Index := 0#32
  let c1_i32_114 : BitVec 32 := 1#32
  let c1_i32_115 : BitVec 32 := 1#32
  let arg18 : BitVec 32 := Scf.iv c1_i32_114 c1_i32_115 k0_t3
  let c128_i32_280 : BitVec 32 := 128#32
  let v636 : BitVec 32 := Scalar.muli arg18 c128_i32_280
  let v637 : BitVec 32 := v636
  let v685 : Index := Scalar.indexCast v637
  let c384_306 : Index := 384#32
  ![0, v685.toNat, 384]
def k0_off28 (k0_t3 : Fin k0_t3_loop.trips) : Fin 2 → Nat :=
  let c1664_i32_284 : BitVec 32 := 1664#32
  let c0_i32_283 : BitVec 32 := 0#32
  let c1_i32_114 : BitVec 32 := 1#32
  let c1_i32_115 : BitVec 32 := 1#32
  let arg18 : BitVec 32 := Scf.iv c1_i32_114 c1_i32_115 k0_t3
  let c1_i32_281 : BitVec 32 := 1#32
  let v638 : BitVec 32 := Scalar.subi arg18 c1_i32_281
  let c128_i32_282 : BitVec 32 := 128#32
  let v639 : BitVec 32 := Scalar.muli v638 c128_i32_282
  let v640 : BitVec 32 := Scalar.maxsi c0_i32_283 v639
  let v641 : BitVec 32 := Scalar.minsi c1664_i32_284 v640
  let v642 : BitVec 32 := v641
  let v729 : Index := Scalar.indexCast v642
  let c128_319 : Index := 128#32
  ![v729.toNat, 128]
def k0_mult15 : BitVec 32 :=
  let c1920_i32 : BitVec 32 := 1920#32
  c1920_i32
def k0_mult16 : BitVec 32 :=
  let c1664_i32_118 : BitVec 32 := 1664#32
  let c0_i32_117 : BitVec 32 := 0#32
  let c1792_i32 : BitVec 32 := 1792#32
  let v293 : BitVec 32 := Scalar.maxsi c0_i32_117 c1792_i32
  let v294 : BitVec 32 := Scalar.minsi c1664_i32_118 v293
  v294
def k0_off29 : Fin 3 → Nat :=
  let c0_119 : Index := 0#32
  let c0_120 : Index := 0#32
  let c1664_i32_118 : BitVec 32 := 1664#32
  let c0_i32_117 : BitVec 32 := 0#32
  let c1792_i32 : BitVec 32 := 1792#32
  let v293 : BitVec 32 := Scalar.maxsi c0_i32_117 c1792_i32
  let v294 : BitVec 32 := Scalar.minsi c1664_i32_118 v293
  let v295 : BitVec 32 := v294
  let v296 : Index := Scalar.indexCast v295
  ![0, 0, v296.toNat]
def k0_mult17 : BitVec 32 :=
  let c1920_i32_151 : BitVec 32 := 1920#32
  c1920_i32_151
def k0_mult18 : BitVec 32 :=
  let c1664_i32_154 : BitVec 32 := 1664#32
  let c0_i32_153 : BitVec 32 := 0#32
  let c1792_i32_152 : BitVec 32 := 1792#32
  let v375 : BitVec 32 := Scalar.maxsi c0_i32_153 c1792_i32_152
  let v376 : BitVec 32 := Scalar.minsi c1664_i32_154 v375
  v376
def k0_off30 : Fin 3 → Nat :=
  let c1 : Index := 1#32
  let c0_155 : Index := 0#32
  let c1664_i32_154 : BitVec 32 := 1664#32
  let c0_i32_153 : BitVec 32 := 0#32
  let c1792_i32_152 : BitVec 32 := 1792#32
  let v375 : BitVec 32 := Scalar.maxsi c0_i32_153 c1792_i32_152
  let v376 : BitVec 32 := Scalar.minsi c1664_i32_154 v375
  let v377 : BitVec 32 := v376
  let v378 : Index := Scalar.indexCast v377
  ![1, 0, v378.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2304x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2304x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x384x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e" => some (((Real.log 2)⁻¹ : ℝ) : EReal)
  | "neg" => some ⊥
  | "qscale" => some (((8 * (Real.log 2))⁻¹ : ℝ) : EReal)
  | _ => none
-- ==== ReferenceIdeal.lean ====
abbrev S8x2304x13888 : Shape := ⟨3, ![8, 2304, 13888]⟩
abbrev S16 : Shape := ⟨1, ![16]⟩
abbrev S8x2048x13888 : Shape := ⟨3, ![8, 2048, 13888]⟩
abbrev S8x256x13888 : Shape := ⟨3, ![8, 256, 13888]⟩
abbrev S8x2048x1024 : Shape := ⟨3, ![8, 2048, 1024]⟩
abbrev S8x2048x16x64 : Shape := ⟨4, ![8, 2048, 16, 64]⟩
abbrev S2048 : Shape := ⟨1, ![2048]⟩
abbrev S8x2048x16x32 : Shape := ⟨4, ![8, 2048, 16, 32]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S8x2048x16x16 : Shape := ⟨4, ![8, 2048, 16, 16]⟩
abbrev S1x2048x1x16 : Shape := ⟨4, ![1, 2048, 1, 16]⟩
abbrev S8x2048x4x4x64 : Shape := ⟨5, ![8, 2048, 4, 4, 64]⟩
abbrev S8x2048x256 : Shape := ⟨3, ![8, 2048, 256]⟩
abbrev S8x2048x4x64 : Shape := ⟨4, ![8, 2048, 4, 64]⟩
abbrev S8x2048x4x32 : Shape := ⟨4, ![8, 2048, 4, 32]⟩
abbrev S8x2048x4x16 : Shape := ⟨4, ![8, 2048, 4, 16]⟩
abbrev S8x256x256 : Shape := ⟨3, ![8, 256, 256]⟩
abbrev S8x256x4x64 : Shape := ⟨4, ![8, 256, 4, 64]⟩
abbrev S8x4x4x2048x2048 : Shape := ⟨5, ![8, 4, 4, 2048, 2048]⟩
abbrev S8x4x2048x2048x4 : Shape := ⟨5, ![8, 4, 2048, 2048, 4]⟩
abbrev S8x4x256x2048x4 : Shape := ⟨5, ![8, 4, 256, 2048, 4]⟩
abbrev S8x4x4x2048x256 : Shape := ⟨5, ![8, 4, 4, 2048, 256]⟩
abbrev S1x4x4x1x1 : Shape := ⟨5, ![1, 4, 4, 1, 1]⟩
abbrev S8x4x4x2048x1 : Shape := ⟨5, ![8, 4, 4, 2048, 1]⟩
abbrev S8x4x4x2048x2305 : Shape := ⟨5, ![8, 4, 4, 2048, 2305]⟩
abbrev S8x4x4x2048 : Shape := ⟨4, ![8, 4, 4, 2048]⟩
abbrev S8x4x64x4x2048 : Shape := ⟨5, ![8, 4, 64, 4, 2048]⟩

abbrev nBuf : Space → Nat
  | .hbm => 227
  | .vmem => 0
  | .smem => 0
  | _ => 0

abbrev hbmTy0_0 (i : Nat) : BufTy := match i % 128 with
  | 0 => ⟨S8x2304x13888, .bf16⟩
  | 1 => ⟨S16, .f32⟩
  | 2 => ⟨S8x2048x13888, .bf16⟩
  | 3 => ⟨S8x2048x13888, .f32⟩
  | 4 => ⟨S8x256x13888, .bf16⟩
  | 5 => ⟨S8x256x13888, .f32⟩
  | 6 => ⟨S8x2048x1024, .f32⟩
  | 7 => ⟨S8x2048x16x64, .f32⟩
  | 8 => ⟨S2048, .i32⟩
  | 9 => ⟨S8x2048x16x32, .f32⟩
  | 10 => ⟨S_, .i32⟩
  | 11 => ⟨S2048, .i32⟩
  | 12 => ⟨S2048, .i32⟩
  | 13 => ⟨S16, .i32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S2048, .f32⟩
  | 23 => ⟨S2048x1, .f32⟩
  | 24 => ⟨S1x16, .f32⟩
  | 25 => ⟨S2048x16, .f32⟩
  | 26 => ⟨S2048x16, .f32⟩
  | 27 => ⟨S2048x16, .f32⟩
  | 28 => ⟨S2048x16, .f32⟩
  | 29 => ⟨S2048x1x16, .f32⟩
  | 30 => ⟨S2048x16, .f32⟩
  | 31 => ⟨S2048x1x16, .f32⟩
  | 32 => ⟨S8x2048x16x16, .f32⟩
  | 33 => ⟨S8x2048x16x16, .f32⟩
  | 34 => ⟨S1x2048x1x16, .f32⟩
  | 35 => ⟨S8x2048x16x16, .f32⟩
  | 36 => ⟨S8x2048x16x16, .f32⟩
  | 37 => ⟨S1x2048x1x16, .f32⟩
  | 38 => ⟨S8x2048x16x16, .f32⟩
  | 39 => ⟨S8x2048x16x16, .f32⟩
  | 40 => ⟨S8x2048x16x16, .f32⟩
  | 41 => ⟨S1x2048x1x16, .f32⟩
  | 42 => ⟨S8x2048x16x16, .f32⟩
  | 43 => ⟨S8x2048x16x16, .f32⟩
  | 44 => ⟨S1x2048x1x16, .f32⟩
  | 45 => ⟨S8x2048x16x16, .f32⟩
  | 46 => ⟨S8x2048x16x16, .f32⟩
  | 47 => ⟨S8x2048x16x16, .f32⟩
  | 48 => ⟨S8x2048x16x32, .f32⟩
  | 49 => ⟨S8x2048x16x32, .f32⟩
  | 50 => ⟨S_, .i32⟩
  | 51 => ⟨S2048, .i32⟩
  | 52 => ⟨S2048, .i32⟩
  | 53 => ⟨S16, .i32⟩
  | 54 => ⟨S16, .f32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S2048, .f32⟩
  | 63 => ⟨S2048x1, .f32⟩
  | 64 => ⟨S1x16, .f32⟩
  | 65 => ⟨S2048x16, .f32⟩
  | 66 => ⟨S2048x16, .f32⟩
  | 67 => ⟨S2048x16, .f32⟩
  | 68 => ⟨S2048x16, .f32⟩
  | 69 => ⟨S2048x1x16, .f32⟩
  | 70 => ⟨S2048x16, .f32⟩
  | 71 => ⟨S2048x1x16, .f32⟩
  | 72 => ⟨S8x2048x16x16, .f32⟩
  | 73 => ⟨S8x2048x16x16, .f32⟩
  | 74 => ⟨S1x2048x1x16, .f32⟩
  | 75 => ⟨S8x2048x16x16, .f32⟩
  | 76 => ⟨S8x2048x16x16, .f32⟩
  | 77 => ⟨S1x2048x1x16, .f32⟩
  | 78 => ⟨S8x2048x16x16, .f32⟩
  | 79 => ⟨S8x2048x16x16, .f32⟩
  | 80 => ⟨S8x2048x16x16, .f32⟩
  | 81 => ⟨S1x2048x1x16, .f32⟩
  | 82 => ⟨S8x2048x16x16, .f32⟩
  | 83 => ⟨S8x2048x16x16, .f32⟩
  | 84 => ⟨S1x2048x1x16, .f32⟩
  | 85 => ⟨S8x2048x16x16, .f32⟩
  | 86 => ⟨S8x2048x16x16, .f32⟩
  | 87 => ⟨S8x2048x16x16, .f32⟩
  | 88 => ⟨S8x2048x16x32, .f32⟩
  | 89 => ⟨S8x2048x16x64, .f32⟩
  | 90 => ⟨S8x2048x4x4x64, .f32⟩
  | 91 => ⟨S8x2048x256, .f32⟩
  | 92 => ⟨S8x2048x4x64, .f32⟩
  | 93 => ⟨S2048, .i32⟩
  | 94 => ⟨S8x2048x4x32, .f32⟩
  | 95 => ⟨S_, .i32⟩
  | 96 => ⟨S2048, .i32⟩
  | 97 => ⟨S2048, .i32⟩
  | 98 => ⟨S16, .i32⟩
  | 99 => ⟨S16, .f32⟩
  | 100 => ⟨S16, .f32⟩
  | 101 => ⟨S_, .f32⟩
  | 102 => ⟨S16, .f32⟩
  | 103 => ⟨S16, .f32⟩
  | 104 => ⟨S_, .f32⟩
  | 105 => ⟨S16, .f32⟩
  | 106 => ⟨S16, .f32⟩
  | 107 => ⟨S2048, .f32⟩
  | 108 => ⟨S2048x1, .f32⟩
  | 109 => ⟨S1x16, .f32⟩
  | 110 => ⟨S2048x16, .f32⟩
  | 111 => ⟨S2048x16, .f32⟩
  | 112 => ⟨S2048x16, .f32⟩
  | 113 => ⟨S2048x16, .f32⟩
  | 114 => ⟨S2048x1x16, .f32⟩
  | 115 => ⟨S2048x16, .f32⟩
  | 116 => ⟨S2048x1x16, .f32⟩
  | 117 => ⟨S8x2048x4x16, .f32⟩
  | 118 => ⟨S8x2048x4x16, .f32⟩
  | 119 => ⟨S1x2048x1x16, .f32⟩
  | 120 => ⟨S8x2048x4x16, .f32⟩
  | 121 => ⟨S8x2048x4x16, .f32⟩
  | 122 => ⟨S1x2048x1x16, .f32⟩
  | 123 => ⟨S8x2048x4x16, .f32⟩
  | 124 => ⟨S8x2048x4x16, .f32⟩
  | 125 => ⟨S8x2048x4x16, .f32⟩
  | 126 => ⟨S1x2048x1x16, .f32⟩
  | 127 => ⟨S8x2048x4x16, .f32⟩
  | _ => ⟨S8x2304x13888, .bf16⟩

abbrev hbmTy0_1 (i : Nat) : BufTy := match i % 128 with
  | 0 => ⟨S8x2048x4x16, .f32⟩
  | 1 => ⟨S1x2048x1x16, .f32⟩
  | 2 => ⟨S8x2048x4x16, .f32⟩
  | 3 => ⟨S8x2048x4x16, .f32⟩
  | 4 => ⟨S8x2048x4x16, .f32⟩
  | 5 => ⟨S8x2048x4x32, .f32⟩
  | 6 => ⟨S8x2048x4x32, .f32⟩
  | 7 => ⟨S_, .i32⟩
  | 8 => ⟨S2048, .i32⟩
  | 9 => ⟨S2048, .i32⟩
  | 10 => ⟨S16, .i32⟩
  | 11 => ⟨S16, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S2048, .f32⟩
  | 20 => ⟨S2048x1, .f32⟩
  | 21 => ⟨S1x16, .f32⟩
  | 22 => ⟨S2048x16, .f32⟩
  | 23 => ⟨S2048x16, .f32⟩
  | 24 => ⟨S2048x16, .f32⟩
  | 25 => ⟨S2048x16, .f32⟩
  | 26 => ⟨S2048x1x16, .f32⟩
  | 27 => ⟨S2048x16, .f32⟩
  | 28 => ⟨S2048x1x16, .f32⟩
  | 29 => ⟨S8x2048x4x16, .f32⟩
  | 30 => ⟨S8x2048x4x16, .f32⟩
  | 31 => ⟨S1x2048x1x16, .f32⟩
  | 32 => ⟨S8x2048x4x16, .f32⟩
  | 33 => ⟨S8x2048x4x16, .f32⟩
  | 34 => ⟨S1x2048x1x16, .f32⟩
  | 35 => ⟨S8x2048x4x16, .f32⟩
  | 36 => ⟨S8x2048x4x16, .f32⟩
  | 37 => ⟨S8x2048x4x16, .f32⟩
  | 38 => ⟨S1x2048x1x16, .f32⟩
  | 39 => ⟨S8x2048x4x16, .f32⟩
  | 40 => ⟨S8x2048x4x16, .f32⟩
  | 41 => ⟨S1x2048x1x16, .f32⟩
  | 42 => ⟨S8x2048x4x16, .f32⟩
  | 43 => ⟨S8x2048x4x16, .f32⟩
  | 44 => ⟨S8x2048x4x16, .f32⟩
  | 45 => ⟨S8x2048x4x32, .f32⟩
  | 46 => ⟨S8x2048x4x64, .f32⟩
  | 47 => ⟨S8x2048x256, .f32⟩
  | 48 => ⟨S8x2048x4x64, .f32⟩
  | 49 => ⟨S8x256x256, .f32⟩
  | 50 => ⟨S8x256x4x64, .f32⟩
  | 51 => ⟨S8x256x256, .f32⟩
  | 52 => ⟨S8x256x4x64, .f32⟩
  | 53 => ⟨S8x4x4x2048x2048, .i32⟩
  | 54 => ⟨S8x4x4x2048x2048, .i32⟩
  | 55 => ⟨S8x4x2048x2048x4, .f32⟩
  | 56 => ⟨S8x4x4x2048x2048, .f32⟩
  | 57 => ⟨S_, .f32⟩
  | 58 => ⟨S8x4x4x2048x2048, .f32⟩
  | 59 => ⟨S8x4x4x2048x2048, .f32⟩
  | 60 => ⟨S8x4x4x2048x2048, .i32⟩
  | 61 => ⟨S8x4x4x2048x2048, .i32⟩
  | 62 => ⟨S_, .i32⟩
  | 63 => ⟨S8x4x4x2048x2048, .i32⟩
  | 64 => ⟨S8x4x4x2048x2048, .i1⟩
  | 65 => ⟨S_, .f32⟩
  | 66 => ⟨S8x4x4x2048x2048, .f32⟩
  | 67 => ⟨S8x4x4x2048x2048, .f32⟩
  | 68 => ⟨S8x4x256x2048x4, .f32⟩
  | 69 => ⟨S8x4x4x2048x256, .f32⟩
  | 70 => ⟨S_, .f32⟩
  | 71 => ⟨S8x4x4x2048x256, .f32⟩
  | 72 => ⟨S8x4x4x2048x256, .f32⟩
  | 73 => ⟨S1x4x4x1x1, .f32⟩
  | 74 => ⟨S8x4x4x2048x1, .f32⟩
  | 75 => ⟨S8x4x4x2048x2305, .f32⟩
  | 76 => ⟨S_, .f32⟩
  | 77 => ⟨S8x4x4x2048, .f32⟩
  | 78 => ⟨S_, .f32⟩
  | 79 => ⟨S8x4x4x2048, .f32⟩
  | 80 => ⟨S8x4x4x2048, .f32⟩
  | 81 => ⟨S8x4x4x2048x1, .f32⟩
  | 82 => ⟨S8x4x4x2048x2305, .f32⟩
  | 83 => ⟨S8x4x4x2048x2305, .f32⟩
  | 84 => ⟨S8x4x4x2048x2305, .f32⟩
  | 85 => ⟨S_, .f32⟩
  | 86 => ⟨S8x4x4x2048, .f32⟩
  | 87 => ⟨S8x4x4x2048x1, .f32⟩
  | 88 => ⟨S8x4x4x2048x2305, .f32⟩
  | 89 => ⟨S8x4x4x2048x2305, .f32⟩
  | 90 => ⟨S8x4x4x2048x2048, .f32⟩
  | 91 => ⟨S8x4x64x4x2048, .f32⟩
  | 92 => ⟨S8x2048x4x4x64, .f32⟩
  | 93 => ⟨S8x4x4x2048x256, .f32⟩
  | 94 => ⟨S8x4x64x4x2048, .f32⟩
  | 95 => ⟨S8x2048x4x4x64, .f32⟩
  | 96 => ⟨S8x2048x4x4x64, .f32⟩
  | 97 => ⟨S8x2048x1024, .f32⟩
  | 98 => ⟨S8x2048x1024, .bf16⟩
  | _ => ⟨S8x2304x13888, .bf16⟩

abbrev hbmTy (i : Nat) : BufTy := match i / 128 with
  | 0 => hbmTy0_0 i
  | 1 => hbmTy0_1 i
  | _ => ⟨S8x2304x13888, .bf16⟩

abbrev bufTy : (tb : Table) → Fin (tcTables nBuf tb) → BufTy
  | .hbm, ⟨i, _⟩ => hbmTy i
  | _, _ => ⟨S8x2304x13888, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_c_1 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_cst_2 : Ref sig .tc := ⟨.hbm, 56, rfl⟩
abbrev main_v50 : Ref sig .tc := ⟨.hbm, 57, rfl⟩
abbrev main_v51 : Ref sig .tc := ⟨.hbm, 58, rfl⟩
abbrev main_cst_3 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_c_4 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_cst_5 : Ref sig .tc := ⟨.hbm, 101, rfl⟩
abbrev main_v92 : Ref sig .tc := ⟨.hbm, 102, rfl⟩
abbrev main_v93 : Ref sig .tc := ⟨.hbm, 103, rfl⟩
abbrev main_cst_6 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_c_7 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_cst_8 : Ref sig .tc := ⟨.hbm, 141, rfl⟩
abbrev main_v129 : Ref sig .tc := ⟨.hbm, 142, rfl⟩
abbrev main_v130 : Ref sig .tc := ⟨.hbm, 143, rfl⟩
abbrev main_cst_9 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_cst_10 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_c_11 : Ref sig .tc := ⟨.hbm, 190, rfl⟩
abbrev main_v175 : Ref sig .tc := ⟨.hbm, 191, rfl⟩
abbrev main_v176 : Ref sig .tc := ⟨.hbm, 192, rfl⟩
abbrev main_cst_12 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_cst_13 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_cst_14 : Ref sig .tc := ⟨.hbm, 204, rfl⟩
abbrev main_v186 : Ref sig .tc := ⟨.hbm, 205, rfl⟩
abbrev main_cst_15 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_cst_16 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩

abbrev nD : Nat := 1
abbrev τ : Topo := Topo.v7x

variable {F : FTy → Type} [FloatOps F]
-- ==== Kernel2.lean ====
abbrev S8x2304x1024 : Shape := ⟨3, ![8, 2304, 1024]⟩
abbrev S1024x14336 : Shape := ⟨2, ![1024, 14336]⟩
abbrev S8x2304x14336 : Shape := ⟨3, ![8, 2304, 14336]⟩
abbrev S1x2304x1024 : Shape := ⟨3, ![1, 2304, 1024]⟩
abbrev S1024x1024 : Shape := ⟨2, ![1024, 1024]⟩
abbrev S2304x1024 : Shape := ⟨2, ![2304, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8x2304x1024, .bf16⟩
  | .hbm, ⟨1, _⟩ => ⟨S1024x14336, .f32⟩
  | .hbm, ⟨2, _⟩ => ⟨S1024x14336, .bf16⟩
  | .hbm, ⟨3, _⟩ => ⟨S8x2304x14336, .bf16⟩
  | .local _ .vmem, ⟨0, _⟩ => ⟨S1x2304x1024, .bf16⟩
  | .local _ .vmem, ⟨1, _⟩ => ⟨S1x2304x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x2304x1024, .bf16⟩
  | .local _ .vmem, ⟨5, _⟩ => ⟨S1x2304x1024, .bf16⟩
  | _, _ => ⟨S8x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![14, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2304x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8x2304x1024 : Shape := ⟨3, ![8, 2304, 1024]⟩
abbrev S1024x14336 : Shape := ⟨2, ![1024, 14336]⟩
abbrev S8x2304x14336 : Shape := ⟨3, ![8, 2304, 14336]⟩

abbrev nBuf : Space → Nat
  | .hbm => 5
  | .vmem => 0
  | .smem => 0
  | _ => 0

abbrev bufTy : (tb : Table) → Fin (tcTables nBuf tb) → BufTy
  | .hbm, ⟨0, _⟩ => ⟨S8x2304x1024, .bf16⟩
  | .hbm, ⟨1, _⟩ => ⟨S1024x14336, .f32⟩
  | .hbm, ⟨2, _⟩ => ⟨S8x2304x1024, .f32⟩
  | .hbm, ⟨3, _⟩ => ⟨S8x2304x14336, .f32⟩
  | .hbm, ⟨4, _⟩ => ⟨S8x2304x14336, .bf16⟩
  | _, _ => ⟨S8x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024 : Shape := ⟨1, ![1024]⟩
abbrev S8x2x6x1x1024 : Shape := ⟨5, ![8, 2, 6, 1, 1024]⟩
abbrev S1024x4096 : Shape := ⟨2, ![1024, 4096]⟩
abbrev S4096x1024 : Shape := ⟨2, ![4096, 1024]⟩
abbrev S1x1024 : Shape := ⟨2, ![1, 1024]⟩
abbrev S1x512x1024 : Shape := ⟨3, ![1, 512, 1024]⟩
abbrev S1x1x1x1x1024 : Shape := ⟨5, ![1, 1, 1, 1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 11
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x2x6x1x1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1x1x1x1024, .f32⟩
  | .local _ .vmem, ⟨9, _⟩ => ⟨S1x1x1x1x1024, .f32⟩
  | .local _ .vmem, ⟨10, _⟩ => ⟨S1x1x1x1x1024, .f32⟩
  | .local _ .vmem, ⟨11, _⟩ => ⟨S1x1x1x1x1024, .f32⟩
  | .local _ .vmem, ⟨12, _⟩ => ⟨S1x1x1x1x1024, .f32⟩
  | .local _ .vmem, ⟨13, _⟩ => ⟨S1x1x1x1x1024, .f32⟩
  | .local _ .vmem, ⟨14, _⟩ => ⟨S1x1x1x1x1024, .f32⟩
  | .local _ .vmem, ⟨15, _⟩ => ⟨S1024x4096, .bf16⟩
  | .local _ .vmem, ⟨16, _⟩ => ⟨S4096x1024, .bf16⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  let c0_i32_1 : BitVec 32 := 0#32
  let c0_i32_2 : BitVec 32 := 0#32
  ![arg0.toNat, c0_i32.toNat, c3_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c1_i32 : BitVec 32 := 1#32
  let c3_i32 : BitVec 32 := 3#32
  let c0_i32 : BitVec 32 := 0#32
  let c0_i32_0 : BitVec 32 := 0#32
  let c0_i32_1 : BitVec 32 := 0#32
  ![arg0.toNat, c1_i32.toNat, c3_i32.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  let c0_i32_1 : BitVec 32 := 0#32
  let c0_i32_2 : BitVec 32 := 0#32
  ![arg0.toNat, c0_i32.toNat, c4_i32.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c1_i32 : BitVec 32 := 1#32
  let c4_i32 : BitVec 32 := 4#32
  let c0_i32 : BitVec 32 := 0#32
  let c0_i32_0 : BitVec 32 := 0#32
  let c0_i32_1 : BitVec 32 := 0#32
  ![arg0.toNat, c1_i32.toNat, c4_i32.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  let c0_i32_1 : BitVec 32 := 0#32
  let c0_i32_2 : BitVec 32 := 0#32
  ![arg0.toNat, c0_i32.toNat, c5_i32.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c1_i32 : BitVec 32 := 1#32
  let c5_i32 : BitVec 32 := 5#32
  let c0_i32 : BitVec 32 := 0#32
  let c0_i32_0 : BitVec 32 := 0#32
  let c0_i32_1 : BitVec 32 := 0#32
  ![arg0.toNat, c1_i32.toNat, c5_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S8x2048x1024 : Shape := ⟨3, ![8, 2048, 1024]⟩
abbrev S1024 : Shape := ⟨1, ![1024]⟩
abbrev S8x2x6x1x1024 : Shape := ⟨5, ![8, 2, 6, 1, 1024]⟩
abbrev S1024x4096 : Shape := ⟨2, ![1024, 4096]⟩
abbrev S4096x1024 : Shape := ⟨2, ![4096, 1024]⟩
abbrev S8x1x6x1x1024 : Shape := ⟨5, ![8, 1, 6, 1, 1024]⟩
abbrev S8x6x1x1024 : Shape := ⟨4, ![8, 6, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1x1024 : Shape := ⟨4, ![8, 1, 1, 1024]⟩
abbrev S8x1x1024 : Shape := ⟨3, ![8, 1, 1024]⟩
abbrev S8x2048x4096 : Shape := ⟨3, ![8, 2048, 4096]⟩

abbrev nBuf : Space → Nat
  | .hbm => 62
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x2x6x1x1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S8x1x6x1x1024, .f32⟩
  | .hbm, ⟨7, _⟩ => ⟨S8x6x1x1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S8x1x1x1024, .f32⟩
  | .hbm, ⟨25, _⟩ => ⟨S8x1x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x2048x1024, .f32⟩
  | .hbm, ⟨30, _⟩ => ⟨S8x2048x1024, .f32⟩
  | .hbm, ⟨31, _⟩ => ⟨S8x1x1x1024, .f32⟩
  | .hbm, ⟨32, _⟩ => ⟨S8x1x1024, .f32⟩
  | .hbm, ⟨33, _⟩ => ⟨S8x2048x1024, .f32⟩
  | .hbm, ⟨34, _⟩ => ⟨S8x2048x1024, .f32⟩
  | .hbm, ⟨35, _⟩ => ⟨S8x1x1x1024, .f32⟩
  | .hbm, ⟨36, _⟩ => ⟨S8x1x1024, .f32⟩
  | .hbm, ⟨37, _⟩ => ⟨S8x2048x4096, .f32⟩
  | .hbm, ⟨38, _⟩ => ⟨S_, .f32⟩
  | .hbm, ⟨39, _⟩ => ⟨S8x2048x4096, .f32⟩
  | .hbm, ⟨40, _⟩ => ⟨S8x2048x4096, .f32⟩
  | .hbm, ⟨41, _⟩ => ⟨S8x2048x4096, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S1x1x1024, .f32⟩
  | .hbm, ⟨60, _⟩ => ⟨S8x2048x1024, .f32⟩
  | .hbm, ⟨61, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Kernel4.lean ====
abbrev S8x2304x1024 : Shape := ⟨3, ![8, 2304, 1024]⟩
abbrev S8x2048x2048 : Shape := ⟨3, ![8, 2048, 2048]⟩
abbrev S8x2048x1024 : Shape := ⟨3, ![8, 2048, 1024]⟩
abbrev S8x2304x13888 : Shape := ⟨3, ![8, 2304, 13888]⟩
abbrev S8x2x6x1x1024 : Shape := ⟨5, ![8, 2, 6, 1, 1024]⟩
abbrev S2048x1024 : Shape := ⟨2, ![2048, 1024]⟩
abbrev S1024x1024 : Shape := ⟨2, ![1024, 1024]⟩
abbrev S8x2304x4096 : Shape := ⟨3, ![8, 2304, 4096]⟩
abbrev S8x2304x256 : Shape := ⟨3, ![8, 2304, 256]⟩
abbrev S8x2304x4x1x64 : Shape := ⟨5, ![8, 2304, 4, 1, 64]⟩
abbrev S8x2304x4x2x64 : Shape := ⟨5, ![8, 2304, 4, 2, 64]⟩
abbrev S8x2304x512 : Shape := ⟨3, ![8, 2304, 512]⟩
abbrev S8x2304x2048 : Shape := ⟨3, ![8, 2304, 2048]⟩
abbrev S8x2304x3072 : Shape := ⟨3, ![8, 2304, 3072]⟩
abbrev S8x2304x14336 : Shape := ⟨3, ![8, 2304, 14336]⟩
abbrev S1x512x1024 : Shape := ⟨3, ![1, 512, 1024]⟩
abbrev S1x512x2048 : Shape := ⟨3, ![1, 512, 2048]⟩
abbrev S1x1x1x1x1024 : Shape := ⟨5, ![1, 1, 1, 1, 1024]⟩
abbrev S512x1024 : Shape := ⟨2, ![512, 1024]⟩
abbrev S512x2048 : Shape := ⟨2, ![512, 2048]⟩
abbrev S512x1 : Shape := ⟨2, ![512, 1]⟩
abbrev S1x1024 : Shape := ⟨2, ![1, 1024]⟩

abbrev nBuf : Space → Nat
  | .hbm => 31
  | .vmem => 24
  | .smem => 0
  | _ => 0

abbrev bufTy : (tb : Table) → Fin (tcTables nBuf tb) → BufTy
  | .hbm, ⟨0, _⟩ => ⟨S8x2304x1024, .f32⟩
  | .hbm, ⟨1, _⟩ => ⟨S8x2048x2048, .bf16⟩
  | .hbm, ⟨2, _⟩ => ⟨S8x2048x1024, .bf16⟩
  | .hbm, ⟨3, _⟩ => ⟨S8x2048x1024, .bf16⟩
  | .hbm, ⟨4, _⟩ => ⟨S8x2304x13888, .bf16⟩
  | .hbm, ⟨5, _⟩ => ⟨S8x2x6x1x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S8x2304x4096, .bf16⟩
  | .hbm, ⟨11, _⟩ => ⟨S8x2304x1024, .bf16⟩
  | .hbm, ⟨12, _⟩ => ⟨S8x2304x1024, .bf16⟩
  | .hbm, ⟨13, _⟩ => ⟨S8x2304x256, .bf16⟩
  | .hbm, ⟨14, _⟩ => ⟨S8x2304x4x1x64, .bf16⟩
  | .hbm, ⟨15, _⟩ => ⟨S8x2304x4x2x64, .bf16⟩
  | .hbm, ⟨16, _⟩ => ⟨S8x2304x512, .bf16⟩
  | .hbm, ⟨17, _⟩ => ⟨S8x2304x256, .bf16⟩
  | .hbm, ⟨18, _⟩ => ⟨S8x2304x4x1x64, .bf16⟩
  | .hbm, ⟨19, _⟩ => ⟨S8x2304x4x2x64, .bf16⟩
  | .hbm, ⟨20, _⟩ => ⟨S8x2304x512, .bf16⟩
  | .hbm, ⟨21, _⟩ => ⟨S8x2304x2048, .bf16⟩
  | .hbm, ⟨22, _⟩ => ⟨S8x2304x1024, .bf16⟩
  | .hbm, ⟨23, _⟩ => ⟨S8x2304x1024, .bf16⟩
  | .hbm, ⟨24, _⟩ => ⟨S8x2304x3072, .bf16⟩
  | .hbm, ⟨25, _⟩ => ⟨S8x2304x14336, .bf16⟩
  | .hbm, ⟨26, _⟩ => ⟨S2048x1024, .bf16⟩
  | .hbm, ⟨27, _⟩ => ⟨S1024x1024, .bf16⟩
  | .hbm, ⟨28, _⟩ => ⟨S1024x1024, .bf16⟩
  | .hbm, ⟨29, _⟩ => ⟨S1024x1024, .bf16⟩
  | .hbm, ⟨30, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x2048, .bf16⟩
  | .local _ .vmem, ⟨3, _⟩ => ⟨S1x512x2048, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x1x1x1x1024, .f32⟩
  | .local _ .vmem, ⟨15, _⟩ => ⟨S1x1x1x1x1024, .f32⟩
  | .local _ .vmem, ⟨16, _⟩ => ⟨S1x1x1x1x1024, .f32⟩
  | .local _ .vmem, ⟨17, _⟩ => ⟨S1x1x1x1x1024, .f32⟩
  | .local _ .vmem, ⟨18, _⟩ => ⟨S2048x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1x512x1024, .f32⟩
  | .local _ .vmem, ⟨23, _⟩ => ⟨S1x512x1024, .f32⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_5 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_6 (i : grid0.Coords) : Fin 3 → Nat :=
  let arg0 : BitVec 32 := BitVec.ofNat 32 (i 0).val
  let arg1 : BitVec 32 := BitVec.ofNat 32 (i 1).val
  let c13_i32 : BitVec 32 := 13#32
  let c0_i32 : BitVec 32 := 0#32
  ![arg0.toNat, arg1.toNat, c13_i32.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  let c0_i32_2 : BitVec 32 := 0#32
  ![arg0.toNat, c0_i32.toNat, c2_i32.toNat, c0_i32_0.toNat, c0_i32_1.toNat]

def cc0_transform_8 (i : grid0.Coords) : Fin 5 → Nat :=
  let arg0 : BitVec 32 := BitVec.ofNat 32 (i 0).val
  let arg1 : BitVec 32 := BitVec.ofNat 32 (i 1).val
  let c1_i32 : BitVec 32 := 1#32
  let c2_i32 : BitVec 32 := 2#32
  let c0_i32 : BitVec 32 := 0#32
  let c0_i32_0 : BitVec 32 := 0#32
  let c0_i32_1 : BitVec 32 := 0#32
  ![arg0.toNat, c1_i32.toNat, c2_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference4Ideal.lean ====
abbrev S8x2304x1024 : Shape := ⟨3, ![8, 2304, 1024]⟩
abbrev S8x2048x2048 : Shape := ⟨3, ![8, 2048, 2048]⟩
abbrev S8x2048x1024 : Shape := ⟨3, ![8, 2048, 1024]⟩
abbrev S8x2304x13888 : Shape := ⟨3, ![8, 2304, 13888]⟩
abbrev S8x2x6x1x1024 : Shape := ⟨5, ![8, 2, 6, 1, 1024]⟩
abbrev S2048x1024 : Shape := ⟨2, ![2048, 1024]⟩
abbrev S1024x1024 : Shape := ⟨2, ![1024, 1024]⟩
abbrev S8x2048x3072 : Shape := ⟨3, ![8, 2048, 3072]⟩
abbrev S_ : Shape := ⟨0, ![]⟩
abbrev S8x1x1x1x1024 : Shape := ⟨5, ![8, 1, 1, 1, 1024]⟩
abbrev S8x1x1024 : Shape := ⟨3, ![8, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x2304x1024, .f32⟩
  | .hbm, ⟨1, _⟩ => ⟨S8x2048x2048, .bf16⟩
  | .hbm, ⟨2, _⟩ => ⟨S8x2048x1024, .bf16⟩
  | .hbm, ⟨3, _⟩ => ⟨S8x2048x1024, .bf16⟩
  | .hbm, ⟨4, _⟩ => ⟨S8x2304x13888, .bf16⟩
  | .hbm, ⟨5, _⟩ => ⟨S8x2x6x1x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S8x2048x3072, .bf16⟩
  | .hbm, ⟨11, _⟩ => ⟨S8x2048x3072, .f32⟩
  | .hbm, ⟨12, _⟩ => ⟨S8x2048x3072, .f32⟩
  | .hbm, ⟨13, _⟩ => ⟨S8x2048x3072, .f32⟩
  | .hbm, ⟨14, _⟩ => ⟨S_, .f32⟩
  | .hbm, ⟨15, _⟩ => ⟨S8x2048x3072, .f32⟩
  | .hbm, ⟨16, _⟩ => ⟨S8x2048x3072, .f32⟩
  | .hbm, ⟨17, _⟩ => ⟨S_, .f32⟩
  | .hbm, ⟨18, _⟩ => ⟨S8x2048x3072, .f32⟩
  | .hbm, ⟨19, _⟩ => ⟨S8x2048x3072, .f32⟩
  | .hbm, ⟨20, _⟩ => ⟨S8x2048x1024, .f32⟩
  | .hbm, ⟨21, _⟩ => ⟨S8x2048x2048, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x1x1x1x1024, .f32⟩
  | .hbm, ⟨36, _⟩ => ⟨S8x1x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Proof.InProj.lean ====
/- Hand-written: the input projection's result array is the reference's matrix product. -/
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import Idealize.ShloMosaic.Lib.StableHlo.Run
public import Idealize.ShloMosaic.Lib.Claim
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem
open Idealize.ShloMosaic.Pipeline (Dat)
open scoped BigOperators

namespace Cert.Proof.InProj

open Cert.Kernel2Ideal Cert.Kernel2Ideal.Gen

variable (m : (ℓ : Loc nD τ sig) → Buf (Elt Ideal) ℓ)

/-- The reference's result over its two arguments: the matrix product. -/
abbrev prod (h : FVec Ideal Cert.Reference2Ideal.S8x2304x1024 .bf16) (w : FVec Ideal Cert.Reference2Ideal.S1024x14336 .f32) :
    FVec Ideal Cert.Reference2Ideal.S8x2304x14336 .bf16 :=
  truncf .bf16 (Host.dotGeneral
    Cert.Reference2Ideal.dot_S8x2304x1024_S1024x14336_S8x2304x14336_2_0_01_1_n_n none
    (extf .f32 h Cert.Reference2Ideal.Gen.bitsLt_bf16_f32 : FVec Ideal Cert.Reference2Ideal.S8x2304x1024 .f32) w :
      FVec Ideal Cert.Reference2Ideal.S8x2304x14336 .f32) Cert.Reference2Ideal.Gen.bitsLt_bf16_f32

/-- Where each window's block lies at each grid point. -/
theorem blocks : ∀ t : Fin cfg0.N, win0_0.index t = ![t.val % 8, 0, 0]
    ∧ win0_1.index t = ![0, t.val / 8]
    ∧ win0_2.index t = ![t.val % 8, 0, t.val / 8] :=
  (by decide +kernel : ∀ t : Fin grid0.N, _)

/-- What the body stores at a block index is the product at the array index it sits at. -/
theorem stored (c : Dev nD) (t : Fin cfg0.N) (y) :
    k0_pay1 (iblk m c 0 t) (iblk m c 1 t) y
      = prod (m ((c : Thread nD τ).loc main_arg0)) (m ((c : Thread nD τ).loc main_arg1))
          (((cfg0.win 2).blk t).view.emb y) := by
  pointwise [k0_pay1, prod]
  blk_point [iblk, V, blocks t]

/-- The result array after the run is the product. -/
theorem result (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  exact stored m c t y

end Cert.Proof.InProj

end
-- ==== Proof.InProjClaims.lean ====
/- Hand-written: the claims about the input projection. -/
module

public import proofs.«01_k».proof.Defs
public import proofs.«01_k».proof.Proof.Gen.Kernel2
public import proofs.«01_k».proof.Proof.Gen.Kernel2.Frame
public import proofs.«01_k».proof.Proof.InProj
public import Idealize.ShloMosaic.Adequacy
public import Idealize.ShloMosaic.Init

@[expose] public section

set_option maxRecDepth 16384
set_option maxHeartbeats 1600000

noncomputable section

open Idealize.ShloMosaic Idealize.SL.Sem

namespace Cert.Proof.InProj

/-- The kernel runs and leaves its arguments unchanged. -/
theorem frame_p : Cert.quiescent_Kernel2 (hKernel2 := Cert.Kernel2.Gen.facts) :=
  fun m ρ _ => Cert.Kernel2.Gen.frame m ρ

/-- The same for the idealised kernel. -/
theorem frame_pi : Cert.quiescent_Kernel2Ideal (hKernel2Ideal := Cert.Kernel2Ideal.Gen.facts) :=
  fun m ρ _ => Cert.Kernel2Ideal.Gen.frame m ρ

/-- The same for the reference. -/
theorem frame_ri : Cert.quiescent_Reference2Ideal (hReference2Ideal := Cert.Reference2Ideal.Gen.facts) := by
  intro m g _
  hlo_run
  · exact fun c => ⟨trivial, trivial⟩
  · exact sem_eq_zero_of_no_sems (by decide) r.2

/-- The kernel's result is the reference's. -/
theorem algebraic : Cert.algebraic_Kernel2Ideal_Reference2Ideal (hKernel2Ideal := Cert.Kernel2Ideal.Gen.facts)
    (hReference2Ideal := Cert.Reference2Ideal.Gen.facts) := by
  pair_intro
  · run_from Cert.Kernel2Ideal.Gen.run_main m g
  · hlo_run
    exact (result m c).symm

end Cert.Proof.InProj

end
-- ==== Proof.Ffn.lean ====
/- Hand-written: the feed-forward call's result array is the reference's. -/
module

public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import Idealize.ShloMosaic.Lib.StableHlo.Run
public import Idealize.ShloMosaic.Lib.Claim
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem
open Idealize.ShloMosaic.Pipeline (Dat)
open scoped BigOperators

namespace Cert.Proof.Ffn

/-- A row divided by its root mean square. -/
def norm (x : Fin 1024 → EReal) (d : Fin 1024) : EReal :=
  x d * Ideal.rsqrt (Ideal.div (∑ l, x l * x l) (Ideal.ofBits .f32 0x44800000#32) + Ideal.ofBits .f32 0x358637BD#32)

/-- One output of the two-layer network with the squared rectifier. -/
def mlp (h : Fin 1024 → EReal) (w1 : Fin 1024 → Fin 4096 → EReal) (w2 : Fin 4096 → Fin 1024 → EReal) (d : Fin 1024) : EReal :=
  ∑ k, max (∑ l, h l * w1 l k) 0 * max (∑ l, h l * w1 l k) 0 * w2 k d

section Reference
open Cert.Reference3Ideal Cert.Reference3Ideal.Gen

/-- The reference's row scaled by its root mean square and by a gain. -/
def nrm (x : FVec Ideal S8x2048x1024 .f32) (g : FVec Ideal S1024 .f32) : FVec Ideal S8x2048x1024 .f32 :=
  mulf (mulf x (broadcastInDim S8x2048x1024 ![0, 1, 2] bcast_S8x2048x1_S8x2048x1024_0_1_2
    (Host.rsqrt (addf (Host.divf
      (broadcastInDim S8x2048x1 ![0, 1] bcast_S8x2048_S8x2048x1_0_1
        (Host.reduceAdd (mulf x x) (constant S_ .f32 0x00000000#32 : FVec Ideal S_ .f32) reducesTo_S8x2048x1024_S8x2048_d2 h_S_))
      (broadcastInDim S8x2048x1 ![] bcast_S_S8x2048x1 (constant S_ .f32 0x44800000#32 : FVec Ideal S_ .f32)))
      (broadcastInDim S8x2048x1 ![] bcast_S_S8x2048x1 (constant S_ .f32 0x358637BD#32 : FVec Ideal S_ .f32))))))
    (broadcastInDim S8x2048x1024 ![0, 1, 2] bcast_S1x1x1024_S8x2048x1024_0_1_2 (broadcastInDim S1x1x1024 ![2] bcast_S1024_S1x1x1024_2 g))

/-- One of the image rows' modulations, spread over the rows. -/
abbrev mods (ms : FVec Ideal S8x2x6x1x1024 .f32) : FVec Ideal S8x6x1x1024 .f32 :=
  shapeCast _ (extractStridedSlice S8x1x6x1x1024 ![0, 0, 0, 0, 0] ms slices_S8x2x6x1x1024_S8x1x6x1x1024_0_0_0_0_0) shapeCasts_S8x1x6x1x1024_S8x6x1x1024

/-- The reference's input of the network. -/
def hidR (x : FVec Ideal S8x2048x1024 .f32) (g : FVec Ideal S1024 .f32) (ms : FVec Ideal S8x2x6x1x1024 .f32) : FVec Ideal S8x2048x1024 .f32 :=
  addf (mulf (nrm x g) (broadcastInDim S8x2048x1024 ![0, 1, 2] bcast_S8x1x1024_S8x2048x1024_0_1_2
      (addf (broadcastInDim S8x1x1024 ![] bcast_S_S8x1x1024 (constant S_ .f32 0x3F800000#32 : FVec Ideal S_ .f32))
        (shapeCast _ (extractStridedSlice S8x1x1x1024 ![0, 4, 0, 0] (mods ms) slices_S8x6x1x1024_S8x1x1x1024_0_4_0_0) shapeCasts_S8x1x1x1024_S8x1x1024))))
    (broadcastInDim S8x2048x1024 ![0, 1, 2] bcast_S8x1x1024_S8x2048x1024_0_1_2
      (shapeCast _ (extractStridedSlice S8x1x1x1024 ![0, 3, 0, 0] (mods ms) slices_S8x6x1x1024_S8x1x1x1024_0_3_0_0) shapeCasts_S8x1x1x1024_S8x1x1024))

/-- The reference's squared rectifier of the first product. -/
def actR (h : FVec Ideal S8x2048x1024 .f32) (w1 : FVec Ideal S1024x4096 .f32) : FVec Ideal S8x2048x4096 .f32 :=
  mulf (maximumf (Host.dotGeneral dot_S8x2048x1024_S1024x4096_S8x2048x4096_2_0_01_1_n_n none h w1 : FVec Ideal S8x2048x4096 .f32)
      (broadcastInDim S8x2048x4096 ![] bcast_S_S8x2048x4096 (constant S_ .f32 0x00000000#32 : FVec Ideal S_ .f32)))
    (maximumf (Host.dotGeneral dot_S8x2048x1024_S1024x4096_S8x2048x4096_2_0_01_1_n_n none h w1 : FVec Ideal S8x2048x4096 .f32)
      (broadcastInDim S8x2048x4096 ![] bcast_S_S8x2048x4096 (constant S_ .f32 0x00000000#32 : FVec Ideal S_ .f32)))

/-- The reference's residual stream after the network. -/
def resR (x : FVec Ideal S8x2048x1024 .f32) (g : FVec Ideal S1024 .f32) (ms : FVec Ideal S8x2x6x1x1024 .f32)
    (w1 : FVec Ideal S1024x4096 .f32) (w2 : FVec Ideal S4096x1024 .f32) : FVec Ideal S8x2048x1024 .f32 :=
  addf x (mulf (broadcastInDim S8x2048x1024 ![0, 1, 2] bcast_S8x1x1024_S8x2048x1024_0_1_2
      (shapeCast _ (extractStridedSlice S8x1x1x1024 ![0, 5, 0, 0] (mods ms) slices_S8x6x1x1024_S8x1x1x1024_0_5_0_0) shapeCasts_S8x1x1x1024_S8x1x1024))
    (Host.dotGeneral dot_S8x2048x4096_S4096x1024_S8x2048x1024_2_0_01_1_n_n none (actR (hidR x g ms) w1) w2 : FVec Ideal S8x2048x1024 .f32))

/-- The reference's result over its arguments. -/
def ref (x : FVec Ideal S8x2048x1024 .f32) (g : FVec Ideal S1024 .f32) (ms : FVec Ideal S8x2x6x1x1024 .f32)
    (w1 : FVec Ideal S1024x4096 .f32) (w2 : FVec Ideal S4096x1024 .f32) (gf : FVec Ideal S1024 .f32) : FVec Ideal S8x2048x1024 .f32 :=
  nrm (resR x g ms w1 w2) gf

variable (x : FVec Ideal S8x2048x1024 .f32) (g : FVec Ideal S1024 .f32) (ms : FVec Ideal S8x2x6x1x1024 .f32)
  (w1 : FVec Ideal S1024x4096 .f32) (w2 : FVec Ideal S4096x1024 .f32) (gf : FVec Ideal S1024 .f32)

/-- The reference's normalised row at an index. -/
theorem nrm_at (b : Fin 8) (r : Fin 2048) (d : Fin 1024) :
    nrm x g (ix3 b r d) = norm (fun l => x (ix3 b r l)) d * g (ix1 d) := by
  pointwise [nrm, norm]

/-- The network's input at an index. -/
theorem hidR_at (b : Fin 8) (r : Fin 2048) (d : Fin 1024) :
    hidR x g ms (ix3 b r d) = norm (fun l => x (ix3 b r l)) d * g (ix1 d) * (1 + ms (ix5 b 0 4 0 d)) + ms (ix5 b 0 3 0 d) := by
  pointwise [hidR, nrm, norm]

/-- The residual stream at an index. -/
theorem resR_at (b : Fin 8) (r : Fin 2048) (d : Fin 1024) :
    resR x g ms w1 w2 (ix3 b r d) = x (ix3 b r d) + ms (ix5 b 0 5 0 d) * mlp (fun l => hidR x g ms (ix3 b r l)) (fun l k => w1 (ix2 l k)) (fun k d => w2 (ix2 k d)) d := by
  pointwise [resR, actR, mlp]

end Reference

section Kernel
open Cert.Kernel3Ideal Cert.Kernel3Ideal.Gen

variable (i : grid0.Coords) (x0 : FVec Ideal S1x512x1024 .f32) (x1 : FVec Ideal S1x1024 .f32) (x2 x3 x4 x5 x6 x7 : FVec Ideal S1x1x1x1x1024 .f32)
  (x8 : FVec Ideal S1024x4096 .bf16) (x9 : FVec Ideal S4096x1024 .bf16) (x10 : FVec Ideal S1x1024 .f32)

/-- Every row of a tile lies among the image rows. -/
theorem row_lt (i : grid0.Coords) (r : Fin 512) :
    IntOp.cmpi .sge (IntOp.addi (BitVec.ofNat 32 r.val) (Scalar.muli (BitVec.ofNat 32 (i 1).val) 512#32)) 2048#32 = 0#1 := by
  have h : ∀ (j : Fin 4) (r : Fin 512), IntOp.cmpi .sge (IntOp.addi (BitVec.ofNat 32 r.val) (Scalar.muli (BitVec.ofNat 32 j.val) 512#32)) 2048#32 = 0#1 := by
    decide +kernel
  exact h (i 1) r

/-- The kernel's input of the network at an index of the tile. -/
theorem hid_at (r : Fin 512) (d : Fin 1024) :
    k0_pay4 (F := Ideal) (BitVec.ofNat 32 (i 1).val) (k0_pay3 i x0 x1 x5 x4) (iota .tc S512x1 32 [0] iota_S512x1_d0_w32) x3 x2 (ix2 r d)
      = norm (fun l => x0 (ix3 0 r l)) d * x1 (ix2 0 d) * (1 + x4 (ix5 0 0 0 0 d)) + x2 (ix5 0 0 0 0 d) := by
  pointwise [k0_pay4, k0_pay3, k0_pay2, norm]
  rw [row_lt i r]
  rfl

/-- The kernel's network, chunk by chunk, is the whole one. -/
theorem acc_at (a : BitVec 32) (v35 : FVec Ideal S512x1024 .f32) (v36 : IVec S512x1 32) (r : Fin 512) (d : Fin 1024) :
    k0_pay7 (F := Ideal) (k0_pay4 a v35 v36 x3 x2) (k0_pay5 a v35 v36 x3 x2 (View.ld x8 r0_3) (View.ld x9 r0_4))
      (k0_pay6 a v35 v36 x3 x2 (View.ld x8 r0_5)) (View.ld x9 r0_6) (View.ld x8 r0_7) (View.ld x9 r0_8) (View.ld x8 r0_9) (View.ld x9 r0_10) (ix2 r d)
      = mlp (fun l => k0_pay4 (F := Ideal) a v35 v36 x3 x2 (ix2 r l)) (fun l k => x8 (ix2 l k)) (fun k d => x9 (ix2 k d)) d := by
  generalize hh : k0_pay4 (F := Ideal) a v35 v36 x3 x2 = h
  pointwise [k0_pay7, k0_pay5, k0_pay6, hh]
  unfold mlp
  rw [Fin.sum_univ_tiles 4 1024 rfl, Fin.sum_univ_four]
  simp only [Fin.val_zero, zero_mul, zero_add]
  rfl

/-- What the body stores at an index of the tile. -/
theorem out_at (r : Fin 512) (d : Fin 1024) :
    out0_11 (F := Ideal) i x0 x1 x2 x3 x4 x5 x6 x7 x8 x9 x10 (ix3 0 r d)
      = norm (fun n => x0 (ix3 0 r n) + x6 (ix5 0 0 0 0 n) * mlp (fun l => norm (fun l => x0 (ix3 0 r l)) l * x1 (ix2 0 l) * (1 + x4 (ix5 0 0 0 0 l)) + x2 (ix5 0 0 0 0 l))
          (fun l k => x8 (ix2 l k)) (fun k d => x9 (ix2 k d)) n) d * x10 (ix2 0 d) := by
  have hy : ∀ n : Fin 1024, k0_pay7 (F := Ideal) (k0_pay4 (BitVec.ofNat 32 (i 1).val) (k0_pay3 i x0 x1 x5 x4) (iota .tc S512x1 32 [0] iota_S512x1_d0_w32) x3 x2)
      (k0_pay5 (BitVec.ofNat 32 (i 1).val) (k0_pay3 i x0 x1 x5 x4) (iota .tc S512x1 32 [0] iota_S512x1_d0_w32) x3 x2 (View.ld x8 r0_3) (View.ld x9 r0_4))
      (k0_pay6 (BitVec.ofNat 32 (i 1).val) (k0_pay3 i x0 x1 x5 x4) (iota .tc S512x1 32 [0] iota_S512x1_d0_w32) x3 x2 (View.ld x8 r0_5))
      (View.ld x9 r0_6) (View.ld x8 r0_7) (View.ld x9 r0_8) (View.ld x8 r0_9) (View.ld x9 r0_10) (ix2 r n)
      = mlp (fun l => norm (fun l => x0 (ix3 0 r l)) l * x1 (ix2 0 l) * (1 + x4 (ix5 0 0 0 0 l)) + x2 (ix5 0 0 0 0 l))
          (fun l k => x8 (ix2 l k)) (fun k d => x9 (ix2 k d)) n := fun n =>
    (acc_at _ _ x8 x9 _ _ _ r n).trans (congrArg (fun h => mlp h (fun l k => x8 (ix2 l k)) (fun k d => x9 (ix2 k d)) n)
      (funext fun l => hid_at i x0 x1 x2 x3 x4 x5 r l))
  unfold out0_11
  frame_out
  have e11 : k0_pay11 (F := Ideal) i x0 x1 x2 x3 x4 x5 x6 x7 x8 x9 x10 = k0_pay3 i x0 x1 x5 x4 := by
    unfold k0_pay11
    frame_out
  have e10 : k0_pay10 (F := Ideal) i x0 x1 x2 x3 x4 x5 x6 x7 x8 x9 x10 = iota .tc S512x1 32 [0] iota_S512x1_d0_w32 := rfl
  rw [e11, e10]
  generalize k0_pay7 (F := Ideal) _ _ _ _ _ _ _ _ = acc at hy ⊢
  pointwise [k0_pay1, k0_pay2, k0_pay8, k0_pay9, hy]
  simp only [row_lt i r, Scalar.select, show ((0#1 : BitVec 1) = 1) = False from eq_false (by decide), if_false]
  rfl

variable (m : (ℓ : Loc nD τ sig) → Buf (Elt Ideal) ℓ)

/-- Where each window's block lies at each grid point. -/
theorem blocks : ∀ t : Fin cfg0.N, win0_0.index t = ![t.val / 4, t.val % 4, 0]
    ∧ win0_1.index t = ![0, 0]
    ∧ win0_2.index t = ![t.val / 4, 0, 3, 0, 0]
    ∧ win0_4.index t = ![t.val / 4, 0, 4, 0, 0]
    ∧ win0_6.index t = ![t.val / 4, 0, 5, 0, 0]
    ∧ win0_8.index t = ![0, 0]
    ∧ win0_9.index t = ![0, 0]
    ∧ win0_10.index t = ![0, 0]
    ∧ win0_11.index t = ![t.val / 4, t.val % 4, 0] :=
  (by decide +kernel : ∀ t : Fin grid0.N, _)

/-- The reference of the arguments. -/
abbrev refAt (c : Dev nD) : FVec Ideal Cert.Reference3Ideal.S8x2048x1024 .f32 :=
  ref (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What the body stores at a block index is the reference at the array index it sits at. -/
theorem stored (c : Dev nD) (t : Fin cfg0.N) (r : Fin 512) (d : Fin 1024) :
    out0_11 (F := Ideal) (grid0.coords t) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix3 0 r d)
      = refAt m c (((cfg0.win 11).blk t).view.emb (ix3 0 r d)) := by
  have ht : t.val < 32 := t.isLt
  obtain ⟨b, hb⟩ : ∃ b : Fin 8, b.val = t.val / 4 := ⟨⟨t.val / 4, by omega⟩, rfl⟩
  obtain ⟨R, hR⟩ : ∃ R : Fin 2048, R.val = t.val % 4 * 512 + r.val := ⟨⟨t.val % 4 * 512 + r.val, by omega⟩, rfl⟩
  have e0 : ∀ l : Fin 1024, iblk m c 0 t (ix3 0 r l) = m ((c : Thread nD τ).loc main_arg0) (ix3 b R l) := by
    intro l; blk_point [iblk, V, blocks t]; try omega
  have e1 : ∀ l : Fin 1024, iblk m c 1 t (ix2 0 l) = m ((c : Thread nD τ).loc main_arg1) (ix1 l) := by
    intro l; blk_point [iblk, V, blocks t]; try omega
  have e2 : ∀ l : Fin 1024, iblk m c 2 t (ix5 0 0 0 0 l) = m ((c : Thread nD τ).loc main_arg2) (ix5 b 0 3 0 l) := by
    intro l; blk_point [iblk, V, blocks t]; try omega
  have e4 : ∀ l : Fin 1024, iblk m c 4 t (ix5 0 0 0 0 l) = m ((c : Thread nD τ).loc main_arg2) (ix5 b 0 4 0 l) := by
    intro l; blk_point [iblk, V, blocks t]; try omega
  have e6 : ∀ l : Fin 1024, iblk m c 6 t (ix5 0 0 0 0 l) = m ((c : Thread nD τ).loc main_arg2) (ix5 b 0 5 0 l) := by
    intro l; blk_point [iblk, V, blocks t]; try omega
  have e8 : ∀ (l : Fin 1024) (k : Fin 4096), iblk m c 8 t (ix2 l k) = m ((c : Thread nD τ).loc main_arg3) (ix2 l k) := by
    intro l k; blk_point [iblk, V, blocks t]; try omega
  have e9 : ∀ (k : Fin 4096) (l : Fin 1024), iblk m c 9 t (ix2 k l) = m ((c : Thread nD τ).loc main_arg4) (ix2 k l) := by
    intro k l; blk_point [iblk, V, blocks t]; try omega
  have e10 : ∀ l : Fin 1024, iblk m c 10 t (ix2 0 l) = m ((c : Thread nD τ).loc main_arg5) (ix1 l) := by
    intro l; blk_point [iblk, V, blocks t]; try omega
  have e11 : ((cfg0.win 11).blk t).view.emb (ix3 0 r d) = ix3 b R d := by
    blk_ext [blocks t] <;> omega
  rw [e11, out_at]
  unfold refAt ref
  rw [nrm_at]
  simp only [resR_at, hidR_at, e0, e1, e2, e4, e6, e8, e9, e10]

/-- The result array after the run is the reference. -/
theorem result (c : Dev nD) : (dats m 0 c).arrAt 11 (cfgs 0).N = refAt m c := by
  refine (dats m 0 c).arrAt_eq_of_covers 11 _ (by decide +kernel) fun t hf y => ?_
  blk_simp
  rw [after0_11]
  obtain ⟨r, d, rfl⟩ : ∃ (r : Fin 512) (d : Fin 1024), y = ix3 0 r d := ⟨y 1, y 2, by rw [eq_ix3 y]; congr 1; exact Subsingleton.elim _ _⟩
  exact stored m c t r d

end Kernel

end Cert.Proof.Ffn

end
-- ==== Proof.FfnClaims.lean ====
/- Hand-written: the claims about the feed-forward call. -/
module

public import proofs.«01_k».proof.Defs
public import proofs.«01_k».proof.Proof.Gen.Kernel3
public import proofs.«01_k».proof.Proof.Gen.Kernel3.Frame
public import proofs.«01_k».proof.Proof.Ffn
public import Idealize.ShloMosaic.Adequacy
public import Idealize.ShloMosaic.Init

@[expose] public section

set_option maxRecDepth 16384
set_option maxHeartbeats 1600000

noncomputable section

open Idealize.ShloMosaic Idealize.SL.Sem

namespace Cert.Proof.Ffn

/-- The kernel runs and leaves its arguments unchanged. -/
theorem frame_p : Cert.quiescent_Kernel3 (hKernel3 := Cert.Kernel3.Gen.facts) :=
  fun m ρ _ => Cert.Kernel3.Gen.frame m ρ

/-- The same for the idealised kernel. -/
theorem frame_pi : Cert.quiescent_Kernel3Ideal (hKernel3Ideal := Cert.Kernel3Ideal.Gen.facts) :=
  fun m ρ _ => Cert.Kernel3Ideal.Gen.frame m ρ

/-- The same for the reference. -/
theorem frame_ri : Cert.quiescent_Reference3Ideal (hReference3Ideal := Cert.Reference3Ideal.Gen.facts) := by
  intro m g _
  hlo_run
  · exact fun c => ⟨trivial, trivial, trivial, trivial, trivial, trivial⟩
  · exact sem_eq_zero_of_no_sems (by decide) r.2

/-- The kernel's result is the reference's. -/
theorem algebraic : Cert.algebraic_Kernel3Ideal_Reference3Ideal (hKernel3Ideal := Cert.Kernel3Ideal.Gen.facts)
    (hReference3Ideal := Cert.Reference3Ideal.Gen.facts) := by
  pair_intro
  · run_from Cert.Kernel3Ideal.Gen.run_main m g
  · hlo_run
    exact (result m c).symm

end Cert.Proof.Ffn

end
-- ==== Proof.Merge.lean ====
/- Hand-written: the merging call's result array is the reference's. -/
module

public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import Idealize.ShloMosaic.Lib.StableHlo.Run
public import Idealize.ShloMosaic.Lib.StableHlo.RunRead
public import Idealize.ShloMosaic.Lib.Claim
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem
open Idealize.ShloMosaic.Pipeline (Dat)
open scoped BigOperators

namespace Cert.Proof.Merge

/-- The logistic function. -/
def logi (x : EReal) : EReal := Ideal.div 1 (1 + Ideal.exp (-x))

/-- The word of one half. -/
theorem half : Ideal.ofBits .f32 0x3F000000#32 = ((1 / 2 : ℝ) : EReal) := by
  simp [Ideal.ofBits, Ideal.ieee, -EReal.coe_mul]; norm_num

/-- The logistic function by the hyperbolic tangent, at a real number. -/
theorem real_tanh (x : ℝ) : 1 / 2 * Real.tanh (1 / 2 * x) + 1 / 2 = 1 * (1 + Real.exp (-x))⁻¹ := by
  have h : Real.exp (-x) = Real.exp (-(1 / 2 * x)) * Real.exp (-(1 / 2 * x)) := by rw [← Real.exp_add]; congr 1; ring
  have hp := Real.exp_pos (1 / 2 * x)
  rw [Real.tanh_eq_sinh_div_cosh, Real.sinh_eq, Real.cosh_eq, h, Real.exp_neg]
  field_simp
  ring

/-- The logistic function by the hyperbolic tangent. -/
theorem tanh_sig (x : EReal) :
    Ideal.ofBits .f32 0x3F000000#32 * Ideal.tanh (Ideal.ofBits .f32 0x3F000000#32 * x) + Ideal.ofBits .f32 0x3F000000#32 = logi x := by
  rw [half]
  induction x using EReal.rec with
  | bot =>
    rw [EReal.coe_mul_bot_of_pos (by norm_num)]
    rw [logi, show Ideal.tanh ⊥ = -1 from rfl, EReal.neg_bot, show Ideal.exp ⊤ = ⊤ from rfl]
    rw [show (1 : EReal) + ⊤ = ⊤ from EReal.add_top_of_ne_bot (by decide)]
    rw [Ideal.div, if_neg (by decide), EReal.inv_top, mul_zero]
    rw [show (-1 : EReal) = ((-1 : ℝ) : EReal) by norm_num, ← EReal.coe_mul, ← EReal.coe_add]
    norm_num
  | top =>
    rw [EReal.coe_mul_top_of_pos (by norm_num)]
    rw [logi, show Ideal.tanh ⊤ = 1 from rfl, EReal.neg_top, show Ideal.exp ⊥ = 0 from rfl]
    rw [add_zero, Ideal.div, if_neg (by norm_num), mul_one, inv_one, mul_one, ← EReal.coe_add]
    norm_num
  | coe r =>
    rw [← EReal.coe_mul]
    rw [logi, show Ideal.tanh ((1 / 2 * r : ℝ) : EReal) = (Real.tanh (1 / 2 * r) : EReal) from rfl, ← EReal.coe_neg, show Ideal.exp ((-r : ℝ) : EReal) = (Real.exp (-r) : EReal) from rfl]
    have hp := Real.exp_pos (-r)
    rw [show (1 : EReal) = ((1 : ℝ) : EReal) by norm_num, ← EReal.coe_add, Ideal.div_coe (by positivity), ← EReal.coe_mul, ← EReal.coe_mul, ← EReal.coe_add, real_tanh, one_div]

/-- The gated sum of the three branches' projections. -/
def mix (g0 g1 g2 : Fin 1024 → EReal) (ya : Fin 2048 → EReal) (yb yc : Fin 1024 → EReal) (wa : Fin 2048 → Fin 1024 → EReal)
    (wb wc : Fin 1024 → Fin 1024 → EReal) (k : Fin 1024) : EReal :=
  logi (g0 k) * (∑ l, ya l * wa l k) + logi (g1 k) * (∑ l, yb l * wb l k) + logi (g2 k) * (∑ l, yc l * wc l k)

section Reference
open Cert.Reference4Ideal Cert.Reference4Ideal.Gen

/-- The reference's gates. -/
def gates (p : FVec Ideal S8x2304x13888 .bf16) : FVec Ideal S8x2048x3072 .f32 :=
  Host.divf (broadcastInDim S8x2048x3072 ![] bcast_S_S8x2048x3072 (constant S_ .f32 0x3F800000#32 : FVec Ideal S_ .f32))
    (addf (broadcastInDim S8x2048x3072 ![] bcast_S_S8x2048x3072 (constant S_ .f32 0x3F800000#32 : FVec Ideal S_ .f32))
      (Host.exp (Host.negf (extf .f32 (extractStridedSlice S8x2048x3072 ![0, 0, 10816] p slices_S8x2304x13888_S8x2048x3072_0_0_10816) bitsLt_bf16_f32))))

/-- The reference's gated sum. -/
def mixR (p : FVec Ideal S8x2304x13888 .bf16) (ya : FVec Ideal S8x2048x2048 .bf16) (yb yc : FVec Ideal S8x2048x1024 .bf16)
    (wa : FVec Ideal S2048x1024 .f32) (wb wc : FVec Ideal S1024x1024 .f32) : FVec Ideal S8x2048x1024 .f32 :=
  addf (addf
    (mulf (extractStridedSlice S8x2048x1024 ![0, 0, 0] (gates p) slices_S8x2048x3072_S8x2048x1024_0_0_0)
      (Host.dotGeneral dot_S8x2048x2048_S2048x1024_S8x2048x1024_2_0_01_1_n_n none (extf .f32 ya bitsLt_bf16_f32 : FVec Ideal S8x2048x2048 .f32) wa : FVec Ideal S8x2048x1024 .f32))
    (mulf (extractStridedSlice S8x2048x1024 ![0, 0, 1024] (gates p) slices_S8x2048x3072_S8x2048x1024_0_0_1024)
      (Host.dotGeneral dot_S8x2048x1024_S1024x1024_S8x2048x1024_2_0_01_1_n_n none (extf .f32 yb bitsLt_bf16_f32 : FVec Ideal S8x2048x1024 .f32) wb : FVec Ideal S8x2048x1024 .f32)))
    (mulf (extractStridedSlice S8x2048x1024 ![0, 0, 2048] (gates p) slices_S8x2048x3072_S8x2048x1024_0_0_2048)
      (Host.dotGeneral dot_S8x2048x1024_S1024x1024_S8x2048x1024_2_0_01_1_n_n none (extf .f32 yc bitsLt_bf16_f32 : FVec Ideal S8x2048x1024 .f32) wc : FVec Ideal S8x2048x1024 .f32))

/-- The reference's result over its arguments. -/
def ref (x : FVec Ideal S8x2304x1024 .f32) (ya : FVec Ideal S8x2048x2048 .bf16) (yb yc : FVec Ideal S8x2048x1024 .bf16)
    (p : FVec Ideal S8x2304x13888 .bf16) (ms : FVec Ideal S8x2x6x1x1024 .f32)
    (wa : FVec Ideal S2048x1024 .f32) (wb wc wo : FVec Ideal S1024x1024 .f32) : FVec Ideal S8x2048x1024 .f32 :=
  addf (extractStridedSlice S8x2048x1024 ![0, 0, 0] x slices_S8x2304x1024_S8x2048x1024_0_0_0)
    (mulf (broadcastInDim S8x2048x1024 ![0, 1, 2] bcast_S8x1x1024_S8x2048x1024_0_1_2
        (shapeCast _ (extractStridedSlice S8x1x1x1x1024 ![0, 0, 2, 0, 0] ms slices_S8x2x6x1x1024_S8x1x1x1x1024_0_0_2_0_0) shapeCasts_S8x1x1x1x1024_S8x1x1024))
      (Host.dotGeneral dot_S8x2048x1024_S1024x1024_S8x2048x1024_2_0_01_1_n_n none (mixR p ya yb yc wa wb wc) wo : FVec Ideal S8x2048x1024 .f32))

variable (x : FVec Ideal S8x2304x1024 .f32) (ya : FVec Ideal S8x2048x2048 .bf16) (yb yc : FVec Ideal S8x2048x1024 .bf16)
    (p : FVec Ideal S8x2304x13888 .bf16) (ms : FVec Ideal S8x2x6x1x1024 .f32)
    (wa : FVec Ideal S2048x1024 .f32) (wb wc wo : FVec Ideal S1024x1024 .f32)

/-- A gate at an index. -/
theorem gates_at (b : Fin 8) (r : Fin 2048) (k : Fin 3072) (R : Fin 2304) (K : Fin 13888) (hR : R.val = r.val) (hK : K.val = 10816 + k.val) :
    gates p (ix3 b r k) = logi (p (ix3 b R K)) := by
  pointwise [gates, logi]
  rw [show R = ⟨r.val, by omega⟩ from Fin.ext hR, show K = ⟨10816 + k.val, by omega⟩ from Fin.ext hK]

/-- The gated sum at an index. -/
theorem mixR_at (b : Fin 8) (r : Fin 2048) (k : Fin 1024) (R : Fin 2304) (hR : R.val = r.val) :
    mixR p ya yb yc wa wb wc (ix3 b r k) = mix (fun k => p (ix3 b R ⟨10816 + k.val, by omega⟩)) (fun k => p (ix3 b R ⟨11840 + k.val, by omega⟩))
      (fun k => p (ix3 b R ⟨12864 + k.val, by omega⟩)) (fun l => ya (ix3 b r l)) (fun l => yb (ix3 b r l)) (fun l => yc (ix3 b r l))
      (fun l k => wa (ix2 l k)) (fun l k => wb (ix2 l k)) (fun l k => wc (ix2 l k)) k := by
  have g0 := gates_at p b r ⟨k.val, by omega⟩ R ⟨10816 + k.val, by omega⟩ hR rfl
  have g1 := gates_at p b r ⟨1024 + k.val, by omega⟩ R ⟨11840 + k.val, by omega⟩ hR (by simp; omega)
  have g2 := gates_at p b r ⟨2048 + k.val, by omega⟩ R ⟨12864 + k.val, by omega⟩ hR (by simp; omega)
  generalize hg : gates p = g at g0 g1 g2
  pointwise [mixR, hg]
  unfold mix
  rw [← g0, ← g1, ← g2]

/-- The result at an index. -/
theorem ref_at (b : Fin 8) (r : Fin 2048) (d : Fin 1024) (R : Fin 2304) (hR : R.val = r.val) :
    ref x ya yb yc p ms wa wb wc wo (ix3 b r d) = x (ix3 b R d) + ms (ix5 b 0 2 0 d) * ∑ k, mixR p ya yb yc wa wb wc (ix3 b r k) * wo (ix2 k d) := by
  generalize hm : mixR p ya yb yc wa wb wc = mm
  pointwise [ref, hm]
  rw [show R = ⟨r.val, by omega⟩ from Fin.ext hR]

end Reference

section Kernel
open Cert.Kernel4Ideal Cert.Kernel4Ideal.Gen

variable (i : grid0.Coords) (x0 : FVec Ideal S1x512x1024 .f32) (x1 : FVec Ideal S1x512x2048 .bf16) (x2 x3 x4 x5 x6 : FVec Ideal S1x512x1024 .bf16)
  (x7 x8 : FVec Ideal S1x1x1x1x1024 .f32) (x9 : FVec Ideal S2048x1024 .bf16) (x10 x11 x12 : FVec Ideal S1024x1024 .bf16)

/-- Every row of a tile lies among the image rows. -/
theorem row_lt (i : grid0.Coords) (r : Fin 512) :
    IntOp.cmpi .sge (IntOp.addi (BitVec.ofNat 32 r.val) (Scalar.muli (BitVec.ofNat 32 (i 1).val) 512#32)) 2048#32 = 0#1 := by
  have h : ∀ (j : Fin 4) (r : Fin 512), IntOp.cmpi .sge (IntOp.addi (BitVec.ofNat 32 r.val) (Scalar.muli (BitVec.ofNat 32 j.val) 512#32)) 2048#32 = 0#1 := by
    decide +kernel
  exact h (i 1) r

/-- The kernel's gated sum at an index of the tile. -/
theorem mix_at (r : Fin 512) (k : Fin 1024) :
    k0_pay3 (F := Ideal) (k0_pay2 x4 x1 x9 x5 x2 x10) x6 x3 x11 (ix2 r k)
      = mix (fun k => x4 (ix3 0 r k)) (fun k => x5 (ix3 0 r k)) (fun k => x6 (ix3 0 r k)) (fun l => x1 (ix3 0 r l)) (fun l => x2 (ix3 0 r l))
        (fun l => x3 (ix3 0 r l)) (fun l k => x9 (ix2 l k)) (fun l k => x10 (ix2 l k)) (fun l k => x11 (ix2 l k)) k := by
  pointwise [k0_pay3, k0_pay2, mix]
  simp only [tanh_sig]

/-- The tile's modulation at an index. -/
theorem mod_at (r : Fin 512) (d : Fin 1024) :
    k0_pay4 (F := Ideal) (BitVec.ofNat 32 (i 1).val) x8 x7 (ix2 r d) = x7 (ix5 0 0 0 0 d) := by
  pointwise [k0_pay4]
  simp only [row_lt i r, Scalar.select, show ((0#1 : BitVec 1) = 1) = False from eq_false (by decide), if_false]

/-- What the body stores at an index of the tile. -/
theorem out_at (r : Fin 512) (d : Fin 1024) :
    k0_pay1 (F := Ideal) (k0_pay3 (k0_pay2 x4 x1 x9 x5 x2 x10) x6 x3 x11) (k0_pay4 (BitVec.ofNat 32 (i 1).val) x8 x7) x0 x12 (ix3 0 r d)
      = x0 (ix3 0 r d) + x7 (ix5 0 0 0 0 d) * ∑ k, mix (fun k => x4 (ix3 0 r k)) (fun k => x5 (ix3 0 r k)) (fun k => x6 (ix3 0 r k)) (fun l => x1 (ix3 0 r l)) (fun l => x2 (ix3 0 r l))
        (fun l => x3 (ix3 0 r l)) (fun l k => x9 (ix2 l k)) (fun l k => x10 (ix2 l k)) (fun l k => x11 (ix2 l k)) k * x12 (ix2 k d) := by
  simp only [← mix_at]
  rw [← mod_at i x7 x8 r d]
  generalize k0_pay3 (F := Ideal) _ _ _ _ = mm
  generalize k0_pay4 (F := Ideal) _ _ _ = mo
  pointwise [k0_pay1]

variable (m : (ℓ : Loc nD τ sig) → Buf (Elt Ideal) ℓ)

/-- Where each window's block lies at each grid point. -/
theorem blocks : ∀ t : Fin cfg0.N, win0_0.index t = ![t.val / 4, t.val % 4, 0]
    ∧ win0_1.index t = ![t.val / 4, t.val % 4, 0]
    ∧ win0_2.index t = ![t.val / 4, t.val % 4, 0]
    ∧ win0_3.index t = ![t.val / 4, t.val % 4, 0]
    ∧ win0_4.index t = ![t.val / 4, t.val % 4, 11]
    ∧ win0_5.index t = ![t.val / 4, t.val % 4, 12]
    ∧ win0_6.index t = ![t.val / 4, t.val % 4, 13]
    ∧ win0_7.index t = ![t.val / 4, 0, 2, 0, 0]
    ∧ win0_9.index t = ![0, 0]
    ∧ win0_10.index t = ![0, 0]
    ∧ win0_11.index t = ![0, 0]
    ∧ win0_12.index t = ![0, 0]
    ∧ win0_13.index t = ![t.val / 4, t.val % 4, 0] :=
  (by decide +kernel : ∀ t : Fin grid0.N, _)

/-- The reference of the arguments. -/
abbrev refAt (c : Dev nD) : FVec Ideal Cert.Reference4Ideal.S8x2048x1024 .f32 :=
  ref (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))

/-- The first window's block at an index. -/
theorem x_at (c : Dev nD) (t : Fin cfg0.N) (b : Fin 8) (R : Fin 2304) (r : Fin 512) (d : Fin 1024) (hb : b.val = t.val / 4) (hR : R.val = t.val % 4 * 512 + r.val) :
    X0_0 m c t (ix3 0 r d) = m ((c : Thread nD τ).loc main_arg0) (ix3 b R d) := by
  unfold X0_0 Pipeline.Window.fill
  rw [dif_pos (moved0_0 t _)]
  blk_point [iblk, V, blocks t]; try omega

/-- The last piece of the prepared projection. -/
theorem concat_at (a0 : FVec Ideal S8x2304x4096 .bf16) (a1 a2 : FVec Ideal S8x2304x1024 .bf16) (a3 a4 : FVec Ideal S8x2304x512 .bf16)
    (a5 : FVec Ideal S8x2304x2048 .bf16) (a6 a7 : FVec Ideal S8x2304x1024 .bf16) (a8 : FVec Ideal S8x2304x3072 .bf16) (b : Fin 8) (R : Fin 2304) (k : Fin 3072) :
    concatenate S8x2304x14336 2 [⟨S8x2304x4096, a0⟩, ⟨S8x2304x1024, a1⟩, ⟨S8x2304x1024, a2⟩, ⟨S8x2304x512, a3⟩, ⟨S8x2304x512, a4⟩, ⟨S8x2304x2048, a5⟩, ⟨S8x2304x1024, a6⟩, ⟨S8x2304x1024, a7⟩, ⟨S8x2304x3072, a8⟩]
      concatenates_S8x2304x4096_S8x2304x1024_S8x2304x1024_S8x2304x512_S8x2304x512_S8x2304x2048_S8x2304x1024_S8x2304x1024_S8x2304x3072_S8x2304x14336_d2 (ix3 b R ⟨11264 + k.val, by omega⟩) = a8 (ix3 b R k) := by
  pointwise
  iterate 8 rw [dif_neg (by omega)]
  refine congrArg (fun z => a8 (ix3 b R z)) (Fin.ext ?_)
  dsimp only
  omega

/-- The prepared projection's gate columns are the projection's last ones. -/
theorem prep_at (c : Dev nD) (b : Fin 8) (R : Fin 2304) (k : Fin 3072) :
    V m c main_v15 (ix3 b R ⟨11264 + k.val, by omega⟩) = m ((c : Thread nD τ).loc main_arg4) (ix3 b R ⟨10816 + k.val, by omega⟩) := by
  unfold V
  rw [StableHlo.after_last_write (i := 15) [main_v16, main_v17, main_v18, main_v19] rfl rfl (by decide), StableHlo.nary_result]
  refine (concat_at _ _ _ _ _ _ _ _ _ b R k).trans ?_
  show StableHlo.upto hostOps0 _ 15 (Proc.devRef .tc main_v14) _ = _
  rw [StableHlo.upto_last_write (i := 14) [] rfl rfl (by decide), StableHlo.unary_result,
    StableHlo.upto_unwritten [main_v0, main_v1, main_v2, main_v3, main_v4, main_v5, main_v6, main_v7, main_v8, main_v9, main_v10, main_v11, main_v12, main_v13] rfl (by decide)]
  pointwise

/-- The first gate's block at an index. -/
theorem g0_at (c : Dev nD) (t : Fin cfg0.N) (b : Fin 8) (R : Fin 2304) (r : Fin 512) (d : Fin 1024) (hb : b.val = t.val / 4) (hR : R.val = t.val % 4 * 512 + r.val) :
    X0_4 m c t (ix3 0 r d) = m ((c : Thread nD τ).loc main_arg4) (ix3 b R ⟨10816 + d.val, by omega⟩) := by
  unfold X0_4 Pipeline.Window.fill
  rw [dif_pos (moved0_4 t _)]
  have e : iblk m c 4 t (fun a => ⟨((ix3 0 r d : (cfg0.win 4).block.Idx) a).val, ((cfg0.win 4).moved_iff _ _).mp (moved0_4 t _) a⟩) = V m c main_v15 (ix3 b R ⟨11264 + (⟨0 + d.val, by omega⟩ : Fin 3072).val, by simp; omega⟩) := by
    blk_simp [iblk]
    congr 1
    blk_ext [blocks t] <;> omega
  rw [e, prep_at]
  congr 2
  refine Fin.ext ?_
  show 10816 + (_ + d.val) = _ + d.val
  omega

/-- The second gate's block at an index. -/
theorem g1_at (c : Dev nD) (t : Fin cfg0.N) (b : Fin 8) (R : Fin 2304) (r : Fin 512) (d : Fin 1024) (hb : b.val = t.val / 4) (hR : R.val = t.val % 4 * 512 + r.val) :
    X0_5 m c t (ix3 0 r d) = m ((c : Thread nD τ).loc main_arg4) (ix3 b R ⟨11840 + d.val, by omega⟩) := by
  unfold X0_5 Pipeline.Window.fill
  rw [dif_pos (moved0_5 t _)]
  have e : iblk m c 5 t (fun a => ⟨((ix3 0 r d : (cfg0.win 5).block.Idx) a).val, ((cfg0.win 5).moved_iff _ _).mp (moved0_5 t _) a⟩) = V m c main_v15 (ix3 b R ⟨11264 + (⟨1024 + d.val, by omega⟩ : Fin 3072).val, by simp; omega⟩) := by
    blk_simp [iblk]
    congr 1
    blk_ext [blocks t] <;> omega
  rw [e, prep_at]
  congr 2
  refine Fin.ext ?_
  show 10816 + (_ + d.val) = _ + d.val
  omega

/-- The third gate's block at an index. -/
theorem g2_at (c : Dev nD) (t : Fin cfg0.N) (b : Fin 8) (R : Fin 2304) (r : Fin 512) (d : Fin 1024) (hb : b.val = t.val / 4) (hR : R.val = t.val % 4 * 512 + r.val) :
    X0_6 m c t (ix3 0 r d) = m ((c : Thread nD τ).loc main_arg4) (ix3 b R ⟨12864 + d.val, by omega⟩) := by
  unfold X0_6 Pipeline.Window.fill
  rw [dif_pos (moved0_6 t _)]
  have e : iblk m c 6 t (fun a => ⟨((ix3 0 r d : (cfg0.win 6).block.Idx) a).val, ((cfg0.win 6).moved_iff _ _).mp (moved0_6 t _) a⟩) = V m c main_v15 (ix3 b R ⟨11264 + (⟨2048 + d.val, by omega⟩ : Fin 3072).val, by simp; omega⟩) := by
    blk_simp [iblk]
    congr 1
    blk_ext [blocks t] <;> omega
  rw [e, prep_at]
  congr 2
  refine Fin.ext ?_
  show 10816 + (_ + d.val) = _ + d.val
  omega

/-- What the body stores at a block index is the reference at the array index it sits at. -/
theorem stored (c : Dev nD) (t : Fin cfg0.N) (r : Fin 512) (d : Fin 1024) :
    outsAt0 m c t (ix3 0 r d) = refAt m c (((cfg0.win 13).blk t).view.emb (ix3 0 r d)) := by
  have ht : t.val < 32 := t.isLt
  obtain ⟨b, hb⟩ : ∃ b : Fin 8, b.val = t.val / 4 := ⟨⟨t.val / 4, by omega⟩, rfl⟩
  obtain ⟨R, hR⟩ : ∃ R : Fin 2048, R.val = t.val % 4 * 512 + r.val := ⟨⟨t.val % 4 * 512 + r.val, by omega⟩, rfl⟩
  obtain ⟨R', hR'⟩ : ∃ R' : Fin 2304, R'.val = R.val := ⟨⟨R.val, by omega⟩, rfl⟩
  have e1 : ∀ l : Fin 2048, iblk m c 1 t (ix3 0 r l) = m ((c : Thread nD τ).loc main_arg1) (ix3 b R l) := by
    intro l; blk_point [iblk, V, blocks t]; try omega
  have e2 : ∀ l : Fin 1024, iblk m c 2 t (ix3 0 r l) = m ((c : Thread nD τ).loc main_arg2) (ix3 b R l) := by
    intro l; blk_point [iblk, V, blocks t]; try omega
  have e3 : ∀ l : Fin 1024, iblk m c 3 t (ix3 0 r l) = m ((c : Thread nD τ).loc main_arg3) (ix3 b R l) := by
    intro l; blk_point [iblk, V, blocks t]; try omega
  have e7 : ∀ l : Fin 1024, iblk m c 7 t (ix5 0 0 0 0 l) = m ((c : Thread nD τ).loc main_arg5) (ix5 b 0 2 0 l) := by
    intro l; blk_point [iblk, V, blocks t]; try omega
  have e9 : ∀ (l : Fin 2048) (k : Fin 1024), iblk m c 9 t (ix2 l k) = m ((c : Thread nD τ).loc main_arg6) (ix2 l k) := by
    intro l k; blk_point [iblk, V, blocks t]; try omega
  have e10 : ∀ (l : Fin 1024) (k : Fin 1024), iblk m c 10 t (ix2 l k) = m ((c : Thread nD τ).loc main_arg7) (ix2 l k) := by
    intro l k; blk_point [iblk, V, blocks t]; try omega
  have e11 : ∀ (l : Fin 1024) (k : Fin 1024), iblk m c 11 t (ix2 l k) = m ((c : Thread nD τ).loc main_arg8) (ix2 l k) := by
    intro l k; blk_point [iblk, V, blocks t]; try omega
  have e12 : ∀ (l : Fin 1024) (k : Fin 1024), iblk m c 12 t (ix2 l k) = m ((c : Thread nD τ).loc main_arg9) (ix2 l k) := by
    intro l k; blk_point [iblk, V, blocks t]; try omega
  have e13 : ((cfg0.win 13).blk t).view.emb (ix3 0 r d) = ix3 b R d := by
    blk_ext [blocks t] <;> omega
  rw [e13]
  unfold outsAt0 out0_A_13
  frame_out
  refine (out_at (grid0.coords t) _ _ _ _ _ _ _ _ _ _ _ _ _ r d).trans ?_
  unfold refAt
  rw [ref_at _ _ _ _ _ _ _ _ _ _ b R d R' hR']
  simp only [mixR_at _ _ _ _ _ _ _ b R _ R' hR', e1, e2, e3, e7, e9, e10, e11, e12, x_at m c t b R' r _ hb (hR'.trans hR), g0_at m c t b R' r _ hb (hR'.trans hR),
    g1_at m c t b R' r _ hb (hR'.trans hR), g2_at m c t b R' r _ hb (hR'.trans hR)]

/-- The result array after the run is the reference. -/
theorem result (c : Dev nD) : (dats m 0 c).arrAt 13 (cfgs 0).N = refAt m c := by
  refine (dats m 0 c).arrAt_eq_of_covers 13 _ (by decide +kernel) fun t hf y => ?_
  blk_simp
  rw [after0_13]
  obtain ⟨r, d, rfl⟩ : ∃ (r : Fin 512) (d : Fin 1024), y = ix3 0 r d := ⟨y 1, y 2, by rw [eq_ix3 y]; congr 1; exact Subsingleton.elim _ _⟩
  exact stored m c t r d

end Kernel

end Cert.Proof.Merge

end
-- ==== Proof.MergeClaims.lean ====
/- Hand-written: the claims about the merging call. -/
module

public import proofs.«01_k».proof.Defs
public import proofs.«01_k».proof.Proof.Gen.Kernel4
public import proofs.«01_k».proof.Proof.Gen.Kernel4.Frame
public import proofs.«01_k».proof.Proof.Merge
public import Idealize.ShloMosaic.Adequacy
public import Idealize.ShloMosaic.Init

@[expose] public section

set_option maxRecDepth 16384
set_option maxHeartbeats 1600000

noncomputable section

open Idealize.ShloMosaic Idealize.SL.Sem

namespace Cert.Proof.Merge

/-- The kernel runs and leaves its arguments unchanged. -/
theorem frame_p : Cert.quiescent_Kernel4 (hKernel4 := Cert.Kernel4.Gen.facts) :=
  fun m ρ _ => Cert.Kernel4.Gen.frame m ρ

/-- The same for the idealised kernel. -/
theorem frame_pi : Cert.quiescent_Kernel4Ideal (hKernel4Ideal := Cert.Kernel4Ideal.Gen.facts) :=
  fun m ρ _ => Cert.Kernel4Ideal.Gen.frame m ρ

/-- The same for the reference. -/
theorem frame_ri : Cert.quiescent_Reference4Ideal (hReference4Ideal := Cert.Reference4Ideal.Gen.facts) := by
  intro m g _
  hlo_run
  · exact fun c => ⟨trivial, trivial, trivial, trivial, trivial, trivial, trivial, trivial, trivial, trivial⟩
  · exact sem_eq_zero_of_no_sems (by decide) r.2

/-- The kernel's result is the reference's. -/
theorem algebraic : Cert.algebraic_Kernel4Ideal_Reference4Ideal (hKernel4Ideal := Cert.Kernel4Ideal.Gen.facts)
    (hReference4Ideal := Cert.Reference4Ideal.Gen.facts) := by
  pair_intro
  · run_from Cert.Kernel4Ideal.Gen.run_main m g
  · hlo_run
    exact (result m c).symm

end Cert.Proof.Merge

end
-- ==== Proof.SwaIdealLoop.lean ====
module

public import proofs.«01_k».proof.Proof.Gen.KernelIdeal.Frame
public import proofs.«01_k».proof.Proof.Gen.KernelIdeal.Loops
public import Idealize.ShloMosaic.Lib.Pipeline.Value
public import Idealize.ShloMosaic.Lib.VecWindow
public import Idealize.ShloMosaic.Lib.Ring

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## What one trip computes, as functions of what the buffers hold -/

/-- The whole of a score array, -/
abbrev rW : Rect S640x512 := Rect.unit (s := S640x512) ![0, 0] S640x512.size inb_S640x512_S640x512_0_0
/-- its window rows, -/
abbrev rLoc : Rect S640x512 := Rect.unit (s := S640x512) ![0, 0] S384x512.size inb_S640x512_S384x512_0_0
/-- its context rows, -/
abbrev rCtx : Rect S640x512 := Rect.unit (s := S640x512) ![384, 0] S256x512.size inb_S640x512_S256x512_384_0
/-- the whole of a reciprocals array -/
abbrev rR8 : Rect S8x512 := Rect.unit (s := S8x512) ![0, 0] S8x512.size inb_S8x512_S8x512_0_0
/-- and its first row. -/
abbrev rR1 : Rect S8x512 := Rect.unit (s := S8x512) ![0, 0] S1x512.size inb_S8x512_S1x512_0_0

/-- A sink read at an offset of its table. -/
abbrev sinkAt (x2 : Vec F S16 .f32) (off : Fin 1 → ℕ) (inb : ∀ a, off a + S1.size a ≤ S16.size a) : Elt F .f32 :=
  View.ld x2 (Rect.unit (s := S16) off S1.size inb) (Shape.Idx.first (numel1_S1 ▸ Nat.one_pos))

/-- The rotated query of heads 0 and 1 of the pair at loop trip `k`. -/
def q0 (x3 : Vec F S1x2304x512 .bf16) (x6 x7 : Vec F S2048x128 .f32) (k : Fin k0_t3_loop.trips) : FVec F S128x128 .f32 :=
  k0_pay9 (k0_pay5 (View.ld x3 (Rect.unit (s := S1x2304x512) (k0_off17 k) S1x128x128.size (k0_off17_inb k))) (View.ld x6 (Rect.unit (s := S2048x128) (k0_off18 k) S128x128.size (k0_off18_inb k))))
    (k0_pay6 (View.ld x3 (Rect.unit (s := S1x2304x512) (k0_off17 k) S1x128x128.size (k0_off17_inb k))))
    (k0_pay7 (View.ld x3 (Rect.unit (s := S1x2304x512) (k0_off17 k) S1x128x128.size (k0_off17_inb k))))
    k0_pay8 16#32 (View.ld x7 (Rect.unit (s := S2048x128) (k0_off18 k) S128x128.size (k0_off18_inb k)))
/-- The rotated query of heads 2 and 3 of the first group at loop trip `k`. -/
def q1 (x3 : Vec F S1x2304x512 .bf16) (x6 x7 : Vec F S2048x128 .f32) (k : Fin k0_t3_loop.trips) : FVec F S128x128 .f32 :=
  k0_pay10 (View.ld x3 (Rect.unit (s := S1x2304x512) (k0_off19 k) S1x128x128.size (k0_off19_inb k))) (View.ld x6 (Rect.unit (s := S2048x128) (k0_off18 k) S128x128.size (k0_off18_inb k))) (View.ld x7 (Rect.unit (s := S2048x128) (k0_off18 k) S128x128.size (k0_off18_inb k)))
/-- The scores of the first group of heads at loop trip `k`, as the two stores leave them. -/
def qkAL (x3 : Vec F S1x2304x512 .bf16) (x4 : Vec F S1x2304x256 .bf16) (x6 x7 : Vec F S2048x128 .f32) (x8 : Vec F S3x384x128 .bf16) (kr : Vec F S2048x256 .bf16) (v2 : IVec S128x128 1) (v3 : FVec F S128x128 .bf16) (v27 : FVec F S512x128 .bf16) (k : Fin k0_t3_loop.trips) : List (View.Piece (Elt F) S640x512 .f32) :=
  [⟨rCtx, k0_pay13 v2 v3 (q0 x3 x6 x7 k) (q1 x3 x6 x7 k) (View.ld x4 (Rect.unit (s := S1x2304x256) ![0, 2048, 0] S1x256x128.size inb_S1x2304x256_S1x256x128_0_2048_0))⟩,
   ⟨rLoc, k0_pay12 v2 v3 v27 (q0 x3 x6 x7 k) (q1 x3 x6 x7 k) (View.ld kr (Rect.unit (s := S2048x256) (k0_off20 k) S384x128.size (k0_off20_inb k))) (View.ld x8 (Rect.unit (s := S3x384x128) (k0_off21 k) S1x384x128.size (k0_off21_inb k)))⟩]
/-- The first group's scores in a turn. -/
def qkA (x3 : Vec F S1x2304x512 .bf16) (x4 : Vec F S1x2304x256 .bf16) (x6 x7 : Vec F S2048x128 .f32) (x8 : Vec F S3x384x128 .bf16) (kr : Vec F S2048x256 .bf16) (v2 : IVec S128x128 1) (v3 : FVec F S128x128 .bf16) (v27 : FVec F S512x128 .bf16) (k : Fin k0_t3_loop.trips) : Vec F S640x512 .f32 := View.canon (qkAL x3 x4 x6 x7 x8 kr v2 v3 v27 k)
/-- The rotated query of the second group's first two heads, -/
def q2 (x3 : Vec F S1x2304x512 .bf16) (x6 x7 : Vec F S2048x128 .f32) (k : Fin k0_t3_loop.trips) : FVec F S128x128 .f32 :=
  k0_pay22 (View.ld x3 (Rect.unit (s := S1x2304x512) (k0_off26 k) S1x128x128.size (k0_off26_inb k))) (View.ld x6 (Rect.unit (s := S2048x128) (k0_off18 k) S128x128.size (k0_off18_inb k))) (View.ld x7 (Rect.unit (s := S2048x128) (k0_off18 k) S128x128.size (k0_off18_inb k)))
/-- The rotated query of its last two heads, with one head's lanes zeroed, -/
def q3a (x3 : Vec F S1x2304x512 .bf16) (x6 x7 : Vec F S2048x128 .f32) (v2 : IVec S128x128 1) (v3 : FVec F S128x128 .bf16) (k : Fin k0_t3_loop.trips) : FVec F S128x128 .bf16 :=
  k0_pay27 v2 v3 (View.ld x3 (Rect.unit (s := S1x2304x512) (k0_off27 k) S1x128x128.size (k0_off27_inb k))) (View.ld x6 (Rect.unit (s := S2048x128) (k0_off18 k) S128x128.size (k0_off18_inb k))) (View.ld x7 (Rect.unit (s := S2048x128) (k0_off18 k) S128x128.size (k0_off18_inb k)))
/-- and with the other head's lanes zeroed. -/
def q3b (x3 : Vec F S1x2304x512 .bf16) (x6 x7 : Vec F S2048x128 .f32) (v2 : IVec S128x128 1) (v3 : FVec F S128x128 .bf16) (k : Fin k0_t3_loop.trips) : FVec F S128x128 .bf16 :=
  k0_pay28 v2 v3 (View.ld x3 (Rect.unit (s := S1x2304x512) (k0_off27 k) S1x128x128.size (k0_off27_inb k))) (View.ld x6 (Rect.unit (s := S2048x128) (k0_off18 k) S128x128.size (k0_off18_inb k))) (View.ld x7 (Rect.unit (s := S2048x128) (k0_off18 k) S128x128.size (k0_off18_inb k)))
/-- The scores of the second group of heads at loop trip `k`. -/
def qkBL (x3 : Vec F S1x2304x512 .bf16) (x4 : Vec F S1x2304x256 .bf16) (x6 x7 : Vec F S2048x128 .f32) (x8 : Vec F S3x384x128 .bf16) (kr : Vec F S2048x256 .bf16) (v2 : IVec S128x128 1) (v3 : FVec F S128x128 .bf16) (v27 : FVec F S512x128 .bf16) (k : Fin k0_t3_loop.trips) : List (View.Piece (Elt F) S640x512 .f32) :=
  [⟨rCtx, k0_pay31 (k0_pay25 v2 v3 (q2 x3 x6 x7 k)) (k0_pay26 v2 v3 (q2 x3 x6 x7 k)) (q3a x3 x6 x7 v2 v3 k) (q3b x3 x6 x7 v2 v3 k) (View.ld x4 (Rect.unit (s := S1x2304x256) ![0, 2048, 128] S1x256x128.size inb_S1x2304x256_S1x256x128_0_2048_128))⟩,
   ⟨rLoc, k0_pay30 v27 (k0_pay25 v2 v3 (q2 x3 x6 x7 k)) (k0_pay26 v2 v3 (q2 x3 x6 x7 k)) (q3a x3 x6 x7 v2 v3 k) (q3b x3 x6 x7 v2 v3 k) (View.ld kr (Rect.unit (s := S2048x256) (k0_off28 k) S384x128.size (k0_off28_inb k))) (View.ld x8 (Rect.unit (s := S3x384x128) (k0_off21 k) S1x384x128.size (k0_off21_inb k)))⟩]
/-- The second group's scores in a turn. -/
def qkB (x3 : Vec F S1x2304x512 .bf16) (x4 : Vec F S1x2304x256 .bf16) (x6 x7 : Vec F S2048x128 .f32) (x8 : Vec F S3x384x128 .bf16) (kr : Vec F S2048x256 .bf16) (v2 : IVec S128x128 1) (v3 : FVec F S128x128 .bf16) (v27 : FVec F S512x128 .bf16) (k : Fin k0_t3_loop.trips) : Vec F S640x512 .f32 := View.canon (qkBL x3 x4 x6 x7 x8 kr v2 v3 v27 k)

/-- Two stores tile the score buffer. -/
theorem cover_qk (p0 : Vec F S256x512 .f32) (p1 : Vec F S384x512 .f32) (y : S640x512.Idx) :
    ∃ pc ∈ ([⟨rCtx, p0⟩, ⟨rLoc, p1⟩] : List (View.Piece (Elt F) S640x512 .f32)), y ∈ pc.1.set := by
  have h0 : (y 0).val < 640 := (y 0).isLt
  have h1 : (y 1).val < 512 := (y 1).isLt
  by_cases h : (y 0).val < 384
  · refine ⟨(⟨rLoc, p1⟩ : View.Piece (Elt F) S640x512 .f32), List.mem_cons_of_mem _ (List.mem_singleton_self _), ?_⟩
    refine (Rect.mem_set_unit (inb := inb_S640x512_S384x512_0_0)).mpr fun a => ?_
    match a with
    | ⟨0, _⟩ => exact ⟨Nat.zero_le _, by simpa using h⟩
    | ⟨1, _⟩ => exact ⟨Nat.zero_le _, by simpa using h1⟩
  · refine ⟨(⟨rCtx, p0⟩ : View.Piece (Elt F) S640x512 .f32), List.mem_cons_self, ?_⟩
    refine (Rect.mem_set_unit (inb := inb_S640x512_S256x512_384_0)).mpr fun a => ?_
    match a with
    | ⟨0, _⟩ => exact ⟨by simpa using h, by simpa using h0⟩
    | ⟨1, _⟩ => exact ⟨Nat.zero_le _, by simpa using h1⟩

/-- A load through the score buffer's one whole store reads that store. -/
theorem cov_p {κ : Kind} {sp : Space} (v : View sig κ sp S640x512 .bf16) (w : Vec F S640x512 .bf16) (r : Rect S640x512) :
    v.readCov [⟨rW, w⟩] r.toLoadRect = View.ld w r := by
  rw [View.readCov_eq_canon']
  exact congrArg (fun z => View.ld z r) (View.canon_unit_zero (S := S640x512) (by funext a; fin_cases a <;> rfl) inb_S640x512_S640x512_0_0 w)
/-- A write of the whole covers every read. -/
theorem cov_r {κ : Kind} {sp : Space} (v : View sig κ sp S8x512 .f32) (w : Vec F S8x512 .f32) (r : Rect S8x512) :
    v.readCov [⟨rR8, w⟩] r.toLoadRect = View.ld w r := by
  rw [View.readCov_eq_canon']
  exact congrArg (fun z => View.ld z r) (View.canon_unit_zero (S := S8x512) (by funext a; fin_cases a <;> rfl) inb_S8x512_S8x512_0_0 w)

/-- The unnormalised weights and the reciprocal of their sum, of the first group's scores `s`: -/
def pA (i : grid0.Coords) (x2 : Vec F S16 .f32) (v4 : IVec S1x512 32) (s : Vec F S640x512 .f32) : FVec F S640x512 .bf16 :=
  k0_pay68 (View.ld s rW) (k0_pay32 v4) (sinkAt x2 (k0_off22 i 0#32) (k0_off22_inb i 0)) (k0_pay33 v4) (sinkAt x2 (k0_off23 i 0#32 1#32) (k0_off23_inb i 0 0)) (k0_pay34 v4) (sinkAt x2 (k0_off23 i 0#32 2#32) (k0_off23_inb i 0 1)) (sinkAt x2 (k0_off23 i 0#32 3#32) (k0_off23_inb i 0 2))
/-- The first group's reciprocals in a turn. -/
def rA (i : grid0.Coords) (x2 : Vec F S16 .f32) (v4 : IVec S1x512 32) (s : Vec F S640x512 .f32) : FVec F S8x512 .f32 :=
  k0_pay67 (View.ld s rW) (k0_pay32 v4) (sinkAt x2 (k0_off22 i 0#32) (k0_off22_inb i 0)) (k0_pay33 v4) (sinkAt x2 (k0_off23 i 0#32 1#32) (k0_off23_inb i 0 0)) (k0_pay34 v4) (sinkAt x2 (k0_off23 i 0#32 2#32) (k0_off23_inb i 0 1)) (sinkAt x2 (k0_off23 i 0#32 3#32) (k0_off23_inb i 0 2))
/-- and of the second group's. -/
def pB (i : grid0.Coords) (x2 : Vec F S16 .f32) (v4 : IVec S1x512 32) (s : Vec F S640x512 .f32) : FVec F S640x512 .bf16 :=
  k0_pay20 v4 (View.ld s rW) (k0_pay14 v4) (sinkAt x2 (k0_off22 i 4#32) (k0_off22_inb i 1)) (k0_pay15 v4) (sinkAt x2 (k0_off23 i 4#32 1#32) (k0_off23_inb i 1 0)) (sinkAt x2 (k0_off23 i 4#32 2#32) (k0_off23_inb i 1 1)) (sinkAt x2 (k0_off23 i 4#32 3#32) (k0_off23_inb i 1 2))
/-- The second group's reciprocals in a turn. -/
def rB (i : grid0.Coords) (x2 : Vec F S16 .f32) (v4 : IVec S1x512 32) (s : Vec F S640x512 .f32) : FVec F S8x512 .f32 :=
  k0_pay19 v4 (View.ld s rW) (k0_pay14 v4) (sinkAt x2 (k0_off22 i 4#32) (k0_off22_inb i 1)) (k0_pay15 v4) (sinkAt x2 (k0_off23 i 4#32 1#32) (k0_off23_inb i 1 0)) (sinkAt x2 (k0_off23 i 4#32 2#32) (k0_off23_inb i 1 1)) (sinkAt x2 (k0_off23 i 4#32 3#32) (k0_off23_inb i 1 2))

/-- The two stores of trip `k` into the result, from the weights they find. -/
def oA (vt : Vec F S2x64x2304 .bf16) (p : Vec F S640x512 .bf16) (r : Vec F S8x512 .f32) (k : Fin k0_t3_loop.trips) : View.Piece (Elt F) S1x2048x512 .bf16 :=
  ⟨Rect.unit (s := S1x2048x512) (k0_off16 k) S1x128x256.size (k0_off16_inb k),
    k0_pay3 (View.ld vt (Rect.unit (s := S2x64x2304) (k0_off15 k) S1x64x384.size (k0_off15_inb k))) (View.ld p rLoc) (View.ld vt (Rect.unit (s := S2x64x2304) ![0, 0, 2048] S1x64x256.size inb_S2x64x2304_S1x64x256_0_0_2048)) (View.ld p rCtx) (View.ld r rR1)⟩
/-- The second group's piece in a turn. -/
def oB (vt : Vec F S2x64x2304 .bf16) (p : Vec F S640x512 .bf16) (r : Vec F S8x512 .f32) (k : Fin k0_t3_loop.trips) : View.Piece (Elt F) S1x2048x512 .bf16 :=
  ⟨Rect.unit (s := S1x2048x512) (k0_off25 k) S1x128x256.size (k0_off25_inb k),
    k0_pay21 (View.ld vt (Rect.unit (s := S2x64x2304) (k0_off24 k) S1x64x384.size (k0_off24_inb k))) (View.ld p rLoc) (View.ld vt (Rect.unit (s := S2x64x2304) ![1, 0, 2048] S1x64x256.size inb_S2x64x2304_S1x64x256_1_0_2048)) (View.ld p rCtx) (View.ld r rR1)⟩

/-! ## What the carried buffers hold before trip `n` -/

/-- The second group's scores, -/
def stS (x3 : Vec F S1x2304x512 .bf16) (x4 : Vec F S1x2304x256 .bf16) (x6 x7 : Vec F S2048x128 .f32) (x8 : Vec F S3x384x128 .bf16) (kr : Vec F S2048x256 .bf16) (v2 : IVec S128x128 1) (v3 : FVec F S128x128 .bf16) (v27 : FVec F S512x128 .bf16) (s0 : Vec F S640x512 .f32) : ℕ → Vec F S640x512 .f32
  | 0 => s0
  | n + 1 => if h : n < k0_t3_loop.trips then qkB x3 x4 x6 x7 x8 kr v2 v3 v27 ⟨n, h⟩ else s0
/-- the first group's weights, -/
def stP (i : grid0.Coords) (x2 : Vec F S16 .f32) (x3 : Vec F S1x2304x512 .bf16) (x4 : Vec F S1x2304x256 .bf16) (x6 x7 : Vec F S2048x128 .f32) (x8 : Vec F S3x384x128 .bf16) (kr : Vec F S2048x256 .bf16) (v2 : IVec S128x128 1) (v3 : FVec F S128x128 .bf16) (v27 : FVec F S512x128 .bf16) (v4 : IVec S1x512 32) (p0 : Vec F S640x512 .bf16) : ℕ → Vec F S640x512 .bf16
  | 0 => p0
  | n + 1 => if h : n < k0_t3_loop.trips then pA i x2 v4 (qkA x3 x4 x6 x7 x8 kr v2 v3 v27 ⟨n, h⟩) else p0
/-- the reciprocals of their sums, -/
def stR (i : grid0.Coords) (x2 : Vec F S16 .f32) (x3 : Vec F S1x2304x512 .bf16) (x4 : Vec F S1x2304x256 .bf16) (x6 x7 : Vec F S2048x128 .f32) (x8 : Vec F S3x384x128 .bf16) (kr : Vec F S2048x256 .bf16) (v2 : IVec S128x128 1) (v3 : FVec F S128x128 .bf16) (v27 : FVec F S512x128 .bf16) (v4 : IVec S1x512 32) (r0 : Vec F S8x512 .f32) : ℕ → Vec F S8x512 .f32
  | 0 => r0
  | n + 1 => if h : n < k0_t3_loop.trips then rA i x2 v4 (qkA x3 x4 x6 x7 x8 kr v2 v3 v27 ⟨n, h⟩) else r0
/-- and the pieces of the result stored so far, last first. -/
def outL (i : grid0.Coords) (x2 : Vec F S16 .f32) (x3 : Vec F S1x2304x512 .bf16) (x4 : Vec F S1x2304x256 .bf16) (x6 x7 : Vec F S2048x128 .f32) (x8 : Vec F S3x384x128 .bf16) (kr : Vec F S2048x256 .bf16) (vt : Vec F S2x64x2304 .bf16) (v2 : IVec S128x128 1) (v3 : FVec F S128x128 .bf16) (v27 : FVec F S512x128 .bf16) (v4 : IVec S1x512 32)
    (s0 : Vec F S640x512 .f32) (p0 : Vec F S640x512 .bf16) (r0 : Vec F S8x512 .f32) : ℕ → List (View.Piece (Elt F) S1x2048x512 .bf16)
  | 0 => []
  | n + 1 => if h : n < k0_t3_loop.trips then
      oB vt (pB i x2 v4 (stS x3 x4 x6 x7 x8 kr v2 v3 v27 s0 n)) (rB i x2 v4 (stS x3 x4 x6 x7 x8 kr v2 v3 v27 s0 n)) ⟨n, h⟩
        :: oA vt (stP i x2 x3 x4 x6 x7 x8 kr v2 v3 v27 v4 p0 n) (stR i x2 x3 x4 x6 x7 x8 kr v2 v3 v27 v4 r0 n) ⟨n, h⟩
        :: outL i x2 x3 x4 x6 x7 x8 kr vt v2 v3 v27 v4 s0 p0 r0 n
    else outL i x2 x3 x4 x6 x7 x8 kr vt v2 v3 v27 v4 s0 p0 r0 n

/-- The scores after one more turn, -/
theorem stS_succ (x3 : Vec F S1x2304x512 .bf16) (x4 : Vec F S1x2304x256 .bf16) (x6 x7 : Vec F S2048x128 .f32) (x8 : Vec F S3x384x128 .bf16) (kr : Vec F S2048x256 .bf16) (v2 : IVec S128x128 1) (v3 : FVec F S128x128 .bf16) (v27 : FVec F S512x128 .bf16) (s0 : Vec F S640x512 .f32) (k : Fin k0_t3_loop.trips) :
    stS x3 x4 x6 x7 x8 kr v2 v3 v27 s0 (k.val + 1) = qkB x3 x4 x6 x7 x8 kr v2 v3 v27 k := dif_pos k.isLt
/-- the weights, -/
theorem stP_succ (i : grid0.Coords) (x2 : Vec F S16 .f32) (x3 : Vec F S1x2304x512 .bf16) (x4 : Vec F S1x2304x256 .bf16) (x6 x7 : Vec F S2048x128 .f32) (x8 : Vec F S3x384x128 .bf16) (kr : Vec F S2048x256 .bf16) (v2 : IVec S128x128 1) (v3 : FVec F S128x128 .bf16) (v27 : FVec F S512x128 .bf16) (v4 : IVec S1x512 32) (p0 : Vec F S640x512 .bf16) (k : Fin k0_t3_loop.trips) :
    stP i x2 x3 x4 x6 x7 x8 kr v2 v3 v27 v4 p0 (k.val + 1) = pA i x2 v4 (qkA x3 x4 x6 x7 x8 kr v2 v3 v27 k) := dif_pos k.isLt
/-- the reciprocals -/
theorem stR_succ (i : grid0.Coords) (x2 : Vec F S16 .f32) (x3 : Vec F S1x2304x512 .bf16) (x4 : Vec F S1x2304x256 .bf16) (x6 x7 : Vec F S2048x128 .f32) (x8 : Vec F S3x384x128 .bf16) (kr : Vec F S2048x256 .bf16) (v2 : IVec S128x128 1) (v3 : FVec F S128x128 .bf16) (v27 : FVec F S512x128 .bf16) (v4 : IVec S1x512 32) (r0 : Vec F S8x512 .f32) (k : Fin k0_t3_loop.trips) :
    stR i x2 x3 x4 x6 x7 x8 kr v2 v3 v27 v4 r0 (k.val + 1) = rA i x2 v4 (qkA x3 x4 x6 x7 x8 kr v2 v3 v27 k) := dif_pos k.isLt
/-- and the pieces written. -/
theorem outL_succ (i : grid0.Coords) (x2 : Vec F S16 .f32) (x3 : Vec F S1x2304x512 .bf16) (x4 : Vec F S1x2304x256 .bf16) (x6 x7 : Vec F S2048x128 .f32) (x8 : Vec F S3x384x128 .bf16) (kr : Vec F S2048x256 .bf16) (vt : Vec F S2x64x2304 .bf16) (v2 : IVec S128x128 1) (v3 : FVec F S128x128 .bf16) (v27 : FVec F S512x128 .bf16) (v4 : IVec S1x512 32)
    (s0 : Vec F S640x512 .f32) (p0 : Vec F S640x512 .bf16) (r0 : Vec F S8x512 .f32) (k : Fin k0_t3_loop.trips) :
    outL i x2 x3 x4 x6 x7 x8 kr vt v2 v3 v27 v4 s0 p0 r0 (k.val + 1)
      = oB vt (pB i x2 v4 (stS x3 x4 x6 x7 x8 kr v2 v3 v27 s0 k.val)) (rB i x2 v4 (stS x3 x4 x6 x7 x8 kr v2 v3 v27 s0 k.val)) k
        :: oA vt (stP i x2 x3 x4 x6 x7 x8 kr v2 v3 v27 v4 p0 k.val) (stR i x2 x3 x4 x6 x7 x8 kr v2 v3 v27 v4 r0 k.val) k
        :: outL i x2 x3 x4 x6 x7 x8 kr vt v2 v3 v27 v4 s0 p0 r0 k.val := dif_pos k.isLt

/-! ## The loop by its invariant -/

/-- Before trip `k`: the inputs and the two prepared tables as the loop found them; the result holding the pieces stored
    so far; the second group's scores, the first group's weights and their reciprocals at the values the previous trip
    (or the code before the loop) left; the other three buffers at anything. -/
abbrev inv (c : Dev nD) (i : grid0.Coords) (arg2 : Memref sig .tc .smem S16 .f32) (harg2 : arg2.IsWhole) (arg3 : Memref sig .tc .vmem S1x2304x512 .bf16) (harg3 : arg3.IsWhole) (arg4 : Memref sig .tc .vmem S1x2304x256 .bf16) (harg4 : arg4.IsWhole) (arg5 : Memref sig .tc .vmem S1x2304x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S3x384x128 .bf16) (harg8 : arg8.IsWhole) (arg9 : Memref sig .tc .vmem S1x2048x512 .bf16) (harg9 : arg9.IsWhole) (arg10 : Memref sig .tc .vmem S2048x256 .bf16) (harg10 : arg10.IsWhole) (arg11 : Memref sig .tc .vmem S2x64x2304 .bf16) (harg11 : arg11.IsWhole) (arg12 : Memref sig .tc .vmem S640x512 .f32) (harg12 : arg12.IsWhole) (arg13 : Memref sig .tc .vmem S640x512 .f32) (harg13 : arg13.IsWhole) (arg14 : Memref sig .tc .vmem S640x512 .bf16) (harg14 : arg14.IsWhole) (arg15 : Memref sig .tc .vmem S640x512 .bf16) (harg15 : arg15.IsWhole) (arg16 : Memref sig .tc .vmem S8x512 .f32) (harg16 : arg16.IsWhole) (arg17 : Memref sig .tc .vmem S8x512 .f32) (harg17 : arg17.IsWhole) (arg1 : BitVec 32) (v2 : IVec S128x128 1) (v3 : FVec F S128x128 .bf16) (v4 : IVec S1x512 32) (v27 : FVec F S512x128 .bf16) (v274 : FVec F S640x512 .f32) (v279 : FVec F S1x512 .f32) (cst_109 : F .f32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X10 : BufTy.Contents (Elt F) arg10.view.ty) (X11 : BufTy.Contents (Elt F) arg11.view.ty) (G9 : BufTy.Contents (Elt F) arg9.view.ty) (s0 : Vec F S640x512 .f32) (p0 : Vec F S640x512 .bf16) (r0 : Vec F S8x512 .f32) (k : ℕ) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg10.view.loc (c : Thread nD τ) ↦[arg10.view.set]{fullShare} X10) ∗ (arg11.view.loc (c : Thread nD τ) ↦[arg11.view.set]{fullShare} X11)
    ∗ (∃ f, (arg9.view.loc (c : Thread nD τ) ↦[arg9.view.set]{fullShare} f) ∗ ⌜f = arg9.view.writes (Elt F) G9 (outL i (arg2.view.read (Elt F) X2) (arg3.view.read (Elt F) X3) (arg4.view.read (Elt F) X4) (arg6.view.read (Elt F) X6) (arg7.view.read (Elt F) X7) (arg8.view.read (Elt F) X8) (arg10.view.read (Elt F) X10) (arg11.view.read (Elt F) X11) v2 v3 v27 v4 s0 p0 r0 k)⌝)
    ∗ (∃ f, (arg12.view.loc (c : Thread nD τ) ↦[arg12.view.set]{fullShare} f))
    ∗ (∃ f, (arg13.view.loc (c : Thread nD τ) ↦[arg13.view.set]{fullShare} f) ∗ ⌜arg13.view.read (Elt F) f = stS (arg3.view.read (Elt F) X3) (arg4.view.read (Elt F) X4) (arg6.view.read (Elt F) X6) (arg7.view.read (Elt F) X7) (arg8.view.read (Elt F) X8) (arg10.view.read (Elt F) X10) v2 v3 v27 s0 k⌝)
    ∗ (∃ f, (arg14.view.loc (c : Thread nD τ) ↦[arg14.view.set]{fullShare} f) ∗ ⌜arg14.view.read (Elt F) f = stP i (arg2.view.read (Elt F) X2) (arg3.view.read (Elt F) X3) (arg4.view.read (Elt F) X4) (arg6.view.read (Elt F) X6) (arg7.view.read (Elt F) X7) (arg8.view.read (Elt F) X8) (arg10.view.read (Elt F) X10) v2 v3 v27 v4 p0 k⌝)
    ∗ (∃ f, (arg15.view.loc (c : Thread nD τ) ↦[arg15.view.set]{fullShare} f))
    ∗ (∃ f, (arg16.view.loc (c : Thread nD τ) ↦[arg16.view.set]{fullShare} f) ∗ ⌜arg16.view.read (Elt F) f = stR i (arg2.view.read (Elt F) X2) (arg3.view.read (Elt F) X3) (arg4.view.read (Elt F) X4) (arg6.view.read (Elt F) X6) (arg7.view.read (Elt F) X7) (arg8.view.read (Elt F) X8) (arg10.view.read (Elt F) X10) v2 v3 v27 v4 r0 k⌝)
    ∗ (∃ f, (arg17.view.loc (c : Thread nD τ) ↦[arg17.view.set]{fullShare} f)))

set_option warn.classDefReducibility false in
set_option maxHeartbeats 8000000 in
/-- One trip takes the invariant at its trip to the invariant at the next. -/
@[sl_loop] def loopInv_k0_t3 (c : Dev nD) (E : Set ℕ) (i : grid0.Coords) (arg2 : Memref sig .tc .smem S16 .f32) (harg2 : arg2.IsWhole) (arg3 : Memref sig .tc .vmem S1x2304x512 .bf16) (harg3 : arg3.IsWhole) (arg4 : Memref sig .tc .vmem S1x2304x256 .bf16) (harg4 : arg4.IsWhole) (arg5 : Memref sig .tc .vmem S1x2304x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S3x384x128 .bf16) (harg8 : arg8.IsWhole) (arg9 : Memref sig .tc .vmem S1x2048x512 .bf16) (harg9 : arg9.IsWhole) (arg10 : Memref sig .tc .vmem S2048x256 .bf16) (harg10 : arg10.IsWhole) (arg11 : Memref sig .tc .vmem S2x64x2304 .bf16) (harg11 : arg11.IsWhole) (arg12 : Memref sig .tc .vmem S640x512 .f32) (harg12 : arg12.IsWhole) (arg13 : Memref sig .tc .vmem S640x512 .f32) (harg13 : arg13.IsWhole) (arg14 : Memref sig .tc .vmem S640x512 .bf16) (harg14 : arg14.IsWhole) (arg15 : Memref sig .tc .vmem S640x512 .bf16) (harg15 : arg15.IsWhole) (arg16 : Memref sig .tc .vmem S8x512 .f32) (harg16 : arg16.IsWhole) (arg17 : Memref sig .tc .vmem S8x512 .f32) (harg17 : arg17.IsWhole) (arg1 : BitVec 32) (v2 : IVec S128x128 1) (v3 : FVec F S128x128 .bf16) (v4 : IVec S1x512 32) (v27 : FVec F S512x128 .bf16) (v274 : FVec F S640x512 .f32) (v279 : FVec F S1x512 .f32) (cst_109 : F .f32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X10 : BufTy.Contents (Elt F) arg10.view.ty) (X11 : BufTy.Contents (Elt F) arg11.view.ty) (G9 : BufTy.Contents (Elt F) arg9.view.ty) (s0 : Vec F S640x512 .f32) (p0 : Vec F S640x512 .bf16) (r0 : Vec F S8x512 .f32) :
    LoopInvTy_k0_t3 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v3 v4 v27 v274 v279 cst_109 where
  inv := fun k _ => inv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v2 v3 v4 v27 v274 v279 cst_109 X2 X3 X4 X5 X6 X7 X8 X10 X11 G9 s0 p0 r0 k
  step k acc := by
    have hk : k.val < 15 := Nat.lt_of_lt_of_le k.isLt k0_t3_abs.2.1
    unfold inv k0_t3_body
    iintro ⟨H2, H3, H4, H5, H6, H7, H8, H10, H11, ⟨%f9, H9, %h9⟩, ⟨%f12, H12⟩, ⟨%f13, H13, %h13⟩, ⟨%f14, H14, %h14⟩, ⟨%f15, H15⟩, ⟨%f16, H16, %h16⟩, ⟨%f17, H17⟩⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    isplitl [H11]; · iexact H11
    isplitl [H9]
    · iexists _; isplitl [H9]; · iexact H9
      ipureintro
      have e1 : loopInv_k0_t3.sl.v612 c i arg2 arg13 arg15 v4 X2 f13 = View.ld (pB i (arg2.view.read (Elt F) X2) v4 (arg13.view.read (Elt F) f13)) rLoc := cov_p arg15.view _ _
      have e2 : loopInv_k0_t3.sl.v616 c i arg2 arg13 arg15 v4 X2 f13 = View.ld (pB i (arg2.view.read (Elt F) X2) v4 (arg13.view.read (Elt F) f13)) rCtx := cov_p arg15.view _ _
      have e3 : loopInv_k0_t3.sl.v619 c i arg2 arg13 arg17 v4 X2 f13 = View.ld (rB i (arg2.view.read (Elt F) X2) v4 (arg13.view.read (Elt F) f13)) rR1 := cov_r arg17.view _ _
      have e4 : loopInv_k0_t3.sl.v635 c i arg2 arg11 arg13 arg15 arg17 v4 X2 X11 k f13
          = (oB (arg11.view.read (Elt F) X11) (pB i (arg2.view.read (Elt F) X2) v4 (arg13.view.read (Elt F) f13)) (rB i (arg2.view.read (Elt F) X2) v4 (arg13.view.read (Elt F) f13)) k).2 := by
        change k0_pay21 _ (loopInv_k0_t3.sl.v612 c i arg2 arg13 arg15 v4 X2 f13) _ (loopInv_k0_t3.sl.v616 c i arg2 arg13 arg15 v4 X2 f13) (loopInv_k0_t3.sl.v619 c i arg2 arg13 arg17 v4 X2 f13) = _
        rw [e1, e2, e3]
        rfl
      have e5 : loopInv_k0_t3.sl.v439 c arg11 arg14 arg16 X11 k f14 f16
          = (oA (arg11.view.read (Elt F) X11) (arg14.view.read (Elt F) f14) (arg16.view.read (Elt F) f16) k).2 := rfl
      rw [e4, e5, outL_succ, ← h13, ← h14, ← h16, View.writes_cons (f := G9), View.writes_cons (f := G9), ← h9]
      rfl
    isplitl [H12]; · iexists _; iexact H12
    isplitl [H13]
    · iexists _; isplitl [H13]; · iexact H13
      ipureintro
      rw [stS_succ]
      exact View.read_writes_eq_canon _ _ _ (cover_qk _ _)
    isplitl [H14]
    · iexists _; isplitl [H14]; · iexact H14
      ipureintro
      have e1 : loopInv_k0_t3.sl.v746 arg3 arg4 arg6 arg7 arg8 arg10 arg12 v2 v3 v27 X3 X4 X6 X7 X8 X10 k = View.ld (qkA (arg3.view.read (Elt F) X3) (arg4.view.read (Elt F) X4) (arg6.view.read (Elt F) X6) (arg7.view.read (Elt F) X7) (arg8.view.read (Elt F) X8) (arg10.view.read (Elt F) X10) v2 v3 v27 k) rW := View.readCov_eq_canon' _ _ _
      rw [stP_succ, View.read_writes_full, e1]
      rfl
    isplitl [H15]; · iexists _; iexact H15
    isplitl [H16]
    · iexists _; isplitl [H16]; · iexact H16
      ipureintro
      have e1 : loopInv_k0_t3.sl.v746 arg3 arg4 arg6 arg7 arg8 arg10 arg12 v2 v3 v27 X3 X4 X6 X7 X8 X10 k = View.ld (qkA (arg3.view.read (Elt F) X3) (arg4.view.read (Elt F) X4) (arg6.view.read (Elt F) X6) (arg7.view.read (Elt F) X7) (arg8.view.read (Elt F) X8) (arg10.view.read (Elt F) X10) v2 v3 v27 k) rW := View.readCov_eq_canon' _ _ _
      rw [stR_succ, View.read_writes_full, e1]
      rfl
    iexists _; iexact H17

end Cert.KernelIdeal.Swa

end
-- ==== Proof.SwaIdealBody.lean ====
module

public import proofs.«01_k».proof.Proof.SwaIdealLoop

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The two small loops: the rotated keys and the transposed values -/

/-- The pieces of the rotated keys stored before trip `n`, last first. -/
def krL (x4 : Vec F S1x2304x256 .bf16) (x6 x7 : Vec F S2048x128 .f32) : ℕ → List (View.Piece (Elt F) S2048x256 .bf16)
  | 0 => []
  | n + 1 => if h : n < k0_t1_loop.trips then
      ⟨Rect.unit (s := S2048x256) (k0_off5 ⟨n, h⟩) S256x128.size (k0_off5_inb ⟨n, h⟩),
        k0_pay38 (View.ld x4 (Rect.unit (s := S1x2304x256) (k0_off4 ⟨n, h⟩) S1x256x128.size (k0_off4_inb ⟨n, h⟩))) (View.ld x6 (Rect.unit (s := S2048x128) (k0_off2 ⟨n, h⟩) S256x128.size (k0_off2_inb ⟨n, h⟩))) (View.ld x7 (Rect.unit (s := S2048x128) (k0_off2 ⟨n, h⟩) S256x128.size (k0_off2_inb ⟨n, h⟩)))⟩
      :: ⟨Rect.unit (s := S2048x256) (k0_off3 ⟨n, h⟩) S256x128.size (k0_off3_inb ⟨n, h⟩),
        k0_pay2 (View.ld x4 (Rect.unit (s := S1x2304x256) (k0_off1 ⟨n, h⟩) S1x256x128.size (k0_off1_inb ⟨n, h⟩))) (View.ld x6 (Rect.unit (s := S2048x128) (k0_off2 ⟨n, h⟩) S256x128.size (k0_off2_inb ⟨n, h⟩))) (View.ld x7 (Rect.unit (s := S2048x128) (k0_off2 ⟨n, h⟩) S256x128.size (k0_off2_inb ⟨n, h⟩)))⟩
      :: krL x4 x6 x7 n
    else krL x4 x6 x7 n
/-- The pieces of the transposed values stored before trip `n`, last first. -/
def vtL (x5 : Vec F S1x2304x256 .bf16) : ℕ → List (View.Piece (Elt F) S2x64x2304 .bf16)
  | 0 => []
  | n + 1 => if h : n < k0_t2_loop.trips then
      ⟨Rect.unit (s := S2x64x2304) (k0_off9 ⟨n, h⟩) S1x64x128.size (k0_off9_inb ⟨n, h⟩),
        k0_pay40 (View.ld x5 (Rect.unit (s := S1x2304x256) (k0_off8 ⟨n, h⟩) S1x128x128.size (k0_off8_inb ⟨n, h⟩)))⟩
      :: ⟨Rect.unit (s := S2x64x2304) (k0_off7 ⟨n, h⟩) S1x64x128.size (k0_off7_inb ⟨n, h⟩),
        k0_pay39 (View.ld x5 (Rect.unit (s := S1x2304x256) (k0_off6 ⟨n, h⟩) S1x128x128.size (k0_off6_inb ⟨n, h⟩)))⟩
      :: vtL x5 n
    else vtL x5 n
/-- The rotated keys, -/
def kr (x4 : Vec F S1x2304x256 .bf16) (x6 x7 : Vec F S2048x128 .f32) : Vec F S2048x256 .bf16 := View.canon (krL x4 x6 x7 k0_t1_loop.trips)
/-- and the transposed values. -/
def vt (x5 : Vec F S1x2304x256 .bf16) : Vec F S2x64x2304 .bf16 := View.canon (vtL x5 k0_t2_loop.trips)

/-! ## Before the main loop: the scores of the first tile -/

/-- The lane numbers the sinks are laid out by. -/
abbrev lane : IVec S1x512 32 := iota .tc S1x512 32 [1] iota_S1x512_d1_w32
/-- The first group's queries of the first tile, stacked. -/
def qA0 (x3 : Vec F S1x2304x512 .bf16) (x6 x7 : Vec F S2048x128 .f32) : FVec F S512x128 .bf16 :=
  k0_pay42 k0_pay35 k0_pay36 (k0_pay41 (View.ld x3 (Rect.unit (s := S1x2304x512) ![0, 0, 0] S1x128x128.size inb_S1x2304x512_S1x128x128_0_0_0)) (View.ld x6 (Rect.unit (s := S2048x128) ![0, 0] S128x128.size inb_S2048x128_S128x128_0_0)) (View.ld x7 (Rect.unit (s := S2048x128) ![0, 0] S128x128.size inb_S2048x128_S128x128_0_0))) (View.ld x3 (Rect.unit (s := S1x2304x512) ![0, 0, 128] S1x128x128.size inb_S1x2304x512_S1x128x128_0_0_128)) (View.ld x6 (Rect.unit (s := S2048x128) ![0, 0] S128x128.size inb_S2048x128_S128x128_0_0)) (View.ld x7 (Rect.unit (s := S2048x128) ![0, 0] S128x128.size inb_S2048x128_S128x128_0_0))
/-- The first group's scores of the first tile. -/
def sA0 (x3 : Vec F S1x2304x512 .bf16) (x4 : Vec F S1x2304x256 .bf16) (x6 x7 : Vec F S2048x128 .f32) (x8 : Vec F S3x384x128 .bf16) (kr : Vec F S2048x256 .bf16) : Vec F S640x512 .f32 := View.canon
  [⟨rCtx, k0_pay44 (qA0 x3 x6 x7) (View.ld x4 (Rect.unit (s := S1x2304x256) ![0, 2048, 0] S1x256x128.size inb_S1x2304x256_S1x256x128_0_2048_0))⟩,
   ⟨rLoc, k0_pay43 k0_pay37 (qA0 x3 x6 x7) (View.ld kr (Rect.unit (s := S2048x256) k0_off10 S384x128.size k0_off10_inb)) (View.ld x8 (Rect.unit (s := S3x384x128) k0_off11 S1x384x128.size k0_off11_inb))⟩]
/-- The rotated query of the second group's first two heads. -/
def qB0 (x3 : Vec F S1x2304x512 .bf16) (x6 x7 : Vec F S2048x128 .f32) : FVec F S128x128 .f32 :=
  k0_pay48 (k0_pay45 (View.ld x3 (Rect.unit (s := S1x2304x512) ![0, 0, 256] S1x128x128.size inb_S1x2304x512_S1x128x128_0_0_256))) (iota .tc S128x128 32 [1] iota_S128x128_d1_w32) (k0_pay46 (View.ld x3 (Rect.unit (s := S1x2304x512) ![0, 0, 256] S1x128x128.size inb_S1x2304x512_S1x128x128_0_0_256)) (View.ld x6 (Rect.unit (s := S2048x128) ![0, 0] S128x128.size inb_S2048x128_S128x128_0_0))) (k0_pay47 (View.ld x3 (Rect.unit (s := S1x2304x512) ![0, 0, 256] S1x128x128.size inb_S1x2304x512_S1x128x128_0_0_256))) (View.ld x7 (Rect.unit (s := S2048x128) ![0, 0] S128x128.size inb_S2048x128_S128x128_0_0))
/-- The second group's scores of the first tile. -/
def sB0 (x3 : Vec F S1x2304x512 .bf16) (x4 : Vec F S1x2304x256 .bf16) (x6 x7 : Vec F S2048x128 .f32) (x8 : Vec F S3x384x128 .bf16) (kr : Vec F S2048x256 .bf16) : Vec F S640x512 .f32 := View.canon
  [⟨rCtx, k0_pay57 (k0_pay56 k0_pay35 k0_pay36 (qB0 x3 x6 x7) (k0_pay50 (View.ld x3 (Rect.unit (s := S1x2304x512) ![0, 0, 384] S1x128x128.size inb_S1x2304x512_S1x128x128_0_0_384)) (View.ld x6 (Rect.unit (s := S2048x128) ![0, 0] S128x128.size inb_S2048x128_S128x128_0_0))) (k0_pay51 (View.ld x3 (Rect.unit (s := S1x2304x512) ![0, 0, 384] S1x128x128.size inb_S1x2304x512_S1x128x128_0_0_384))) (k0_pay52 (View.ld x3 (Rect.unit (s := S1x2304x512) ![0, 0, 384] S1x128x128.size inb_S1x2304x512_S1x128x128_0_0_384))) (Scalar.select (Scalar.cmpi .eq 32#32 0#32) 1#32 32#32) k0_pay53 (View.ld x7 (Rect.unit (s := S2048x128) ![0, 0] S128x128.size inb_S2048x128_S128x128_0_0)) (View.ld x4 (Rect.unit (s := S1x2304x256) ![0, 2048, 128] S1x256x128.size inb_S1x2304x256_S1x256x128_0_2048_128)))⟩,
   ⟨rLoc, k0_pay55 k0_pay35 k0_pay36 k0_pay37 (qB0 x3 x6 x7) (k0_pay50 (View.ld x3 (Rect.unit (s := S1x2304x512) ![0, 0, 384] S1x128x128.size inb_S1x2304x512_S1x128x128_0_0_384)) (View.ld x6 (Rect.unit (s := S2048x128) ![0, 0] S128x128.size inb_S2048x128_S128x128_0_0))) (k0_pay51 (View.ld x3 (Rect.unit (s := S1x2304x512) ![0, 0, 384] S1x128x128.size inb_S1x2304x512_S1x128x128_0_0_384))) (k0_pay52 (View.ld x3 (Rect.unit (s := S1x2304x512) ![0, 0, 384] S1x128x128.size inb_S1x2304x512_S1x128x128_0_0_384))) (Scalar.select (Scalar.cmpi .eq 32#32 0#32) 1#32 32#32) k0_pay53 (View.ld x7 (Rect.unit (s := S2048x128) ![0, 0] S128x128.size inb_S2048x128_S128x128_0_0)) (View.ld kr (Rect.unit (s := S2048x256) k0_off12 S384x128.size k0_off12_inb)) (View.ld x8 (Rect.unit (s := S3x384x128) k0_off11 S1x384x128.size k0_off11_inb))⟩]
/-- The first group's weights of the first tile, -/
def pA0 (i : grid0.Coords) (x2 : Vec F S16 .f32) (s : Vec F S640x512 .f32) : FVec F S640x512 .bf16 :=
  k0_pay63 (k0_pay60 lane (View.ld s rW) (sinkAt x2 (k0_off13 i 0#32) (k0_off13_inb i 0)) (sinkAt x2 (k0_off14 i 0#32 1#32) (k0_off14_inb i 0 0)) (sinkAt x2 (k0_off14 i 0#32 2#32) (k0_off14_inb i 0 1)) (sinkAt x2 (k0_off14 i 0#32 3#32) (k0_off14_inb i 0 2)))
/-- and the reciprocals of their sums. -/
def rA0 (i : grid0.Coords) (x2 : Vec F S16 .f32) (s : Vec F S640x512 .f32) : FVec F S8x512 .f32 :=
  k0_pay62 (k0_pay61 lane (View.ld s rW) (sinkAt x2 (k0_off13 i 0#32) (k0_off13_inb i 0)) (sinkAt x2 (k0_off14 i 0#32 1#32) (k0_off14_inb i 0 0)) (sinkAt x2 (k0_off14 i 0#32 2#32) (k0_off14_inb i 0 1)) (sinkAt x2 (k0_off14 i 0#32 3#32) (k0_off14_inb i 0 2))) (Scalar.ofBits .f32 0x3F800000#32)

/-! ## After it: the last tile's results -/

/-- The second group's weights of the last tile, -/
def pBz (i : grid0.Coords) (x2 : Vec F S16 .f32) (s : Vec F S640x512 .f32) : FVec F S640x512 .bf16 :=
  k0_pay77 (k0_pay74 lane (View.ld s rW) (sinkAt x2 (k0_off13 i 4#32) (k0_off13_inb i 1)) (sinkAt x2 (k0_off14 i 4#32 1#32) (k0_off14_inb i 1 0)) (sinkAt x2 (k0_off14 i 4#32 2#32) (k0_off14_inb i 1 1)) (sinkAt x2 (k0_off14 i 4#32 3#32) (k0_off14_inb i 1 2)))
/-- and the reciprocals of their sums. -/
def rBz (i : grid0.Coords) (x2 : Vec F S16 .f32) (s : Vec F S640x512 .f32) : FVec F S8x512 .f32 :=
  k0_pay76 (k0_pay72 lane (sinkAt x2 (k0_off13 i 4#32) (k0_off13_inb i 1)) (sinkAt x2 (k0_off14 i 4#32 1#32) (k0_off14_inb i 1 0)) (sinkAt x2 (k0_off14 i 4#32 2#32) (k0_off14_inb i 1 1)) (sinkAt x2 (k0_off14 i 4#32 3#32) (k0_off14_inb i 1 2)))
    (k0_pay73 lane (View.ld s rW) (sinkAt x2 (k0_off13 i 4#32) (k0_off13_inb i 1)) (sinkAt x2 (k0_off14 i 4#32 1#32) (k0_off14_inb i 1 0)) (sinkAt x2 (k0_off14 i 4#32 2#32) (k0_off14_inb i 1 1)) (sinkAt x2 (k0_off14 i 4#32 3#32) (k0_off14_inb i 1 2)))
    (k0_pay74 lane (View.ld s rW) (sinkAt x2 (k0_off13 i 4#32) (k0_off13_inb i 1)) (sinkAt x2 (k0_off14 i 4#32 1#32) (k0_off14_inb i 1 0)) (sinkAt x2 (k0_off14 i 4#32 2#32) (k0_off14_inb i 1 1)) (sinkAt x2 (k0_off14 i 4#32 3#32) (k0_off14_inb i 1 2)))
/-- The last tile's two stores. -/
def oAz (vt : Vec F S2x64x2304 .bf16) (p : Vec F S640x512 .bf16) (r : Vec F S8x512 .f32) : View.Piece (Elt F) S1x2048x512 .bf16 :=
  ⟨Rect.unit (s := S1x2048x512) ![0, 1920, 0] S1x128x256.size inb_S1x2048x512_S1x128x256_0_1920_0,
    k0_pay71 (k0_pay69 (View.ld vt (Rect.unit (s := S2x64x2304) k0_off29 S1x64x384.size k0_off29_inb)) (View.ld p rLoc) (View.ld vt (Rect.unit (s := S2x64x2304) ![0, 0, 2048] S1x64x256.size inb_S2x64x2304_S1x64x256_0_0_2048)) (View.ld p rCtx) (View.ld r rR1))
      (k0_pay70 (View.ld vt (Rect.unit (s := S2x64x2304) k0_off29 S1x64x384.size k0_off29_inb)) (View.ld p rLoc) (View.ld vt (Rect.unit (s := S2x64x2304) ![0, 0, 2048] S1x64x256.size inb_S2x64x2304_S1x64x256_0_0_2048)) (View.ld p rCtx) (View.ld r rR1))⟩
/-- The second group's piece after the loop. -/
def oBz (vt : Vec F S2x64x2304 .bf16) (p : Vec F S640x512 .bf16) (r : Vec F S8x512 .f32) : View.Piece (Elt F) S1x2048x512 .bf16 :=
  ⟨Rect.unit (s := S1x2048x512) ![0, 1920, 256] S1x128x256.size inb_S1x2048x512_S1x128x256_0_1920_256,
    k0_pay1 (k0_pay78 (View.ld vt (Rect.unit (s := S2x64x2304) k0_off30 S1x64x384.size k0_off30_inb)) (View.ld p rLoc) (View.ld vt (Rect.unit (s := S2x64x2304) ![1, 0, 2048] S1x64x256.size inb_S2x64x2304_S1x64x256_1_0_2048)) (View.ld p rCtx) (View.ld r rR1))
      (k0_pay79 (View.ld vt (Rect.unit (s := S2x64x2304) k0_off30 S1x64x384.size k0_off30_inb)) (View.ld p rLoc) (View.ld vt (Rect.unit (s := S2x64x2304) ![1, 0, 2048] S1x64x256.size inb_S2x64x2304_S1x64x256_1_0_2048)) (View.ld p rCtx) (View.ld r rR1))⟩

/-- The carried buffers after the loop: the second group's scores, -/
def zS (i : grid0.Coords) (x2 : Vec F S16 .f32) (x3 : Vec F S1x2304x512 .bf16) (x4 : Vec F S1x2304x256 .bf16) (x5 : Vec F S1x2304x256 .bf16) (x6 x7 : Vec F S2048x128 .f32) (x8 : Vec F S3x384x128 .bf16) : Vec F S640x512 .f32 := stS x3 x4 x6 x7 x8 (kr x4 x6 x7) k0_pay35 k0_pay36 k0_pay37 (sB0 x3 x4 x6 x7 x8 (kr x4 x6 x7)) k0_t3_loop.trips
/-- the first group's weights, -/
def zP (i : grid0.Coords) (x2 : Vec F S16 .f32) (x3 : Vec F S1x2304x512 .bf16) (x4 : Vec F S1x2304x256 .bf16) (x5 : Vec F S1x2304x256 .bf16) (x6 x7 : Vec F S2048x128 .f32) (x8 : Vec F S3x384x128 .bf16) : Vec F S640x512 .bf16 := stP i x2 x3 x4 x6 x7 x8 (kr x4 x6 x7) k0_pay35 k0_pay36 k0_pay37 lane (pA0 i x2 (sA0 x3 x4 x6 x7 x8 (kr x4 x6 x7))) k0_t3_loop.trips
/-- and the reciprocals. -/
def zR (i : grid0.Coords) (x2 : Vec F S16 .f32) (x3 : Vec F S1x2304x512 .bf16) (x4 : Vec F S1x2304x256 .bf16) (x5 : Vec F S1x2304x256 .bf16) (x6 x7 : Vec F S2048x128 .f32) (x8 : Vec F S3x384x128 .bf16) : Vec F S8x512 .f32 := stR i x2 x3 x4 x6 x7 x8 (kr x4 x6 x7) k0_pay35 k0_pay36 k0_pay37 lane (rA0 i x2 (sA0 x3 x4 x6 x7 x8 (kr x4 x6 x7))) k0_t3_loop.trips
/-- The pieces the loop stores of the result. -/
def zL (i : grid0.Coords) (x2 : Vec F S16 .f32) (x3 : Vec F S1x2304x512 .bf16) (x4 : Vec F S1x2304x256 .bf16) (x5 : Vec F S1x2304x256 .bf16) (x6 x7 : Vec F S2048x128 .f32) (x8 : Vec F S3x384x128 .bf16) : List (View.Piece (Elt F) S1x2048x512 .bf16) :=
  outL i x2 x3 x4 x6 x7 x8 (kr x4 x6 x7) (vt x5) k0_pay35 k0_pay36 k0_pay37 lane (sB0 x3 x4 x6 x7 x8 (kr x4 x6 x7)) (pA0 i x2 (sA0 x3 x4 x6 x7 x8 (kr x4 x6 x7))) (rA0 i x2 (sA0 x3 x4 x6 x7 x8 (kr x4 x6 x7))) k0_t3_loop.trips
/-- The result's pieces, last first, -/
def outP (i : grid0.Coords) (x2 : Vec F S16 .f32) (x3 : Vec F S1x2304x512 .bf16) (x4 : Vec F S1x2304x256 .bf16) (x5 : Vec F S1x2304x256 .bf16) (x6 x7 : Vec F S2048x128 .f32) (x8 : Vec F S3x384x128 .bf16) : List (View.Piece (Elt F) S1x2048x512 .bf16) :=
  oBz (vt x5) (pBz i x2 (zS i x2 x3 x4 x5 x6 x7 x8)) (rBz i x2 (zS i x2 x3 x4 x5 x6 x7 x8))
    :: oAz (vt x5) (zP i x2 x3 x4 x5 x6 x7 x8) (zR i x2 x3 x4 x5 x6 x7 x8)
    :: zL i x2 x3 x4 x5 x6 x7 x8
/-- and the result. -/
def out (i : grid0.Coords) (x2 : Vec F S16 .f32) (x3 : Vec F S1x2304x512 .bf16) (x4 : Vec F S1x2304x256 .bf16) (x5 : Vec F S1x2304x256 .bf16) (x6 x7 : Vec F S2048x128 .f32) (x8 : Vec F S3x384x128 .bf16) : Vec F S1x2048x512 .bf16 := View.canon (outP i x2 x3 x4 x5 x6 x7 x8)

/-! ## The generated lists are these -/
theorem trip1_eq (c : Dev nD) (i : grid0.Coords) (arg2 : Memref sig .tc .smem S16 .f32) (harg2 : arg2.IsWhole) (arg3 : Memref sig .tc .vmem S1x2304x512 .bf16) (harg3 : arg3.IsWhole) (arg4 : Memref sig .tc .vmem S1x2304x256 .bf16) (harg4 : arg4.IsWhole) (arg5 : Memref sig .tc .vmem S1x2304x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S3x384x128 .bf16) (harg8 : arg8.IsWhole) (arg9 : Memref sig .tc .vmem S1x2048x512 .bf16) (harg9 : arg9.IsWhole) (arg10 : Memref sig .tc .vmem S2048x256 .bf16) (harg10 : arg10.IsWhole) (arg11 : Memref sig .tc .vmem S2x64x2304 .bf16) (harg11 : arg11.IsWhole) (arg12 : Memref sig .tc .vmem S640x512 .f32) (harg12 : arg12.IsWhole) (arg13 : Memref sig .tc .vmem S640x512 .f32) (harg13 : arg13.IsWhole) (arg14 : Memref sig .tc .vmem S640x512 .bf16) (harg14 : arg14.IsWhole) (arg15 : Memref sig .tc .vmem S640x512 .bf16) (harg15 : arg15.IsWhole) (arg16 : Memref sig .tc .vmem S8x512 .f32) (harg16 : arg16.IsWhole) (arg17 : Memref sig .tc .vmem S8x512 .f32) (harg17 : arg17.IsWhole) (X4 : BufTy.Contents (Elt F) arg4.view.ty) (X6 : BufTy.Contents (Elt F) arg6.view.ty) (X7 : BufTy.Contents (Elt F) arg7.view.ty) (n : ℕ) :
    pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X6 X7 n = krL (arg4.view.read (Elt F) X4) (arg6.view.read (Elt F) X6) (arg7.view.read (Elt F) X7) n := by
  induction n with
  | zero => rfl
  | succ n ih =>
    unfold pb_k0_t1 pb_k0_t1Step krL
    by_cases h : n < k0_t1_loop.trips
    · rw [dif_pos h, dif_pos h, ih]
      unfold tripL_k0_t1 trip_k0_t1
      rfl
    · rw [dif_neg h, dif_neg h, ih]
/-- One turn of the transposing loop. -/
theorem trip2_eq (c : Dev nD) (i : grid0.Coords) (arg2 : Memref sig .tc .smem S16 .f32) (harg2 : arg2.IsWhole) (arg3 : Memref sig .tc .vmem S1x2304x512 .bf16) (harg3 : arg3.IsWhole) (arg4 : Memref sig .tc .vmem S1x2304x256 .bf16) (harg4 : arg4.IsWhole) (arg5 : Memref sig .tc .vmem S1x2304x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S3x384x128 .bf16) (harg8 : arg8.IsWhole) (arg9 : Memref sig .tc .vmem S1x2048x512 .bf16) (harg9 : arg9.IsWhole) (arg10 : Memref sig .tc .vmem S2048x256 .bf16) (harg10 : arg10.IsWhole) (arg11 : Memref sig .tc .vmem S2x64x2304 .bf16) (harg11 : arg11.IsWhole) (arg12 : Memref sig .tc .vmem S640x512 .f32) (harg12 : arg12.IsWhole) (arg13 : Memref sig .tc .vmem S640x512 .f32) (harg13 : arg13.IsWhole) (arg14 : Memref sig .tc .vmem S640x512 .bf16) (harg14 : arg14.IsWhole) (arg15 : Memref sig .tc .vmem S640x512 .bf16) (harg15 : arg15.IsWhole) (arg16 : Memref sig .tc .vmem S8x512 .f32) (harg16 : arg16.IsWhole) (arg17 : Memref sig .tc .vmem S8x512 .f32) (harg17 : arg17.IsWhole) (X5 : BufTy.Contents (Elt F) arg5.view.ty) (n : ℕ) :
    pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X5 n = vtL (arg5.view.read (Elt F) X5) n := by
  induction n with
  | zero => rfl
  | succ n ih =>
    unfold pb_k0_t2 pb_k0_t2Step vtL
    by_cases h : n < k0_t2_loop.trips
    · rw [dif_pos h, dif_pos h, ih]
      unfold tripL_k0_t2 trip_k0_t2
      rfl
    · rw [dif_neg h, dif_neg h, ih]

/-! ## The pieces cover -/
theorem cover_kr (x4 : Vec F S1x2304x256 .bf16) (x6 x7 : Vec F S2048x128 .f32) (y : S2048x256.Idx) : ∃ pc ∈ krL x4 x6 x7 k0_t1_loop.trips, y ∈ pc.1.set :=
  View.cover_of_tiled (krL x4 x6 x7 k0_t1_loop.trips) ![256, 128] (by rfl) y
/-- The transposing loop writes every place. -/
theorem cover_vt (x5 : Vec F S1x2304x256 .bf16) (y : S2x64x2304.Idx) : ∃ pc ∈ vtL x5 k0_t2_loop.trips, y ∈ pc.1.set :=
  View.cover_of_tiled (vtL x5 k0_t2_loop.trips) ![1, 64, 128] (by rfl) y
/-- The body writes every place of its result. -/
theorem cover_out (i : grid0.Coords) (x2 : Vec F S16 .f32) (x3 : Vec F S1x2304x512 .bf16) (x4 : Vec F S1x2304x256 .bf16) (x5 : Vec F S1x2304x256 .bf16) (x6 x7 : Vec F S2048x128 .f32) (x8 : Vec F S3x384x128 .bf16) (y : S1x2048x512.Idx) : ∃ pc ∈ outP i x2 x3 x4 x5 x6 x7 x8, y ∈ pc.1.set :=
  View.cover_of_tiled (outP i x2 x3 x4 x5 x6 x7 x8) ![1, 128, 256] (by rfl) y

/-- The run's list of pieces is `outP`, once each buffer is known. -/
theorem glue (i : grid0.Coords) (x2 : Vec F S16 .f32) (x3 : Vec F S1x2304x512 .bf16) (x4 : Vec F S1x2304x256 .bf16) (x5 : Vec F S1x2304x256 .bf16) (x6 x7 : Vec F S2048x128 .f32) (x8 : Vec F S3x384x128 .bf16) {K : Vec F S2048x256 .bf16} {V : Vec F S2x64x2304 .bf16} {s0 S : Vec F S640x512 .f32} {p0 p : Vec F S640x512 .bf16} {r0 r : Vec F S8x512 .f32}
    (hK : K = kr x4 x6 x7) (hV : V = vt x5) (hs : s0 = sB0 x3 x4 x6 x7 x8 K) (hp : p0 = pA0 i x2 (sA0 x3 x4 x6 x7 x8 K)) (hr : r0 = rA0 i x2 (sA0 x3 x4 x6 x7 x8 K))
    (hS : S = stS x3 x4 x6 x7 x8 K k0_pay35 k0_pay36 k0_pay37 s0 k0_t3_loop.trips)
    (hP : p = stP i x2 x3 x4 x6 x7 x8 K k0_pay35 k0_pay36 k0_pay37 lane p0 k0_t3_loop.trips)
    (hR : r = stR i x2 x3 x4 x6 x7 x8 K k0_pay35 k0_pay36 k0_pay37 lane r0 k0_t3_loop.trips) :
    oBz V (pBz i x2 S) (rBz i x2 S) :: oAz V p r :: outL i x2 x3 x4 x6 x7 x8 K V k0_pay35 k0_pay36 k0_pay37 lane s0 p0 r0 k0_t3_loop.trips
      = outP i x2 x3 x4 x5 x6 x7 x8 := by
  subst hS hP hR hs hp hr hK hV
  rfl

/-! ## The body's triple -/
set_option maxHeartbeats 16000000 in
/-- The kernel body on whole memrefs, the inputs' at `x·`, the result's and the scratch buffers' at anything, leaves the
    inputs as they were and the result at `out`. -/
theorem sound_kernel (c : Dev nD) (E : Set ℕ) (i : grid0.Coords) (arg2 : Memref sig .tc .smem S16 .f32) (harg2 : arg2.IsWhole) (arg3 : Memref sig .tc .vmem S1x2304x512 .bf16) (harg3 : arg3.IsWhole) (arg4 : Memref sig .tc .vmem S1x2304x256 .bf16) (harg4 : arg4.IsWhole) (arg5 : Memref sig .tc .vmem S1x2304x256 .bf16) (harg5 : arg5.IsWhole) (arg6 : Memref sig .tc .vmem S2048x128 .f32) (harg6 : arg6.IsWhole) (arg7 : Memref sig .tc .vmem S2048x128 .f32) (harg7 : arg7.IsWhole) (arg8 : Memref sig .tc .vmem S3x384x128 .bf16) (harg8 : arg8.IsWhole) (arg9 : Memref sig .tc .vmem S1x2048x512 .bf16) (harg9 : arg9.IsWhole) (arg10 : Memref sig .tc .vmem S2048x256 .bf16) (harg10 : arg10.IsWhole) (arg11 : Memref sig .tc .vmem S2x64x2304 .bf16) (harg11 : arg11.IsWhole) (arg12 : Memref sig .tc .vmem S640x512 .f32) (harg12 : arg12.IsWhole) (arg13 : Memref sig .tc .vmem S640x512 .f32) (harg13 : arg13.IsWhole) (arg14 : Memref sig .tc .vmem S640x512 .bf16) (harg14 : arg14.IsWhole) (arg15 : Memref sig .tc .vmem S640x512 .bf16) (harg15 : arg15.IsWhole) (arg16 : Memref sig .tc .vmem S8x512 .f32) (harg16 : arg16.IsWhole) (arg17 : Memref sig .tc .vmem S8x512 .f32) (harg17 : arg17.IsWhole) (x2 : Vec F S16 .f32) (x3 : Vec F S1x2304x512 .bf16) (x4 x5 : Vec F S1x2304x256 .bf16) (x6 x7 : Vec F S2048x128 .f32) (x8 : Vec F S3x384x128 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out i x2 x3 x4 x5 x6 x7 x8) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_swa_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_swa_attn_eq_skeleton]; unfold cc0_swa_attn_skel
  simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  subst hf2 hf3 hf4 hf5 hf6 hf7 hf8
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    have eK : arg10.view.read (Elt F) (arg10.view.writes (Elt F) f10 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f4 f6 f7 (Scf.trips k0_t1_loop.lb k0_t1_loop.ub k0_t1_loop.st))) = kr (arg4.view.read (Elt F) f4) (arg6.view.read (Elt F) f6) (arg7.view.read (Elt F) f7) :=
      (congrArg (fun L => arg10.view.read (Elt F) (arg10.view.writes (Elt F) f10 L)) (trip1_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f4 f6 f7 _)).trans (View.read_writes_eq_canon _ _ _ (cover_kr _ _ _))
    have eV : arg11.view.read (Elt F) (arg11.view.writes (Elt F) f11 (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f5 (Scf.trips k0_t2_loop.lb k0_t2_loop.ub k0_t2_loop.st))) = vt (arg5.view.read (Elt F) f5) :=
      (congrArg (fun L => arg11.view.read (Elt F) (arg11.view.writes (Elt F) f11 L)) (trip2_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f5 _)).trans (View.read_writes_eq_canon _ _ _ (cover_vt _))
    have e12 : sound_kernel.sl.v240 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f3 f4 f6 f7 f8 f10 = View.ld (sA0 (arg3.view.read (Elt F) f3) (arg4.view.read (Elt F) f4) (arg6.view.read (Elt F) f6) (arg7.view.read (Elt F) f7) (arg8.view.read (Elt F) f8) (arg10.view.read (Elt F) (arg10.view.writes (Elt F) f10 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f4 f6 f7 (Scf.trips k0_t1_loop.lb k0_t1_loop.ub k0_t1_loop.st))))) rW :=
      View.readCov_eq_canon' _ _ _
    have e381 : sound_kernel.sl.v381 c i arg2 arg13 arg15 f2 fL4 = View.ld (pBz i (arg2.view.read (Elt F) f2) (arg13.view.read (Elt F) fL4)) rLoc := cov_p arg15.view _ _
    have e385 : sound_kernel.sl.v385 c i arg2 arg13 arg15 f2 fL4 = View.ld (pBz i (arg2.view.read (Elt F) f2) (arg13.view.read (Elt F) fL4)) rCtx := cov_p arg15.view _ _
    have e388 : sound_kernel.sl.v388 c i arg2 arg13 arg17 f2 fL4 = View.ld (rBz i (arg2.view.read (Elt F) f2) (arg13.view.read (Elt F) fL4)) rR1 := cov_r arg17.view _ _
    refine (congrArg (fun L => arg9.view.read (Elt F) (arg9.view.writes (Elt F) f9 L)) ?_).trans (View.read_writes_eq_canon _ _ _ (cover_out i (arg2.view.read (Elt F) f2) (arg3.view.read (Elt F) f3) (arg4.view.read (Elt F) f4) (arg5.view.read (Elt F) f5) (arg6.view.read (Elt F) f6) (arg7.view.read (Elt F) f7) (arg8.view.read (Elt F) f8)))
    unfold sound_kernel.sl.r_25 sound_kernel.sl.r_26
    rw [e381, e385, e388]

    refine glue i (arg2.view.read (Elt F) f2) (arg3.view.read (Elt F) f3) (arg4.view.read (Elt F) f4) (arg5.view.read (Elt F) f5) (arg6.view.read (Elt F) f6) (arg7.view.read (Elt F) f7) (arg8.view.read (Elt F) f8) eK eV ?_ ?_ ?_ (by assumption) (by assumption) (by assumption)
    · exact View.read_writes_eq_canon _ _ _ (cover_qk _ _)
    · refine (View.read_writes_full _ _ _ _ _).trans ?_
      unfold sound_kernel.sl.r_14
      rw [e12]
      rfl
    · refine (View.read_writes_full _ _ _ _ _).trans ?_
      unfold sound_kernel.sl.r_15
      rw [e12]
      rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  iexists _; iexists _; isplitr
  swap; · iexact H17
  ipureintro; rfl

end Cert.KernelIdeal.Swa

end
-- ==== Proof.SwaIdealFrame.lean ====
module

public import Idealize.ShloMosaic.Lib.Claim
public import proofs.«01_k».proof.Proof.SwaIdealBody

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pipeline's proof data: each input's buffer at its block, the result's at `out` of the input blocks; the scratch
    buffers at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out (grid0.coords t) (iblk m c 0 t) (iblk m c 1 t) (iblk m c 2 t) (iblk m c 3 t) (iblk m c 4 t) (iblk m c 5 t) (iblk m c 6 t)
  Φ _ := Pipeline.ΦA spec0 c
  q w := Pipeline.shareOf spec0 w
  owed _ := 0

/-- The arrays are what the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
/-- An input's block is unchanged by the body. -/
theorem after0_1 (c : Dev nD) (t : Fin cfg0.N) : (dats m 0 c).after 1 t = iblk m c 1 t := by dsimp only [dats]
/-- An input's block is unchanged by the body. -/
theorem after0_2 (c : Dev nD) (t : Fin cfg0.N) : (dats m 0 c).after 2 t = iblk m c 2 t := by dsimp only [dats]
/-- An input's block is unchanged by the body. -/
theorem after0_3 (c : Dev nD) (t : Fin cfg0.N) : (dats m 0 c).after 3 t = iblk m c 3 t := by dsimp only [dats]
/-- An input's block is unchanged by the body. -/
theorem after0_4 (c : Dev nD) (t : Fin cfg0.N) : (dats m 0 c).after 4 t = iblk m c 4 t := by dsimp only [dats]
/-- An input's block is unchanged by the body. -/
theorem after0_5 (c : Dev nD) (t : Fin cfg0.N) : (dats m 0 c).after 5 t = iblk m c 5 t := by dsimp only [dats]
/-- An input's block is unchanged by the body. -/
theorem after0_6 (c : Dev nD) (t : Fin cfg0.N) : (dats m 0 c).after 6 t = iblk m c 6 t := by dsimp only [dats]
/-- The result's block after the body. -/
theorem after0_7 (c : Dev nD) (t : Fin cfg0.N) : (dats m 0 c).after 7 t = out (grid0.coords t) (iblk m c 0 t) (iblk m c 1 t) (iblk m c 2 t) (iblk m c 3 t) (iblk m c 4 t) (iblk m c 5 t) (iblk m c 6 t) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
/-- An input's block before the body. -/
theorem before0_1 (c : Dev nD) (t : Fin cfg0.N) (d) : (dats m 0 c).before 1 t d = iblk m c 1 t :=
  before0_1_of m (dats m 0 c) (A_eq m c 1) (after0_1 m c) t d
/-- An input's block before the body. -/
theorem before0_2 (c : Dev nD) (t : Fin cfg0.N) (d) : (dats m 0 c).before 2 t d = iblk m c 2 t :=
  before0_2_of m (dats m 0 c) (A_eq m c 2) (after0_2 m c) t d
/-- An input's block before the body. -/
theorem before0_3 (c : Dev nD) (t : Fin cfg0.N) (d) : (dats m 0 c).before 3 t d = iblk m c 3 t :=
  before0_3_of m (dats m 0 c) (A_eq m c 3) (after0_3 m c) t d
/-- An input's block before the body. -/
theorem before0_4 (c : Dev nD) (t : Fin cfg0.N) (d) : (dats m 0 c).before 4 t d = iblk m c 4 t :=
  before0_4_of m (dats m 0 c) (A_eq m c 4) (after0_4 m c) t d
/-- An input's block before the body. -/
theorem before0_5 (c : Dev nD) (t : Fin cfg0.N) (d) : (dats m 0 c).before 5 t d = iblk m c 5 t :=
  before0_5_of m (dats m 0 c) (A_eq m c 5) (after0_5 m c) t d
/-- An input's block before the body. -/
theorem before0_6 (c : Dev nD) (t : Fin cfg0.N) (d) : (dats m 0 c).before 6 t d = iblk m c 6 t :=
  before0_6_of m (dats m 0 c) (A_eq m c 6) (after0_6 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the scratch buffers are lent to it out of the invariant and put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7]
  unfold Pipeline.ΦA
  rw [scopedRest0_eq]
  simp only [← owns_whole]
  iintro ⟨⟨⟨⟨%g0, S0⟩, ⟨%g1, S1⟩, ⟨%g2, S2⟩, ⟨%g3, S3⟩, ⟨%g4, S4⟩, ⟨%g5, S5⟩, ⟨%g6, S6⟩, ⟨%g7, S7⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  iintro ⟨H0, H1, H2, H3, H4, H5, H6, H7, S0, S1, S2, S3, S4, S5, S6, S7⟩
  isplitl [HR S0 S1 S2 S3 S4 S5 S6 S7]
  · isplitr [HR]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 1600000 in
/-- The launch: every execution terminates with each array at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Swa

end
-- ==== Proof.SwaClaims.lean ====
/- Hand-written: the claims about the sliding-window attention call that do not speak of its values. -/
module

public import proofs.«01_k».proof.Defs
public import proofs.«01_k».proof.Proof.SwaFrame
public import proofs.«01_k».proof.Proof.SwaIdealFrame
public import proofs.«01_k».proof.Proof.Gen.ReferenceIdeal
public import Idealize.ShloMosaic.Lib.Claim
public import Idealize.ShloMosaic.Lib.StableHlo.Run
public import Idealize.ShloMosaic.Adequacy
public import Idealize.ShloMosaic.Init

@[expose] public section

set_option maxRecDepth 16384
set_option maxHeartbeats 4000000

noncomputable section

open Idealize.ShloMosaic Idealize.SL.Sem

namespace Cert.Proof.Swa

/-- The kernel runs and leaves its arguments unchanged. -/
theorem frame_p : Cert.quiescent_Kernel (hKernel := Cert.Kernel.Gen.facts) :=
  fun m ρ _ => Cert.Kernel.Swa.frame m ρ

/-- The same for the idealised kernel. -/
theorem frame_pi : Cert.quiescent_KernelIdeal (hKernelIdeal := Cert.KernelIdeal.Gen.facts) :=
  fun m ρ _ => Cert.KernelIdeal.Swa.frame m ρ

/-- The same for the reference. -/
theorem frame_ri : Cert.quiescent_ReferenceIdeal (hReferenceIdeal := Cert.ReferenceIdeal.Gen.facts) := by
  intro m g _
  hlo_run
  · exact fun c => ⟨trivial, trivial⟩
  · exact sem_eq_zero_of_no_sems (by decide) r.2

/-- The named constants stand where the kernel has their roundings. -/
theorem preserves : Cert.preserves_Kernel_KernelIdeal :=
  ⟨IdealRules.named_const.statement Cert.KernelIdeal.κ "neg" .f32 0xF149F2CA#32 ⊥ rfl,
    IdealRules.named_const.statement Cert.KernelIdeal.κ "qscale" .f32 0x3E38AA3B#32 (((8 * (Real.log 2))⁻¹ : ℝ) : EReal) rfl,
    IdealRules.named_const.statement Cert.KernelIdeal.κ "log2e" .f32 0x3FB8AA3B#32 (((Real.log 2)⁻¹ : ℝ) : EReal) rfl⟩

end Cert.Proof.Swa

end
-- ==== Proof.SwaTile.lean ====
module

public import proofs.«01_k».proof.Proof.Gen.KernelIdeal.Skeleton
public import Idealize.ShloMosaic.PureOps.IdealRules
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem
open scoped BigOperators

namespace Cert.Proof.Swa
open Cert.KernelIdeal Cert.KernelIdeal.Gen

/-- Where the rotation takes a lane's partner from. -/
def sw (l : Fin 128) : Fin 128 := if l.val % 32 < 16 then ⟨(l.val + 128 - 112) % 128, Nat.mod_lt _ (by norm_num)⟩ else ⟨(l.val + 128 - 16) % 128, Nat.mod_lt _ (by norm_num)⟩

/-- The score scale. -/
def qsc : EReal := (((8 * Real.log 2)⁻¹ : ℝ) : EReal)

/-- The body's test of a lane being in the first half of its axis. -/
def pbit (l : Fin 128) : BitVec 1 :=
  (IntOp.cmpi CmpIPredicate.slt
            (Scalar.select
              (IntOp.andi
                (IntOp.xori
                  (IntOp.cmpi CmpIPredicate.slt
                    (IntOp.remsi ArithUnit.vector (BitVec.ofNat 32 ↑l)
                      (Scalar.select (Scalar.cmpi CmpIPredicate.eq 32#32 0#32) 1#32 32#32))
                    0#32)
                  (Scalar.cmpi CmpIPredicate.slt (Scalar.select (Scalar.cmpi CmpIPredicate.eq 32#32 0#32) 1#32 32#32)
                    0#32))
                (IntOp.cmpi CmpIPredicate.ne
                  (IntOp.remsi ArithUnit.vector (BitVec.ofNat 32 ↑l)
                    (Scalar.select (Scalar.cmpi CmpIPredicate.eq 32#32 0#32) 1#32 32#32))
                  0#32))
              (IntOp.addi
                (IntOp.remsi ArithUnit.vector (BitVec.ofNat 32 ↑l)
                  (Scalar.select (Scalar.cmpi CmpIPredicate.eq 32#32 0#32) 1#32 32#32))
                (Scalar.select (Scalar.cmpi CmpIPredicate.eq 32#32 0#32) 1#32 32#32))
              (IntOp.remsi ArithUnit.vector (BitVec.ofNat 32 ↑l)
                (Scalar.select (Scalar.cmpi CmpIPredicate.eq 32#32 0#32) 1#32 32#32)))
            16#32)

/-- It is what it says. -/
theorem pbit_eq : ∀ l : Fin 128, pbit l = if l.val % 32 < 16 then 1#1 else 0#1 := by decide +kernel

/-- The chosen partner of a lane. -/
theorem partner (f : Fin 128 → EReal) (l : Fin 128) :
    Scalar.select (pbit l) (f ⟨(l.val + 128 - 112) % 128, Nat.mod_lt _ (by norm_num)⟩) (f ⟨(l.val + 128 - 16) % 128, Nat.mod_lt _ (by norm_num)⟩) = f (sw l) := by
  rw [pbit_eq l]
  unfold sw
  by_cases h : l.val % 32 < 16
  · rw [if_pos h, if_pos h]; rfl
  · rw [if_neg h, if_neg h]; rfl

/-- The rotated queries at an index. -/
theorem rope_at (t : FVec Ideal S1x128x128 .bf16) (cs sn : FVec Ideal S128x128 .f32) (r l : Fin 128) :
    k0_pay10 (F := Ideal) t cs sn (ix2 r l) = t (ix3 0 r l) * cs (ix2 r l) + t (ix3 0 r (sw l)) * sn (ix2 r l) := by
  pointwise [k0_pay10]
  exact congrArg (fun z => t (ix3 0 r l) * cs (ix2 r l) + z * sn (ix2 r l)) (partner (fun z => t (ix3 0 r z)) l)

/-- The rotated keys at an index. -/
theorem ropek_at (t : FVec Ideal S1x256x128 .bf16) (cs sn : FVec Ideal S256x128 .f32) (r : Fin 256) (l : Fin 128) :
    k0_pay2 (F := Ideal) t cs sn (ix2 r l) = t (ix3 0 r l) * cs (ix2 r l) + t (ix3 0 r (sw l)) * sn (ix2 r l) := by
  pointwise [k0_pay2]
  exact congrArg (fun z => t (ix3 0 r l) * cs (ix2 r l) + z * sn (ix2 r l)) (partner (fun z => t (ix3 0 r z)) l)

/-- The test of a lane being in the first half of its row. -/
theorem half_bit : ∀ l : Fin 128, IntOp.cmpi CmpIPredicate.slt (BitVec.ofNat 32 l.val) 64#32 = if l.val / 64 = 0 then 1#1 else 0#1 := by decide +kernel

/-- The first half kept, -/
theorem half_lo (l : Fin 128) (x y : EReal) : Scalar.select (IntOp.cmpi CmpIPredicate.slt (BitVec.ofNat 32 l.val) 64#32) x y = if l.val / 64 = 0 then x else y := by
  rw [half_bit l]
  by_cases h : l.val / 64 = 0
  · rw [if_pos h, if_pos h]; rfl
  · rw [if_neg h, if_neg h]; rfl

/-- and read as the second half. -/
theorem half_hi (l : Fin 128) (x y : EReal) : (if l.val / 64 = 0 then x else y) = if l.val / 64 = 1 then y else x := by
  have := l.isLt
  by_cases h : l.val / 64 = 0
  · rw [if_pos h, if_neg (by omega)]
  · rw [if_neg h, if_pos (by omega)]

/-- One lane of the four stacked half-masked queries. -/
theorem stack_at (a b : FVec Ideal S128x128 .f32) (h : Fin 4) (j : Fin 128) (l : Fin 128) (R : Fin 512) (hR : R.val = 128 * h.val + j.val) :
    k0_pay11 (F := Ideal) k0_pay35 k0_pay36 a b (ix2 R l)
      = if l.val / 64 = h.val % 2 then (if h.val < 2 then a (ix2 j l) else b (ix2 j l) * qsc) else 0 := by
  pointwise [k0_pay11, k0_pay35, k0_pay36]
  rw [IdealRules.named_const.ideal_named_scalar _ _ _ _ rfl]
  have hj := j.isLt
  simp only [half_lo]
  obtain ⟨h, hh⟩ := h
  have hc : h = 0 ∨ h = 1 ∨ h = 2 ∨ h = 3 := by omega
  rcases hc with rfl | rfl | rfl | rfl
  · have hR' : R.val = j.val := by simpa using hR
    rw [dif_pos (by omega)]
    simp only [hR']
    rfl
  · have hR' : R.val = 128 + j.val := by simpa using hR
    rw [dif_neg (by omega), dif_pos (by omega), half_hi]
    have e : R.val - 128 = j.val := by omega
    simp only [e]
    rfl
  · have hR' : R.val = 256 + j.val := by simpa using hR
    rw [dif_neg (by omega), dif_neg (by omega), dif_pos (by omega)]
    have e : R.val - 128 - 128 = j.val := by omega
    simp only [e]
    rfl
  · have hR' : R.val = 384 + j.val := by simpa using hR
    rw [dif_neg (by omega), dif_neg (by omega), dif_neg (by omega), half_hi]
    have e : R.val - 128 - 128 - 128 = j.val := by omega
    simp only [e]
    rfl

/-- A row's place in its head, as the body computes it. -/
def rword (R : Fin 512) : BitVec 32 :=
        (Scalar.select
          (IntOp.andi
            (IntOp.xori
              (IntOp.cmpi CmpIPredicate.slt
                (IntOp.remsi ArithUnit.vector (BitVec.ofNat 32 ↑R)
                  (Scalar.select (Scalar.cmpi CmpIPredicate.eq 128#32 0#32) 1#32 128#32))
                0#32)
              (Scalar.cmpi CmpIPredicate.slt (Scalar.select (Scalar.cmpi CmpIPredicate.eq 128#32 0#32) 1#32 128#32)
                0#32))
            (IntOp.cmpi CmpIPredicate.ne
              (IntOp.remsi ArithUnit.vector (BitVec.ofNat 32 ↑R)
                (Scalar.select (Scalar.cmpi CmpIPredicate.eq 128#32 0#32) 1#32 128#32))
              0#32))
          (IntOp.addi
            (IntOp.remsi ArithUnit.vector (BitVec.ofNat 32 ↑R)
              (Scalar.select (Scalar.cmpi CmpIPredicate.eq 128#32 0#32) 1#32 128#32))
            (Scalar.select (Scalar.cmpi CmpIPredicate.eq 128#32 0#32) 1#32 128#32))
          (IntOp.remsi ArithUnit.vector (BitVec.ofNat 32 ↑R)
            (Scalar.select (Scalar.cmpi CmpIPredicate.eq 128#32 0#32) 1#32 128#32)))

/-- It is what it says. -/
theorem rword_eq : ∀ R : Fin 512, rword R = BitVec.ofNat 32 (R.val % 128) := by decide +kernel

/-- The tiled unit matrix, with the mask's bottom on its diagonal. -/
theorem eye_at (j l : Fin 128) (R : Fin 512) (hR : R.val % 128 = j.val) :
    k0_pay37 (F := Ideal) (ix2 R l) = if l = j then (⊥ : EReal) else 0 := by
  pointwise [k0_pay37]
  rw [IdealRules.named_const.ideal_named_scalar _ _ _ _ rfl]
  show Scalar.select (IntOp.cmpi CmpIPredicate.eq (rword R) (BitVec.ofNat 32 l.val)) ⊥ 0 = _
  rw [rword_eq R, hR]
  have hj := j.isLt
  have hl := l.isLt
  have e : IntOp.cmpi CmpIPredicate.eq (BitVec.ofNat 32 j.val) (BitVec.ofNat 32 l.val) = if l = j then 1#1 else 0#1 := by
    rw [WordCmp.cmpi_eq_eq_toNat, WordCmp.toNat_ofNat_of_lt (by omega), WordCmp.toNat_ofNat_of_lt (by omega)]
    by_cases h : l = j
    · rw [if_pos h, h]; simp
    · have h' : ¬ j.val = l.val := fun h' => h (Fin.ext h'.symm)
      rw [if_neg h]; simp [h']
  rw [e]
  by_cases h : l = j
  · rw [if_pos h, if_pos h]; rfl
  · rw [if_neg h, if_neg h]; rfl

/-- The scores of a tile's own keys, -/
theorem loc_at (a b : FVec Ideal S128x128 .f32) (kw : FVec Ideal S384x128 .bf16) (mk : FVec Ideal S1x384x128 .bf16) (kk : Fin 384) (R : Fin 512) :
    k0_pay12 (F := Ideal) k0_pay35 k0_pay36 k0_pay37 a b kw mk (ix2 kk R)
      = (∑ l : Fin 128, kw (ix2 kk l) * k0_pay11 (F := Ideal) k0_pay35 k0_pay36 a b (ix2 R l)) + ∑ l : Fin 128, mk (ix3 0 kk l) * k0_pay37 (F := Ideal) (ix2 R l) := by
  pointwise [k0_pay12]

/-- and of the context's. -/
theorem ctx_at (a b : FVec Ideal S128x128 .f32) (kc : FVec Ideal S1x256x128 .bf16) (kk : Fin 256) (R : Fin 512) :
    k0_pay13 (F := Ideal) k0_pay35 k0_pay36 a b kc (ix2 kk R)
      = (∑ l : Fin 128, kc (ix3 0 kk l) * k0_pay11 (F := Ideal) k0_pay35 k0_pay36 a b (ix2 R l)) := by
  pointwise [k0_pay13]

/-- The sink of a column: its head's entry. -/
def sinkSel (R : Fin 512) (s0 s1 s2 s3 : EReal) : EReal :=
  Scalar.select (IntOp.cmpi CmpIPredicate.slt (BitVec.ofNat 32 R.val) 128#32) s0
    (Scalar.select (IntOp.cmpi CmpIPredicate.slt (BitVec.ofNat 32 R.val) 256#32) s1
      (Scalar.select (IntOp.cmpi CmpIPredicate.slt (BitVec.ofNat 32 R.val) 384#32) s2 s3))

/-- The first test, -/
theorem sbit0 : ∀ R : Fin 512, IntOp.cmpi CmpIPredicate.slt (BitVec.ofNat 32 R.val) 128#32 = if R.val < 128 then 1#1 else 0#1 := by decide +kernel
/-- the second -/
theorem sbit1 : ∀ R : Fin 512, IntOp.cmpi CmpIPredicate.slt (BitVec.ofNat 32 R.val) 256#32 = if R.val < 256 then 1#1 else 0#1 := by decide +kernel
/-- and the third. -/
theorem sbit2 : ∀ R : Fin 512, IntOp.cmpi CmpIPredicate.slt (BitVec.ofNat 32 R.val) 384#32 = if R.val < 384 then 1#1 else 0#1 := by decide +kernel

/-- It is the entry of the column's head. -/
theorem sinkSel_eq (f : Fin 4 → EReal) (h : Fin 4) (j : Fin 128) (R : Fin 512) (hR : R.val = 128 * h.val + j.val) :
    sinkSel R (f 0) (f 1) (f 2) (f 3) = f h := by
  unfold sinkSel
  rw [sbit0 R, sbit1 R, sbit2 R]
  have hj := j.isLt
  obtain ⟨h, hh⟩ := h
  have hc : h = 0 ∨ h = 1 ∨ h = 2 ∨ h = 3 := by omega
  rcases hc with rfl | rfl | rfl | rfl
  · have hR' : R.val = j.val := by simpa using hR
    rw [if_pos (show R.val < 128 by omega)]; rfl
  · have hR' : R.val = 128 + j.val := by simpa using hR
    rw [if_neg (show ¬ R.val < 128 by omega), if_pos (show R.val < 256 by omega)]; rfl
  · have hR' : R.val = 256 + j.val := by simpa using hR
    rw [if_neg (show ¬ R.val < 128 by omega), if_neg (show ¬ R.val < 256 by omega), if_pos (show R.val < 384 by omega)]; rfl
  · have hR' : R.val = 384 + j.val := by simpa using hR
    rw [if_neg (show ¬ R.val < 128 by omega), if_neg (show ¬ R.val < 256 by omega), if_neg (show ¬ R.val < 384 by omega)]; rfl

/-- The scale between the exponentials. -/
def l2e : EReal := (((Real.log 2)⁻¹ : ℝ) : EReal)

/-- The largest score of a column and its sink. -/
def smax (f : Fin 640 → EReal) (z : EReal) : EReal :=
  max (Finset.fold max (Ideal.ofBits .f32 4286578688#32) f Finset.univ) (z * l2e)

/-- The lanes' numbers. -/
abbrev lanes : IVec S1x512 32 := iota .tc S1x512 32 [1] iota_S1x512_d1_w32

/-- The weight of a key. -/
theorem w_at (s : FVec Ideal S640x512 .f32) (s0 s1 s2 s3 : EReal) (k : Fin 640) (R : Fin 512) :
    k0_pay20 (F := Ideal) lanes s (k0_pay14 lanes) s0 (k0_pay15 lanes) s1 s2 s3 (ix2 k R)
      = Ideal.exp2 (s (ix2 k R) - smax (fun x => s (ix2 x R)) (sinkSel R s0 s1 s2 s3)) := by
  pointwise [k0_pay20, k0_pay18, k0_pay17, k0_pay16, k0_pay14, k0_pay15]
  rw [IdealRules.named_const.ideal_named_scalar _ _ _ _ rfl]
  rfl

/-- The reciprocal of a column's sum. -/
theorem r_at (s : FVec Ideal S640x512 .f32) (s0 s1 s2 s3 : EReal) (k : Fin 8) (R : Fin 512) :
    k0_pay19 (F := Ideal) lanes s (k0_pay14 lanes) s0 (k0_pay15 lanes) s1 s2 s3 (ix2 k R)
      = Ideal.div 1 ((∑ x : Fin 640, Ideal.exp2 (s (ix2 x R) - smax (fun x => s (ix2 x R)) (sinkSel R s0 s1 s2 s3)))
          + Ideal.exp2 (sinkSel R s0 s1 s2 s3 * l2e - smax (fun x => s (ix2 x R)) (sinkSel R s0 s1 s2 s3))) := by
  pointwise [k0_pay19, k0_pay18, k0_pay17, k0_pay16, k0_pay14, k0_pay15]
  rw [IdealRules.named_const.ideal_named_scalar _ _ _ _ rfl]
  rfl

/-- One entry of a stored tile. -/
theorem tile_at (vw : FVec Ideal S1x64x384 .bf16) (p1 : FVec Ideal S384x512 .bf16) (vc : FVec Ideal S1x64x256 .bf16) (p2 : FVec Ideal S256x512 .bf16) (r : FVec Ideal S1x512 .f32)
    (h : Fin 4) (d : Fin 64) (j : Fin 128) (k : Fin 256) (R : Fin 512) (hk : k.val = 64 * h.val + d.val) (hR : R.val = 128 * h.val + j.val) :
    k0_pay3 (F := Ideal) vw p1 vc p2 r (ix3 0 j k)
      = ((∑ x : Fin 384, vw (ix3 0 d x) * p1 (ix2 x R)) + ∑ x : Fin 256, vc (ix3 0 d x) * p2 (ix2 x R)) * r (ix2 0 R) := by
  pointwise [k0_pay3]
  have hd := d.isLt
  have hj := j.isLt
  obtain ⟨h, hh⟩ := h
  have hc : h = 0 ∨ h = 1 ∨ h = 2 ∨ h = 3 := by omega
  rcases hc with rfl | rfl | rfl | rfl
  · have e : k.val = d.val := by simpa using hk
    have hRv : R.val = j.val := by dsimp only at hR; omega
    have eR : (⟨j.val, by omega⟩ : Fin 512) = R := Fin.ext hRv.symm
    rw [dif_pos (by omega), dif_pos (by omega)]
    simp only [e, eR]
  · have e : k.val - 64 = d.val := by simp only [mul_one] at hk; omega
    have hRv : R.val = 128 + j.val := by dsimp only at hR; omega
    have eR : (⟨128 + j.val, by omega⟩ : Fin 512) = R := Fin.ext hRv.symm
    simp only [mul_one] at hk
    rw [dif_pos (by omega), dif_neg (by omega)]
    simp only [e, eR]
  · have e : k.val - 128 = d.val := by dsimp only at hk; omega
    have hRv : R.val = 256 + j.val := by dsimp only at hR; omega
    have eR : (⟨256 + j.val, by omega⟩ : Fin 512) = R := Fin.ext hRv.symm
    dsimp only at hk
    rw [dif_neg (by omega), dif_pos (by omega)]
    simp only [e, eR]
  · have e : k.val - 128 - 64 = d.val := by dsimp only at hk; omega
    have hRv : R.val = 384 + j.val := by dsimp only at hR; omega
    have eR : (⟨384 + j.val, by omega⟩ : Fin 512) = R := Fin.ext hRv.symm
    dsimp only at hk
    rw [dif_neg (by omega), dif_neg (by omega)]
    simp only [e, eR]

end Cert.Proof.Swa
-- ==== Proof.SwaOut.lean ====
module

public import proofs.«01_k».proof.Proof.SwaIdealBody
public import proofs.«01_k».proof.Proof.SwaTile
public import Idealize.ShloMosaic.PureOps.IdealRules
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem
open scoped BigOperators

namespace Cert.Proof.Swa
open Cert.KernelIdeal Cert.KernelIdeal.Gen Cert.KernelIdeal.Swa

variable {F : FTy → Type} [FloatOps F] [Named F]
variable (x2 : Vec F S16 .f32) (x3 : Vec F S1x2304x512 .bf16) (x4 x5 : Vec F S1x2304x256 .bf16) (x6 x7 : Vec F S2048x128 .f32) (x8 : Vec F S3x384x128 .bf16)

/-! ## One tile at variable arguments -/

/-- A rotated and scaled query tile. -/
def qrot (t : Vec F S1x128x128 .bf16) (cs sn : Vec F S128x128 .f32) : Vec F S128x128 .f32 :=
  mulf (k0_pay10 t cs sn) (broadcast S128x128 (Named.named κ "qscale" 0x3E38AA3B#32 : F .f32))

/-- A tile's score buffer from its two stores. -/
def sOf (A : Vec F S256x512 .f32) (B : Vec F S384x512 .f32) : Vec F S640x512 .f32 := View.canon [⟨rCtx, A⟩, ⟨rLoc, B⟩]

/-- A tile's scores. -/
def sT (tA tB : Vec F S1x128x128 .bf16) (cs sn : Vec F S128x128 .f32) (kw : Vec F S384x128 .bf16) (mk : Vec F S1x384x128 .bf16) (kc : Vec F S1x256x128 .bf16) : Vec F S640x512 .f32 :=
  sOf (k0_pay13 k0_pay35 k0_pay36 (qrot tA cs sn) (k0_pay10 tB cs sn) kc) (k0_pay12 k0_pay35 k0_pay36 k0_pay37 (qrot tA cs sn) (k0_pay10 tB cs sn) kw mk)

/-- A tile's weights. -/
def wT (s : Vec F S640x512 .f32) (s0 s1 s2 s3 : Elt F .f32) : Vec F S640x512 .bf16 :=
  k0_pay20 lanes s (k0_pay14 lanes) s0 (k0_pay15 lanes) s1 s2 s3

/-- A tile's reciprocals. -/
def rT (s : Vec F S640x512 .f32) (s0 s1 s2 s3 : Elt F .f32) : Vec F S8x512 .f32 :=
  k0_pay19 lanes s (k0_pay14 lanes) s0 (k0_pay15 lanes) s1 s2 s3

/-- A tile's result. -/
def oT (vw : Vec F S1x64x384 .bf16) (vc : Vec F S1x64x256 .bf16) (p : Vec F S640x512 .bf16) (r : Vec F S8x512 .f32) : Vec F S1x128x256 .bf16 :=
  k0_pay3 vw (View.ld p rLoc) vc (View.ld p rCtx) (View.ld r rR1)

/-! ## The body's tiles are these -/

/-- A query tile read from the block, -/
abbrev ld3 (x3 : Vec F S1x2304x512 .bf16) (off : Fin 3 → ℕ) (inb : ∀ a, off a + S1x128x128.size a ≤ S1x2304x512.size a) : Vec F S1x128x128 .bf16 := View.ld x3 (Rect.unit (s := S1x2304x512) off S1x128x128.size inb)
/-- and a table's tile. -/
abbrev ld6 (x6 : Vec F S2048x128 .f32) (off : Fin 2 → ℕ) (inb : ∀ a, off a + S128x128.size a ≤ S2048x128.size a) : Vec F S128x128 .f32 := View.ld x6 (Rect.unit (s := S2048x128) off S128x128.size inb)

/-- The first group's scores in a turn are a tile's. -/
theorem qkA_eq (kr : Vec F S2048x256 .bf16) (k : Fin k0_t3_loop.trips) :
    qkA x3 x4 x6 x7 x8 kr k0_pay35 k0_pay36 k0_pay37 k
      = sT (ld3 x3 (k0_off17 k) (k0_off17_inb k)) (ld3 x3 (k0_off19 k) (k0_off19_inb k)) (ld6 x6 (k0_off18 k) (k0_off18_inb k)) (ld6 x7 (k0_off18 k) (k0_off18_inb k))
        (View.ld kr (Rect.unit (s := S2048x256) (k0_off20 k) S384x128.size (k0_off20_inb k))) (View.ld x8 (Rect.unit (s := S3x384x128) (k0_off21 k) S1x384x128.size (k0_off21_inb k)))
        (View.ld x4 (Rect.unit (s := S1x2304x256) ![0, 2048, 0] S1x256x128.size inb_S1x2304x256_S1x256x128_0_2048_0)) := rfl

/-- The second group's scores in a turn are a tile's. -/
theorem qkB_eq (kr : Vec F S2048x256 .bf16) (k : Fin k0_t3_loop.trips) :
    qkB x3 x4 x6 x7 x8 kr k0_pay35 k0_pay36 k0_pay37 k
      = sT (ld3 x3 (k0_off26 k) (k0_off26_inb k)) (ld3 x3 (k0_off27 k) (k0_off27_inb k)) (ld6 x6 (k0_off18 k) (k0_off18_inb k)) (ld6 x7 (k0_off18 k) (k0_off18_inb k))
        (View.ld kr (Rect.unit (s := S2048x256) (k0_off28 k) S384x128.size (k0_off28_inb k))) (View.ld x8 (Rect.unit (s := S3x384x128) (k0_off21 k) S1x384x128.size (k0_off21_inb k)))
        (View.ld x4 (Rect.unit (s := S1x2304x256) ![0, 2048, 128] S1x256x128.size inb_S1x2304x256_S1x256x128_0_2048_128)) := rfl

/-- The first group's scores before the loop are a tile's. -/
theorem sA0_eq (kr : Vec F S2048x256 .bf16) :
    sA0 x3 x4 x6 x7 x8 kr
      = sT (ld3 x3 ![0, 0, 0] inb_S1x2304x512_S1x128x128_0_0_0) (ld3 x3 ![0, 0, 128] inb_S1x2304x512_S1x128x128_0_0_128) (ld6 x6 ![0, 0] inb_S2048x128_S128x128_0_0) (ld6 x7 ![0, 0] inb_S2048x128_S128x128_0_0)
        (View.ld kr (Rect.unit (s := S2048x256) k0_off10 S384x128.size k0_off10_inb)) (View.ld x8 (Rect.unit (s := S3x384x128) k0_off11 S1x384x128.size k0_off11_inb))
        (View.ld x4 (Rect.unit (s := S1x2304x256) ![0, 2048, 0] S1x256x128.size inb_S1x2304x256_S1x256x128_0_2048_0)) := rfl

/-- The second group's scores before the loop are a tile's. -/
theorem sB0_eq (kr : Vec F S2048x256 .bf16) :
    sB0 x3 x4 x6 x7 x8 kr
      = sT (ld3 x3 ![0, 0, 256] inb_S1x2304x512_S1x128x128_0_0_256) (ld3 x3 ![0, 0, 384] inb_S1x2304x512_S1x128x128_0_0_384) (ld6 x6 ![0, 0] inb_S2048x128_S128x128_0_0) (ld6 x7 ![0, 0] inb_S2048x128_S128x128_0_0)
        (View.ld kr (Rect.unit (s := S2048x256) k0_off12 S384x128.size k0_off12_inb)) (View.ld x8 (Rect.unit (s := S3x384x128) k0_off11 S1x384x128.size k0_off11_inb))
        (View.ld x4 (Rect.unit (s := S1x2304x256) ![0, 2048, 128] S1x256x128.size inb_S1x2304x256_S1x256x128_0_2048_128)) := rfl

/-- The sinks the body reads of the head group starting at `o`. -/
theorem pA_eq (i : grid0.Coords) (s : Vec F S640x512 .f32) :
    pA i x2 lane s = wT (View.ld s rW) (sinkAt x2 (k0_off22 i 0#32) (k0_off22_inb i 0)) (sinkAt x2 (k0_off23 i 0#32 1#32) (k0_off23_inb i 0 0)) (sinkAt x2 (k0_off23 i 0#32 2#32) (k0_off23_inb i 0 1)) (sinkAt x2 (k0_off23 i 0#32 3#32) (k0_off23_inb i 0 2)) := rfl
/-- The first group's reciprocals in a turn. -/
theorem rA_eq (i : grid0.Coords) (s : Vec F S640x512 .f32) :
    rA i x2 lane s = rT (View.ld s rW) (sinkAt x2 (k0_off22 i 0#32) (k0_off22_inb i 0)) (sinkAt x2 (k0_off23 i 0#32 1#32) (k0_off23_inb i 0 0)) (sinkAt x2 (k0_off23 i 0#32 2#32) (k0_off23_inb i 0 1)) (sinkAt x2 (k0_off23 i 0#32 3#32) (k0_off23_inb i 0 2)) := rfl
/-- The second group's weights in a turn. -/
theorem pB_eq (i : grid0.Coords) (s : Vec F S640x512 .f32) :
    pB i x2 lane s = wT (View.ld s rW) (sinkAt x2 (k0_off22 i 4#32) (k0_off22_inb i 1)) (sinkAt x2 (k0_off23 i 4#32 1#32) (k0_off23_inb i 1 0)) (sinkAt x2 (k0_off23 i 4#32 2#32) (k0_off23_inb i 1 1)) (sinkAt x2 (k0_off23 i 4#32 3#32) (k0_off23_inb i 1 2)) := rfl
/-- The second group's reciprocals in a turn. -/
theorem rB_eq (i : grid0.Coords) (s : Vec F S640x512 .f32) :
    rB i x2 lane s = rT (View.ld s rW) (sinkAt x2 (k0_off22 i 4#32) (k0_off22_inb i 1)) (sinkAt x2 (k0_off23 i 4#32 1#32) (k0_off23_inb i 1 0)) (sinkAt x2 (k0_off23 i 4#32 2#32) (k0_off23_inb i 1 1)) (sinkAt x2 (k0_off23 i 4#32 3#32) (k0_off23_inb i 1 2)) := rfl
/-- The first group's weights before the loop. -/
theorem pA0_eq (i : grid0.Coords) (s : Vec F S640x512 .f32) :
    pA0 i x2 s = wT (View.ld s rW) (sinkAt x2 (k0_off13 i 0#32) (k0_off13_inb i 0)) (sinkAt x2 (k0_off14 i 0#32 1#32) (k0_off14_inb i 0 0)) (sinkAt x2 (k0_off14 i 0#32 2#32) (k0_off14_inb i 0 1)) (sinkAt x2 (k0_off14 i 0#32 3#32) (k0_off14_inb i 0 2)) := rfl
/-- The first group's reciprocals before the loop. -/
theorem rA0_eq (i : grid0.Coords) (s : Vec F S640x512 .f32) :
    rA0 i x2 s = rT (View.ld s rW) (sinkAt x2 (k0_off13 i 0#32) (k0_off13_inb i 0)) (sinkAt x2 (k0_off14 i 0#32 1#32) (k0_off14_inb i 0 0)) (sinkAt x2 (k0_off14 i 0#32 2#32) (k0_off14_inb i 0 1)) (sinkAt x2 (k0_off14 i 0#32 3#32) (k0_off14_inb i 0 2)) := rfl
/-- The second group's weights after the loop. -/
theorem pBz_eq (i : grid0.Coords) (s : Vec F S640x512 .f32) :
    pBz i x2 s = wT (View.ld s rW) (sinkAt x2 (k0_off13 i 4#32) (k0_off13_inb i 1)) (sinkAt x2 (k0_off14 i 4#32 1#32) (k0_off14_inb i 1 0)) (sinkAt x2 (k0_off14 i 4#32 2#32) (k0_off14_inb i 1 1)) (sinkAt x2 (k0_off14 i 4#32 3#32) (k0_off14_inb i 1 2)) := rfl
/-- The second group's reciprocals after the loop. -/
theorem rBz_eq (i : grid0.Coords) (s : Vec F S640x512 .f32) :
    rBz i x2 s = rT (View.ld s rW) (sinkAt x2 (k0_off13 i 4#32) (k0_off13_inb i 1)) (sinkAt x2 (k0_off14 i 4#32 1#32) (k0_off14_inb i 1 0)) (sinkAt x2 (k0_off14 i 4#32 2#32) (k0_off14_inb i 1 1)) (sinkAt x2 (k0_off14 i 4#32 3#32) (k0_off14_inb i 1 2)) := rfl

/-- The first group's result in a turn. -/
theorem oA_eq (vt : Vec F S2x64x2304 .bf16) (p : Vec F S640x512 .bf16) (r : Vec F S8x512 .f32) (k : Fin k0_t3_loop.trips) :
    (oA vt p r k).2 = oT (View.ld vt (Rect.unit (s := S2x64x2304) (k0_off15 k) S1x64x384.size (k0_off15_inb k))) (View.ld vt (Rect.unit (s := S2x64x2304) ![0, 0, 2048] S1x64x256.size inb_S2x64x2304_S1x64x256_0_0_2048)) p r := rfl
/-- The second group's result in a turn. -/
theorem oB_eq (vt : Vec F S2x64x2304 .bf16) (p : Vec F S640x512 .bf16) (r : Vec F S8x512 .f32) (k : Fin k0_t3_loop.trips) :
    (oB vt p r k).2 = oT (View.ld vt (Rect.unit (s := S2x64x2304) (k0_off24 k) S1x64x384.size (k0_off24_inb k))) (View.ld vt (Rect.unit (s := S2x64x2304) ![1, 0, 2048] S1x64x256.size inb_S2x64x2304_S1x64x256_1_0_2048)) p r := rfl
/-- The first group's result after the loop. -/
theorem oAz_eq (vt : Vec F S2x64x2304 .bf16) (p : Vec F S640x512 .bf16) (r : Vec F S8x512 .f32) :
    (oAz vt p r).2 = oT (View.ld vt (Rect.unit (s := S2x64x2304) k0_off29 S1x64x384.size k0_off29_inb)) (View.ld vt (Rect.unit (s := S2x64x2304) ![0, 0, 2048] S1x64x256.size inb_S2x64x2304_S1x64x256_0_0_2048)) p r := rfl
/-- The second group's result after the loop. -/
theorem oBz_eq (vt : Vec F S2x64x2304 .bf16) (p : Vec F S640x512 .bf16) (r : Vec F S8x512 .f32) :
    (oBz vt p r).2 = oT (View.ld vt (Rect.unit (s := S2x64x2304) k0_off30 S1x64x384.size k0_off30_inb)) (View.ld vt (Rect.unit (s := S2x64x2304) ![1, 0, 2048] S1x64x256.size inb_S2x64x2304_S1x64x256_1_0_2048)) p r := rfl

/-! ## Their entries -/

/-- A rotated and scaled query tile at an index. -/
theorem qrot_at (t : FVec Ideal S1x128x128 .bf16) (cs sn : FVec Ideal S128x128 .f32) (r l : Fin 128) :
    qrot (F := Ideal) t cs sn (ix2 r l) = k0_pay10 (F := Ideal) t cs sn (ix2 r l) * qsc := by
  pointwise [qrot]
  rw [IdealRules.named_const.ideal_named_scalar _ _ _ _ rfl]
  rfl

/-- A column's scaled query at a lane, its other half cleared. -/
def qcol (tA tB : FVec Ideal S1x128x128 .bf16) (cs sn : FVec Ideal S128x128 .f32) (h : Fin 4) (j l : Fin 128) : EReal :=
  if l.val / 64 = h.val % 2 then (if h.val < 2 then k0_pay10 (F := Ideal) tA cs sn (ix2 j l) else k0_pay10 (F := Ideal) tB cs sn (ix2 j l)) * qsc else 0

/-- A stacked query at an index: zero outside the head's own lanes. -/
theorem qcol_eq (tA tB : FVec Ideal S1x128x128 .bf16) (cs sn : FVec Ideal S128x128 .f32) (h : Fin 4) (j l : Fin 128) (R : Fin 512) (hR : R.val = 128 * h.val + j.val) :
    k0_pay11 (F := Ideal) k0_pay35 k0_pay36 (qrot (F := Ideal) tA cs sn) (k0_pay10 (F := Ideal) tB cs sn) (ix2 R l) = qcol tA tB cs sn h j l := by
  rw [stack_at _ _ h j l R hR, qrot_at]
  unfold qcol
  by_cases h2 : h.val < 2
  · rw [if_pos h2, if_pos h2]
  · rw [if_neg h2, if_neg h2]

/-- The first store at an index, -/
theorem sOf_loc (A : FVec Ideal S256x512 .f32) (B : FVec Ideal S384x512 .f32) (x : Fin 640) (R : Fin 512) (kk : Fin 384) (hx : x.val = kk.val) :
    sOf (F := Ideal) A B (ix2 x R) = B (ix2 kk R) := by
  unfold sOf
  canon_tiles z h using (cover_qk (F := Ideal) A B _)
  · have h0' : x.val = 384 + (z 0).val := h0
    omega
  · refine congrArg B (funext (Fin.forall_fin_two.mpr ⟨Fin.ext ?_, Fin.ext h1.symm⟩))
    have h0' : x.val = (z 0).val := h0
    show (z 0).val = kk.val
    omega

/-- and the second. -/
theorem sOf_ctx (A : FVec Ideal S256x512 .f32) (B : FVec Ideal S384x512 .f32) (x : Fin 640) (R : Fin 512) (kk : Fin 256) (hx : x.val = 384 + kk.val) :
    sOf (F := Ideal) A B (ix2 x R) = A (ix2 kk R) := by
  unfold sOf
  canon_tiles z h using (cover_qk (F := Ideal) A B _)
  · refine congrArg A (funext (Fin.forall_fin_two.mpr ⟨Fin.ext ?_, Fin.ext h1.symm⟩))
    have h0' : x.val = 384 + (z 0).val := h0
    show (z 0).val = kk.val
    omega
  · have h0' : x.val = (z 0).val := h0
    omega

/-- The scores of a tile's own keys, -/
theorem sT_loc (tA tB : FVec Ideal S1x128x128 .bf16) (cs sn : FVec Ideal S128x128 .f32) (kw : FVec Ideal S384x128 .bf16) (mk : FVec Ideal S1x384x128 .bf16) (kc : FVec Ideal S1x256x128 .bf16)
    (h : Fin 4) (j : Fin 128) (R : Fin 512) (hR : R.val = 128 * h.val + j.val) (x : Fin 640) (kk : Fin 384) (hx : x.val = kk.val) :
    sT (F := Ideal) tA tB cs sn kw mk kc (ix2 x R)
      = (∑ l : Fin 128, kw (ix2 kk l) * qcol tA tB cs sn h j l) + ∑ l : Fin 128, mk (ix3 0 kk l) * (if l = j then (⊥ : EReal) else 0) := by
  unfold sT
  rw [sOf_loc _ _ x R kk hx, loc_at]
  have hj := j.isLt
  congr 1
  · exact Finset.sum_congr rfl fun l _ => by rw [qcol_eq tA tB cs sn h j l R hR]
  · exact Finset.sum_congr rfl fun l _ => by rw [eye_at j l R (by omega)]

/-- and of the context's. -/
theorem sT_ctx (tA tB : FVec Ideal S1x128x128 .bf16) (cs sn : FVec Ideal S128x128 .f32) (kw : FVec Ideal S384x128 .bf16) (mk : FVec Ideal S1x384x128 .bf16) (kc : FVec Ideal S1x256x128 .bf16)
    (h : Fin 4) (j : Fin 128) (R : Fin 512) (hR : R.val = 128 * h.val + j.val) (x : Fin 640) (kk : Fin 256) (hx : x.val = 384 + kk.val) :
    sT (F := Ideal) tA tB cs sn kw mk kc (ix2 x R) = (∑ l : Fin 128, kc (ix3 0 kk l) * qcol tA tB cs sn h j l) := by
  unfold sT
  rw [sOf_ctx _ _ x R kk hx, ctx_at]
  exact Finset.sum_congr rfl fun l _ => by rw [qcol_eq tA tB cs sn h j l R hR]

/-- A load of a tile of a matrix, at an index. -/
theorem ld2_at {A B a b : ℕ} {e : EltTy} (X : (⟨2, ![A, B]⟩ : Shape).Idx → Elt Ideal e) (off : Fin 2 → ℕ) (inb) (i : Fin a) (j : Fin b) (I : Fin A) (J : Fin B)
    (hI : I.val = off 0 + i.val) (hJ : J.val = off 1 + j.val) :
    View.ld (Val := Elt Ideal) (e' := e) X (Rect.unit (s := ⟨2, ![A, B]⟩) off ![a, b] inb) (ix2 i j) = X (ix2 I J) :=
  View.ld_unit_apply_of (Val := Elt Ideal) (e := e) (S := ⟨2, ![A, B]⟩) X off ![a, b] inb (ix2 i j) (ix2 I J) (Fin.forall_fin_two.mpr ⟨hI, hJ⟩)

/-- The same of an array of three axes. -/
theorem ld3_at {A B C a b c : ℕ} {e : EltTy} (X : (⟨3, ![A, B, C]⟩ : Shape).Idx → Elt Ideal e) (off : Fin 3 → ℕ) (inb) (i : Fin a) (j : Fin b) (k : Fin c) (I : Fin A) (J : Fin B) (K : Fin C)
    (hI : I.val = off 0 + i.val) (hJ : J.val = off 1 + j.val) (hK : K.val = off 2 + k.val) :
    View.ld (Val := Elt Ideal) (e' := e) X (Rect.unit (s := ⟨3, ![A, B, C]⟩) off ![a, b, c] inb) (ix3 i j k) = X (ix3 I J K) :=
  View.ld_unit_apply_of (Val := Elt Ideal) (e := e) (S := ⟨3, ![A, B, C]⟩) X off ![a, b, c] inb (ix3 i j k) (ix3 I J K)
    (fun x => match x with | 0 => hI | 1 => hJ | 2 => hK)

/-- The whole score buffer read. -/
theorem ldW_at (s : FVec Ideal S640x512 .f32) : View.ld (Val := Elt Ideal) (e' := .f32) s rW = s := by
  exact View.ld_unit_zero (by funext a; fin_cases a <;> rfl) _ _

/-- One entry of a tile's result. -/
theorem oT_at (vw : FVec Ideal S1x64x384 .bf16) (vc : FVec Ideal S1x64x256 .bf16) (p : FVec Ideal S640x512 .bf16) (r : FVec Ideal S8x512 .f32)
    (h : Fin 4) (d : Fin 64) (j : Fin 128) (k : Fin 256) (R : Fin 512) (hk : k.val = 64 * h.val + d.val) (hR : R.val = 128 * h.val + j.val) :
    oT (F := Ideal) vw vc p r (ix3 0 j k)
      = ((∑ x : Fin 384, vw (ix3 0 d x) * p (ix2 ⟨x.val, by omega⟩ R)) + ∑ x : Fin 256, vc (ix3 0 d x) * p (ix2 ⟨384 + x.val, by omega⟩ R)) * r (ix2 0 R) := by
  unfold oT
  rw [tile_at _ _ _ _ _ h d j k R hk hR]
  have e1 : ∀ x : Fin 384, View.ld (Val := Elt Ideal) (e' := .bf16) p rLoc (ix2 x R) = p (ix2 ⟨x.val, by omega⟩ R) := fun x => ld2_at _ _ _ _ _ _ _ (by simp) (by simp)
  have e2 : ∀ x : Fin 256, View.ld (Val := Elt Ideal) (e' := .bf16) p rCtx (ix2 x R) = p (ix2 ⟨384 + x.val, by omega⟩ R) := fun x => ld2_at _ _ _ _ _ _ _ (by simp) (by simp)
  have e3 : View.ld (Val := Elt Ideal) (e' := .f32) r rR1 (ix2 0 R) = r (ix2 0 R) := ld2_at _ _ _ _ _ _ _ (by simp) (by simp)
  rw [e3]
  simp only [e1, e2]

/-! ## The block's mathematics -/

section Data
variable (x3 : FVec Ideal S1x2304x512 .bf16) (x4 x5 : FVec Ideal S1x2304x256 .bf16) (x6 x7 : FVec Ideal S2048x128 .f32) (x8 : FVec Ideal S3x384x128 .bf16)

/-- A rotated query entry, -/
def rq (p : Fin 4) (r : Fin 2048) (l : Fin 128) : EReal :=
  x3 (ix3 0 ⟨r.val, by omega⟩ ⟨128 * p.val + l.val, by omega⟩) * x6 (ix2 r l) + x3 (ix3 0 ⟨r.val, by omega⟩ ⟨128 * p.val + (sw l).val, by omega⟩) * x7 (ix2 r l)
/-- a rotated key entry, -/
def rk (p : Fin 2) (r : Fin 2048) (l : Fin 128) : EReal :=
  x4 (ix3 0 ⟨r.val, by omega⟩ ⟨128 * p.val + l.val, by omega⟩) * x6 (ix2 r l) + x4 (ix3 0 ⟨r.val, by omega⟩ ⟨128 * p.val + (sw l).val, by omega⟩) * x7 (ix2 r l)
/-- a scaled query of one head, the other half of its lanes cleared, -/
def qv (g : Fin 2) (i : Fin 16) (h : Fin 4) (j l : Fin 128) : EReal :=
  if l.val / 64 = h.val % 2 then rq x3 x6 x7 ⟨2 * g.val + h.val / 2, by omega⟩ ⟨128 * i.val + j.val, by omega⟩ l * qsc else 0
/-- where a tile's window starts, -/
def wst (i : Fin 16) : ℕ := min ((i.val - 1) * 128) 1664
/-- Every window lies within the keys. -/
theorem wst_le (i : Fin 16) : wst i ≤ 1664 := min_le_right _ _
/-- which of the three masks it takes, -/
def cse (i : Fin 16) : Fin 3 := if i.val = 0 then 0 else if i.val = 15 then 2 else 1
/-- a score of the window, -/
def sloc (g : Fin 2) (i : Fin 16) (h : Fin 4) (j : Fin 128) (kk : Fin 384) : EReal :=
  (∑ l : Fin 128, rk x4 x6 x7 g ⟨wst i + kk.val, by have := wst_le i; omega⟩ l * qv x3 x6 x7 g i h j l) + ∑ l : Fin 128, x8 (ix3 (cse i) kk l) * (if l = j then (⊥ : EReal) else 0)
/-- of the context, -/
def sctx (g : Fin 2) (i : Fin 16) (h : Fin 4) (j : Fin 128) (kk : Fin 256) : EReal :=
  ∑ l : Fin 128, x4 (ix3 0 ⟨2048 + kk.val, by omega⟩ ⟨128 * g.val + l.val, by omega⟩) * qv x3 x6 x7 g i h j l
/-- and of either. -/
def sc (g : Fin 2) (i : Fin 16) (h : Fin 4) (j : Fin 128) (x : Fin 640) : EReal :=
  if hx : x.val < 384 then sloc x3 x4 x6 x7 x8 g i h j ⟨x.val, hx⟩ else sctx x3 x4 x6 x7 g i h j ⟨x.val - 384, by omega⟩
/-- One entry of the result, the head's sink being `z`. -/
def outv (z : EReal) (g : Fin 2) (i : Fin 16) (h : Fin 4) (j : Fin 128) (d : Fin 64) : EReal :=
  ((∑ x : Fin 384, x5 (ix3 0 ⟨wst i + x.val, by have := wst_le i; omega⟩ ⟨128 * g.val + d.val, by omega⟩) * Ideal.exp2 (sloc x3 x4 x6 x7 x8 g i h j x - smax (sc x3 x4 x6 x7 x8 g i h j) z))
    + ∑ x : Fin 256, x5 (ix3 0 ⟨2048 + x.val, by omega⟩ ⟨128 * g.val + d.val, by omega⟩) * Ideal.exp2 (sctx x3 x4 x6 x7 g i h j x - smax (sc x3 x4 x6 x7 x8 g i h j) z))
  * Ideal.div 1 ((∑ x : Fin 640, Ideal.exp2 (sc x3 x4 x6 x7 x8 g i h j x - smax (sc x3 x4 x6 x7 x8 g i h j) z)) + Ideal.exp2 (z * l2e - smax (sc x3 x4 x6 x7 x8 g i h j) z))

/-- A score buffer holding tile `i` of group `g`. -/
def IsSc (s : FVec Ideal S640x512 .f32) (g : Fin 2) (i : Fin 16) : Prop :=
  ∀ (h : Fin 4) (j : Fin 128) (R : Fin 512), R.val = 128 * h.val + j.val → ∀ x : Fin 640, s (ix2 x R) = sc x3 x4 x6 x7 x8 g i h j x

/-- A tile's scores are that from its loads. -/
theorem isSc_sT (tA tB : FVec Ideal S1x128x128 .bf16) (cs sn : FVec Ideal S128x128 .f32) (kw : FVec Ideal S384x128 .bf16) (mk : FVec Ideal S1x384x128 .bf16) (kc : FVec Ideal S1x256x128 .bf16)
    (g : Fin 2) (i : Fin 16)
    (htA : ∀ (r l : Fin 128), tA (ix3 0 r l) = x3 (ix3 0 ⟨128 * i.val + r.val, by omega⟩ ⟨128 * (2 * g.val) + l.val, by omega⟩))
    (htB : ∀ (r l : Fin 128), tB (ix3 0 r l) = x3 (ix3 0 ⟨128 * i.val + r.val, by omega⟩ ⟨128 * (2 * g.val + 1) + l.val, by omega⟩))
    (hcs : ∀ (r l : Fin 128), cs (ix2 r l) = x6 (ix2 ⟨128 * i.val + r.val, by omega⟩ l))
    (hsn : ∀ (r l : Fin 128), sn (ix2 r l) = x7 (ix2 ⟨128 * i.val + r.val, by omega⟩ l))
    (hkw : ∀ (kk : Fin 384) (l : Fin 128), kw (ix2 kk l) = rk x4 x6 x7 g ⟨wst i + kk.val, by have := wst_le i; omega⟩ l)
    (hmk : ∀ (kk : Fin 384) (l : Fin 128), mk (ix3 0 kk l) = x8 (ix3 (cse i) kk l))
    (hkc : ∀ (kk : Fin 256) (l : Fin 128), kc (ix3 0 kk l) = x4 (ix3 0 ⟨2048 + kk.val, by omega⟩ ⟨128 * g.val + l.val, by omega⟩)) :
    IsSc x3 x4 x6 x7 x8 (sT (F := Ideal) tA tB cs sn kw mk kc) g i := by
  intro h j R hR x
  have hq : ∀ l, qcol tA tB cs sn h j l = qv x3 x6 x7 g i h j l := by
    intro l
    unfold qcol qv rq
    rw [rope_at, rope_at, htA, htA, htB, htB, hcs, hsn]
    by_cases h2 : h.val < 2
    · have e : 2 * g.val + h.val / 2 = 2 * g.val := by omega
      simp only [if_pos h2, e]
    · have e : 2 * g.val + h.val / 2 = 2 * g.val + 1 := by omega
      simp only [if_neg h2, e]
  unfold sc
  by_cases hx : x.val < 384
  · rw [dif_pos hx, sT_loc _ _ _ _ _ _ _ h j R hR x ⟨x.val, hx⟩ rfl]
    unfold sloc
    simp only [hq, hkw, hmk]
  · rw [dif_neg hx, sT_ctx _ _ _ _ _ _ _ h j R hR x ⟨x.val - 384, by omega⟩ (by show x.val = 384 + (x.val - 384); omega)]
    unfold sctx
    simp only [hq, hkc]

/-- A tile's result from its scores. -/
theorem oT_val (s : FVec Ideal S640x512 .f32) (g : Fin 2) (i : Fin 16) (hs : IsSc x3 x4 x6 x7 x8 s g i) (f : Fin 4 → EReal)
    (vw : FVec Ideal S1x64x384 .bf16) (vc : FVec Ideal S1x64x256 .bf16)
    (hvw : ∀ (d : Fin 64) (x : Fin 384), vw (ix3 0 d x) = x5 (ix3 0 ⟨wst i + x.val, by have := wst_le i; omega⟩ ⟨128 * g.val + d.val, by omega⟩))
    (hvc : ∀ (d : Fin 64) (x : Fin 256), vc (ix3 0 d x) = x5 (ix3 0 ⟨2048 + x.val, by omega⟩ ⟨128 * g.val + d.val, by omega⟩))
    (h : Fin 4) (j : Fin 128) (d : Fin 64) (k : Fin 256) (hk : k.val = 64 * h.val + d.val) :
    oT (F := Ideal) vw vc (wT (F := Ideal) s (f 0) (f 1) (f 2) (f 3)) (rT (F := Ideal) s (f 0) (f 1) (f 2) (f 3)) (ix3 0 j k)
      = outv x3 x4 x5 x6 x7 x8 (f h) g i h j d := by
  have hR : (⟨128 * h.val + j.val, by omega⟩ : Fin 512).val = 128 * h.val + j.val := rfl
  have hsR := hs h j _ hR
  have hc : (fun x => s (ix2 x (⟨128 * h.val + j.val, by omega⟩ : Fin 512))) = sc x3 x4 x6 x7 x8 g i h j := funext hsR
  rw [oT_at _ _ _ _ h d j k ⟨128 * h.val + j.val, by omega⟩ hk rfl]
  unfold wT rT outv
  have hz := sinkSel_eq f h j _ hR
  have e1 : ∀ x : Fin 384, sc x3 x4 x6 x7 x8 g i h j ⟨x.val, by omega⟩ = sloc x3 x4 x6 x7 x8 g i h j x := fun x => dif_pos x.isLt
  have e2 : ∀ x : Fin 256, sc x3 x4 x6 x7 x8 g i h j ⟨384 + x.val, by omega⟩ = sctx x3 x4 x6 x7 g i h j x := fun x => by
    unfold sc
    rw [dif_neg (by show ¬ 384 + x.val < 384; omega)]
    exact congrArg _ (Fin.ext (by show 384 + x.val - 384 = x.val; omega))
  simp only [w_at, r_at, hc, hz, hsR, hvw, hvc, e1, e2]

end Data

end Cert.Proof.Swa
-- ==== Proof.SwaBlock.lean ====
/- Hand-written: the windowed attention's result block at an index, from the body's stores. -/
module

public import proofs.«01_k».proof.Proof.SwaIdealBody
public import proofs.«01_k».proof.Proof.SwaOut
public import Idealize.ShloMosaic.PureOps.IdealRules
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem
open scoped BigOperators

namespace Cert.Proof.Swa
open Cert.KernelIdeal Cert.KernelIdeal.Gen Cert.KernelIdeal.Swa

section Data
variable (x2 : FVec Ideal S16 .f32) (x3 : FVec Ideal S1x2304x512 .bf16) (x4 x5 : FVec Ideal S1x2304x256 .bf16) (x6 x7 : FVec Ideal S2048x128 .f32) (x8 : FVec Ideal S3x384x128 .bf16)

/-! ## The offsets -/

/-- The rotation's loop: an offset in a turn. -/
theorem off1_eq : ∀ n : Fin k0_t1_loop.trips, k0_off1 n = ![0, 256 * n.val, 0] := by decide +kernel
/-- The rotation's loop: an offset in a turn. -/
theorem off2_eq : ∀ n : Fin k0_t1_loop.trips, k0_off2 n = ![256 * n.val, 0] := by decide +kernel
/-- The rotation's loop: an offset in a turn. -/
theorem off3_eq : ∀ n : Fin k0_t1_loop.trips, k0_off3 n = ![256 * n.val, 0] := by decide +kernel
/-- The rotation's loop: an offset in a turn. -/
theorem off4_eq : ∀ n : Fin k0_t1_loop.trips, k0_off4 n = ![0, 256 * n.val, 128] := by decide +kernel
/-- The rotation's loop: an offset in a turn. -/
theorem off5_eq : ∀ n : Fin k0_t1_loop.trips, k0_off5 n = ![256 * n.val, 128] := by decide +kernel
/-- The transposing loop: an offset in a turn. -/
theorem off6_eq : ∀ n : Fin k0_t2_loop.trips, k0_off6 n = ![0, 128 * n.val, 0] := by decide +kernel
/-- The transposing loop: an offset in a turn. -/
theorem off7_eq : ∀ n : Fin k0_t2_loop.trips, k0_off7 n = ![0, 0, 128 * n.val] := by decide +kernel
/-- The transposing loop: an offset in a turn. -/
theorem off8_eq : ∀ n : Fin k0_t2_loop.trips, k0_off8 n = ![0, 128 * n.val, 128] := by decide +kernel
/-- The transposing loop: an offset in a turn. -/
theorem off9_eq : ∀ n : Fin k0_t2_loop.trips, k0_off9 n = ![1, 0, 128 * n.val] := by decide +kernel
/-- The rotation's loop has eight turns, -/
theorem trips1 : k0_t1_loop.trips = 8 := by decide +kernel
/-- the transposing one eighteen -/
theorem trips2 : k0_t2_loop.trips = 18 := by decide +kernel
/-- and the tiles' one fifteen. -/
theorem trips3 : k0_t3_loop.trips = 15 := by decide +kernel
/-- The tiles' loop: where the finished tile's values begin. -/
theorem off15_eq : ∀ n : Fin k0_t3_loop.trips, k0_off15 n = ![0, 0, min ((n.val - 1) * 128) 1664] := by decide +kernel
/-- The tiles' loop: where the finished tile is stored. -/
theorem off16_eq : ∀ n : Fin k0_t3_loop.trips, k0_off16 n = ![0, 128 * n.val, 0] := by decide +kernel
/-- The tiles' loop: where the finished tile's values begin. -/
theorem off24_eq : ∀ n : Fin k0_t3_loop.trips, k0_off24 n = ![1, 0, min ((n.val - 1) * 128) 1664] := by decide +kernel
/-- The tiles' loop: where the finished tile is stored. -/
theorem off25_eq : ∀ n : Fin k0_t3_loop.trips, k0_off25 n = ![0, 128 * n.val, 256] := by decide +kernel
/-- The tiles' loop: where the next tile's queries begin. -/
theorem off17_eq : ∀ n : Fin k0_t3_loop.trips, k0_off17 n = ![0, 128 * (n.val + 1), 0] := by decide +kernel
/-- The tiles' loop: where the next tile's queries begin. -/
theorem off19_eq : ∀ n : Fin k0_t3_loop.trips, k0_off19 n = ![0, 128 * (n.val + 1), 128] := by decide +kernel
/-- The tiles' loop: where the next tile's queries begin. -/
theorem off26_eq : ∀ n : Fin k0_t3_loop.trips, k0_off26 n = ![0, 128 * (n.val + 1), 256] := by decide +kernel
/-- The tiles' loop: where the next tile's queries begin. -/
theorem off27_eq : ∀ n : Fin k0_t3_loop.trips, k0_off27 n = ![0, 128 * (n.val + 1), 384] := by decide +kernel
/-- The tiles' loop: where the next tile's angles begin. -/
theorem off18_eq : ∀ n : Fin k0_t3_loop.trips, k0_off18 n = ![128 * (n.val + 1), 0] := by decide +kernel
/-- The tiles' loop: where the next tile's keys begin. -/
theorem off20_eq : ∀ n : Fin k0_t3_loop.trips, k0_off20 n = ![min ((n.val + 1 - 1) * 128) 1664, 0] := by decide +kernel
/-- The tiles' loop: where the next tile's keys begin. -/
theorem off28_eq : ∀ n : Fin k0_t3_loop.trips, k0_off28 n = ![min ((n.val + 1 - 1) * 128) 1664, 128] := by decide +kernel
/-- The tiles' loop: the next tile's case of the mask. -/
theorem off21_eq : ∀ n : Fin k0_t3_loop.trips, k0_off21 n = ![if n.val + 1 = 15 then 2 else 1, 0, 0] := by decide +kernel
/-- Before the loop: where the first tile's keys, mask and keys of the second group begin. -/
theorem off10_eq : k0_off10 = ![0, 0] := by decide +kernel
/-- Before the loop: where the first tile's keys, mask and keys of the second group begin. -/
theorem off11_eq : k0_off11 = ![0, 0, 0] := by decide +kernel
/-- Before the loop: where the first tile's keys, mask and keys of the second group begin. -/
theorem off12_eq : k0_off12 = ![0, 128] := by decide +kernel
/-- After the loop: where the last tile's values begin. -/
theorem off29_eq : k0_off29 = ![0, 0, 1664] := by decide +kernel
/-- After the loop: where the last tile's values begin. -/
theorem off30_eq : k0_off30 = ![1, 0, 1664] := by decide +kernel

/-- A coordinate of a placed index. -/
theorem emb_val {s : Shape} (off size : Fin s.rank → ℕ) (inb : ∀ a, off a + size a ≤ s.size a) (x : (Rect.unit off size inb).shape.Idx) (a : Fin s.rank) (o : ℕ) (h : off a = o) :
    (((Rect.unit off size inb).emb x) a).val = o + (x a).val := (Rect.idx_unit_val off size inb x a).trans (by rw [h])

/-! ## The rotated keys and the transposed values -/

/-- The rotated keys as one array. -/
def krG (y : S2048x256.Idx) : EReal := rk x4 x6 x7 ⟨(y 1).val / 128, by have : (y 1).val < 256 := (y 1).isLt; omega⟩ ⟨(y 0).val, (y 0).isLt⟩ ⟨(y 1).val % 128, Nat.mod_lt _ (by norm_num)⟩

/-- The rotated keys at a row and a lane. -/
theorem krG_eq (y : S2048x256.Idx) (p : Fin 2) (r : Fin 2048) (l : Fin 128) (h0 : (y 0).val = r.val) (h1 : (y 1).val = 128 * p.val + l.val) : krG x4 x6 x7 y = rk x4 x6 x7 p r l := by
  unfold krG
  congr 1
  · exact Fin.ext (by show (y 1).val / 128 = p.val; omega)
  · exact Fin.ext h0
  · exact Fin.ext (by show (y 1).val % 128 = l.val; omega)

/-- A stored tile of the rotated keys. -/
theorem kr_piece (p : Fin 2) (o : ℕ) (ho : o + 256 ≤ 2048) (t : FVec Ideal S1x256x128 .bf16) (cs sn : FVec Ideal S256x128 .f32)
    (ht : ∀ (r : Fin 256) (l : Fin 128), t (ix3 0 r l) = x4 (ix3 0 ⟨o + r.val, by omega⟩ ⟨128 * p.val + l.val, by omega⟩))
    (hcs : ∀ (r : Fin 256) (l : Fin 128), cs (ix2 r l) = x6 (ix2 ⟨o + r.val, by omega⟩ l))
    (hsn : ∀ (r : Fin 256) (l : Fin 128), sn (ix2 r l) = x7 (ix2 ⟨o + r.val, by omega⟩ l)) (x : S256x128.Idx) (y : S2048x256.Idx)
    (h0 : (y 0).val = o + (x 0).val) (h1 : (y 1).val = 128 * p.val + (x 1).val) :
    k0_pay2 (F := Ideal) t cs sn x = krG x4 x6 x7 y := by
  obtain ⟨r, l, rfl⟩ : ∃ (r : Fin 256) (l : Fin 128), x = ix2 r l := ⟨x 0, x 1, funext (Fin.forall_fin_two.mpr ⟨rfl, rfl⟩)⟩
  rw [ropek_at, ht, ht, hcs, hsn, krG_eq x4 x6 x7 y p ⟨o + r.val, by omega⟩ l h0 h1]
  rfl

/-- What the rotation's loop writes is the rotated keys. -/
theorem krL_all : ∀ n : ℕ, n ≤ 8 → ∀ pc ∈ krL (F := Ideal) x4 x6 x7 n, ∀ x : pc.1.shape.Idx, pc.2 x = krG x4 x6 x7 (pc.1.emb x)
  | 0, _, pc, hp, _ => absurd hp List.not_mem_nil
  | n + 1, hn, pc, hp, x => by
    have hlt : n < k0_t1_loop.trips := by rw [trips1]; omega
    have e := krL.eq_2 (F := Ideal) x4 x6 x7 n
    rw [e, dif_pos hlt] at hp
    rcases List.mem_cons.mp hp with rfl | hp
    · refine kr_piece x4 x6 x7 1 (256 * n) (by omega) _ _ _ ?_ ?_ ?_ x _ ?_ ?_
      · intro r l; exact ld3_at _ _ _ _ _ _ _ _ _ (by rw [off4_eq]; rfl) (by rw [off4_eq]; rfl) (by rw [off4_eq]; rfl)
      · intro r l; exact ld2_at _ _ _ _ _ _ _ (by rw [off2_eq]; rfl) (by rw [off2_eq]; simp)
      · intro r l; exact ld2_at _ _ _ _ _ _ _ (by rw [off2_eq]; rfl) (by rw [off2_eq]; simp)
      · exact emb_val _ _ (k0_off5_inb ⟨n, hlt⟩) x 0 _ (congrFun (off5_eq ⟨n, hlt⟩) 0)
      · exact emb_val _ _ (k0_off5_inb ⟨n, hlt⟩) x 1 _ (congrFun (off5_eq ⟨n, hlt⟩) 1)
    rcases List.mem_cons.mp hp with rfl | hp
    · refine kr_piece x4 x6 x7 0 (256 * n) (by omega) _ _ _ ?_ ?_ ?_ x _ ?_ ?_
      · intro r l; exact ld3_at _ _ _ _ _ _ _ _ _ (by rw [off1_eq]; rfl) (by rw [off1_eq]; rfl) (by rw [off1_eq]; rfl)
      · intro r l; exact ld2_at _ _ _ _ _ _ _ (by rw [off2_eq]; rfl) (by rw [off2_eq]; simp)
      · intro r l; exact ld2_at _ _ _ _ _ _ _ (by rw [off2_eq]; rfl) (by rw [off2_eq]; simp)
      · exact emb_val _ _ (k0_off3_inb ⟨n, hlt⟩) x 0 _ (congrFun (off3_eq ⟨n, hlt⟩) 0)
      · exact emb_val _ _ (k0_off3_inb ⟨n, hlt⟩) x 1 _ (congrFun (off3_eq ⟨n, hlt⟩) 1)
    exact krL_all n (by omega) pc hp x

/-- The rotated keys at an index. -/
theorem kr_at (p : Fin 2) (r : Fin 2048) (l : Fin 128) (c : Fin 256) (hc : c.val = 128 * p.val + l.val) :
    kr (F := Ideal) x4 x6 x7 (ix2 r c) = rk x4 x6 x7 p r l := by
  unfold kr
  exact (View.canon_apply_of_pieces (Val := Elt Ideal) (krG x4 x6 x7) _ (fun pc hp x => krL_all x4 x6 x7 k0_t1_loop.trips (by rw [trips1]) pc hp x) _ (cover_kr (F := Ideal) x4 x6 x7 _)).trans
    (krG_eq x4 x6 x7 _ p r l rfl hc)

/-- The transposed values as one array. -/
def vtG (y : S2x64x2304.Idx) : EReal := x5 (ix3 0 ⟨(y 2).val, (y 2).isLt⟩ ⟨128 * (y 0).val + (y 1).val, by have h0 : (y 0).val < 2 := (y 0).isLt; have h1 : (y 1).val < 64 := (y 1).isLt; omega⟩)

/-- A stored tile of the transposed values. -/
theorem vt_piece (g : Fin 2) (o : ℕ) (ho : o + 128 ≤ 2304) (t : FVec Ideal S1x128x128 .bf16)
    (ht : ∀ (r l : Fin 128), t (ix3 0 r l) = x5 (ix3 0 ⟨o + r.val, by omega⟩ ⟨128 * g.val + l.val, by omega⟩)) (x : S1x64x128.Idx) (y : S2x64x2304.Idx)
    (h0 : (y 0).val = g.val + (x 0).val) (h1 : (y 1).val = 0 + (x 1).val) (h2 : (y 2).val = o + (x 2).val) :
    k0_pay39 (F := Ideal) t x = vtG x5 y := by
  obtain ⟨z, d, r, rfl⟩ : ∃ (z : Fin 1) (d : Fin 64) (r : Fin 128), x = ix3 z d r := ⟨x 0, x 1, x 2, funext fun a => match a with | 0 => rfl | 1 => rfl | 2 => rfl⟩
  pointwise [k0_pay39]
  rw [ht]
  have h0' : (y 0).val = g.val + z.val := h0
  have h1' : (y 1).val = 0 + d.val := h1
  have h2' : (y 2).val = o + r.val := h2
  unfold vtG
  congr 1
  congr 1
  · exact Fin.ext h2'.symm
  · exact Fin.ext (by show 128 * g.val + d.val = 128 * (y 0).val + (y 1).val; omega)

/-- What the transposing loop writes is the transposed values. -/
theorem vtL_all : ∀ n : ℕ, n ≤ 18 → ∀ pc ∈ vtL (F := Ideal) x5 n, ∀ x : pc.1.shape.Idx, pc.2 x = vtG x5 (pc.1.emb x)
  | 0, _, pc, hp, _ => absurd hp List.not_mem_nil
  | n + 1, hn, pc, hp, x => by
    have hlt : n < k0_t2_loop.trips := by rw [trips2]; omega
    have e := vtL.eq_2 (F := Ideal) x5 n
    rw [e, dif_pos hlt] at hp
    rcases List.mem_cons.mp hp with rfl | hp
    · refine vt_piece x5 1 (128 * n) (by omega) _ ?_ x _ ?_ ?_ ?_
      · intro r l; exact ld3_at _ _ _ _ _ _ _ _ _ (by rw [off8_eq]; rfl) (by rw [off8_eq]; rfl) (by rw [off8_eq]; rfl)
      · exact emb_val _ _ (k0_off9_inb ⟨n, hlt⟩) x 0 _ (congrFun (off9_eq ⟨n, hlt⟩) 0)
      · exact emb_val _ _ (k0_off9_inb ⟨n, hlt⟩) x 1 _ (congrFun (off9_eq ⟨n, hlt⟩) 1)
      · exact emb_val _ _ (k0_off9_inb ⟨n, hlt⟩) x 2 _ (congrFun (off9_eq ⟨n, hlt⟩) 2)
    rcases List.mem_cons.mp hp with rfl | hp
    · refine vt_piece x5 0 (128 * n) (by omega) _ ?_ x _ ?_ ?_ ?_
      · intro r l; exact ld3_at _ _ _ _ _ _ _ _ _ (by rw [off6_eq]; rfl) (by rw [off6_eq]; rfl) (by rw [off6_eq]; rfl)
      · exact emb_val _ _ (k0_off7_inb ⟨n, hlt⟩) x 0 _ (congrFun (off7_eq ⟨n, hlt⟩) 0)
      · exact emb_val _ _ (k0_off7_inb ⟨n, hlt⟩) x 1 _ (congrFun (off7_eq ⟨n, hlt⟩) 1)
      · exact emb_val _ _ (k0_off7_inb ⟨n, hlt⟩) x 2 _ (congrFun (off7_eq ⟨n, hlt⟩) 2)
    exact vtL_all n (by omega) pc hp x

/-- The transposed values at an index. -/
theorem vt_at (g : Fin 2) (d : Fin 64) (r : Fin 2304) :
    vt (F := Ideal) x5 (ix3 g d r) = x5 (ix3 0 r ⟨128 * g.val + d.val, by omega⟩) := by
  unfold vt
  exact View.canon_apply_of_pieces (Val := Elt Ideal) (vtG x5) _ (fun pc hp x => vtL_all x5 k0_t2_loop.trips (by rw [trips2]) pc hp x) _ (cover_vt (F := Ideal) x5 _)

end Data

end Cert.Proof.Swa
-- ==== Proof.SwaScore.lean ====
/- Hand-written: the windowed attention's scores at every trip, and its result block at an index. -/
module

public import proofs.«01_k».proof.Proof.SwaBlock
public import Idealize.ShloMosaic.PureOps.IdealRules
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem
open scoped BigOperators

namespace Cert.Proof.Swa
open Cert.KernelIdeal Cert.KernelIdeal.Gen Cert.KernelIdeal.Swa

section Data
variable (x2 : FVec Ideal S16 .f32) (x3 : FVec Ideal S1x2304x512 .bf16) (x4 x5 : FVec Ideal S1x2304x256 .bf16) (x6 x7 : FVec Ideal S2048x128 .f32) (x8 : FVec Ideal S3x384x128 .bf16)

/-! ## The scores -/

/-- The first tile of the first group, -/
theorem isA0 : IsSc x3 x4 x6 x7 x8 (sA0 (F := Ideal) x3 x4 x6 x7 x8 (kr (F := Ideal) x4 x6 x7)) 0 ⟨0, by norm_num⟩ := by
  rw [sA0_eq]
  refine isSc_sT x3 x4 x6 x7 x8 _ _ _ _ _ _ _ 0 ⟨0, by norm_num⟩ ?_ ?_ ?_ ?_ ?_ ?_ ?_
  · intro r l; exact ld3_at _ _ _ _ _ _ _ _ _ (by rfl) (by show 128 * 0 + r.val = 0 + r.val; omega) (by show 128 * (2 * 0) + l.val = 0 + l.val; omega)
  · intro r l; exact ld3_at _ _ _ _ _ _ _ _ _ (by rfl) (by show 128 * 0 + r.val = 0 + r.val; omega) (by show 128 * (2 * 0 + 1) + l.val = 128 + l.val; omega)
  · intro r l; exact ld2_at _ _ _ _ _ _ _ (by show 128 * 0 + r.val = 0 + r.val; omega) (by show l.val = 0 + l.val; omega)
  · intro r l; exact ld2_at _ _ _ _ _ _ _ (by show 128 * 0 + r.val = 0 + r.val; omega) (by show l.val = 0 + l.val; omega)
  · intro kk l
    exact (ld2_at _ _ _ kk l _ ⟨128 * 0 + l.val, by omega⟩ (by rw [off10_eq]; rfl) (by rw [off10_eq]; show 128 * 0 + l.val = 0 + l.val; omega)).trans (kr_at x4 x6 x7 0 _ l _ rfl)
  · intro kk l; exact ld3_at _ _ _ _ _ _ _ _ _ (by rw [off11_eq]; rfl) (by rw [off11_eq]; show kk.val = 0 + kk.val; omega) (by rw [off11_eq]; show l.val = 0 + l.val; omega)
  · intro kk l; exact ld3_at _ _ _ _ _ _ _ _ _ rfl rfl (by show 128 * 0 + l.val = 0 + l.val; omega)

/-- of the second; -/
theorem isB0 : IsSc x3 x4 x6 x7 x8 (sB0 (F := Ideal) x3 x4 x6 x7 x8 (kr (F := Ideal) x4 x6 x7)) 1 ⟨0, by norm_num⟩ := by
  rw [sB0_eq]
  refine isSc_sT x3 x4 x6 x7 x8 _ _ _ _ _ _ _ 1 ⟨0, by norm_num⟩ ?_ ?_ ?_ ?_ ?_ ?_ ?_
  · intro r l; exact ld3_at _ _ _ _ _ _ _ _ _ (by rfl) (by show 128 * 0 + r.val = 0 + r.val; omega) (by show 128 * (2 * 1) + l.val = 256 + l.val; omega)
  · intro r l; exact ld3_at _ _ _ _ _ _ _ _ _ (by rfl) (by show 128 * 0 + r.val = 0 + r.val; omega) (by show 128 * (2 * 1 + 1) + l.val = 384 + l.val; omega)
  · intro r l; exact ld2_at _ _ _ _ _ _ _ (by show 128 * 0 + r.val = 0 + r.val; omega) (by show l.val = 0 + l.val; omega)
  · intro r l; exact ld2_at _ _ _ _ _ _ _ (by show 128 * 0 + r.val = 0 + r.val; omega) (by show l.val = 0 + l.val; omega)
  · intro kk l
    exact (ld2_at _ _ _ kk l _ ⟨128 * 1 + l.val, by omega⟩ (by rw [off12_eq]; rfl) (by rw [off12_eq]; show 128 * 1 + l.val = 128 + l.val; omega)).trans (kr_at x4 x6 x7 1 _ l _ rfl)
  · intro kk l; exact ld3_at _ _ _ _ _ _ _ _ _ (by rw [off11_eq]; rfl) (by rw [off11_eq]; show kk.val = 0 + kk.val; omega) (by rw [off11_eq]; show l.val = 0 + l.val; omega)
  · intro kk l; exact ld3_at _ _ _ _ _ _ _ _ _ rfl rfl (by show 128 * 1 + l.val = 128 + l.val; omega)

/-- the next tile of the first group at a trip, -/
theorem isA (k : Fin k0_t3_loop.trips) : IsSc x3 x4 x6 x7 x8 (qkA (F := Ideal) x3 x4 x6 x7 x8 (kr (F := Ideal) x4 x6 x7) k0_pay35 k0_pay36 k0_pay37 k) 0 ⟨k.val + 1, Nat.succ_lt_succ (lt_of_lt_of_eq k.isLt trips3)⟩ := by
  have hk : k.val < 15 := lt_of_lt_of_eq k.isLt trips3
  rw [qkA_eq]
  refine isSc_sT x3 x4 x6 x7 x8 _ _ _ _ _ _ _ 0 ⟨k.val + 1, Nat.succ_lt_succ (lt_of_lt_of_eq k.isLt trips3)⟩ ?_ ?_ ?_ ?_ ?_ ?_ ?_
  · intro r l; exact ld3_at _ _ _ _ _ _ _ _ _ (by rw [off17_eq]; rfl) (by rw [off17_eq]; show 128 * (k.val + 1) + r.val = 128 * (k.val + 1) + r.val; omega) (by rw [off17_eq]; show 128 * (2 * 0) + l.val = 0 + l.val; omega)
  · intro r l; exact ld3_at _ _ _ _ _ _ _ _ _ (by rw [off19_eq]; rfl) (by rw [off19_eq]; show 128 * (k.val + 1) + r.val = 128 * (k.val + 1) + r.val; omega) (by rw [off19_eq]; show 128 * (2 * 0 + 1) + l.val = 128 + l.val; omega)
  · intro r l; exact ld2_at _ _ _ _ _ _ _ (by rw [off18_eq]; show 128 * (k.val + 1) + r.val = 128 * (k.val + 1) + r.val; omega) (by rw [off18_eq]; show l.val = 0 + l.val; omega)
  · intro r l; exact ld2_at _ _ _ _ _ _ _ (by rw [off18_eq]; show 128 * (k.val + 1) + r.val = 128 * (k.val + 1) + r.val; omega) (by rw [off18_eq]; show l.val = 0 + l.val; omega)
  · intro kk l
    exact (ld2_at _ _ _ kk l _ ⟨128 * 0 + l.val, by omega⟩ (by rw [off20_eq]; rfl) (by rw [off20_eq]; show 128 * 0 + l.val = 0 + l.val; omega)).trans (kr_at x4 x6 x7 0 _ l _ rfl)
  · intro kk l; exact ld3_at _ _ _ _ _ _ _ _ _ (by rw [off21_eq]; show (cse _).val = (if k.val + 1 = 15 then 2 else 1) + 0; unfold cse; rw [if_neg (Nat.succ_ne_zero _)]; split <;> rfl) (by rw [off21_eq]; show kk.val = 0 + kk.val; omega) (by rw [off21_eq]; show l.val = 0 + l.val; omega)
  · intro kk l; exact ld3_at _ _ _ _ _ _ _ _ _ rfl rfl (by show 128 * 0 + l.val = 0 + l.val; omega)

/-- and of the second. -/
theorem isB (k : Fin k0_t3_loop.trips) : IsSc x3 x4 x6 x7 x8 (qkB (F := Ideal) x3 x4 x6 x7 x8 (kr (F := Ideal) x4 x6 x7) k0_pay35 k0_pay36 k0_pay37 k) 1 ⟨k.val + 1, Nat.succ_lt_succ (lt_of_lt_of_eq k.isLt trips3)⟩ := by
  have hk : k.val < 15 := lt_of_lt_of_eq k.isLt trips3
  rw [qkB_eq]
  refine isSc_sT x3 x4 x6 x7 x8 _ _ _ _ _ _ _ 1 ⟨k.val + 1, Nat.succ_lt_succ (lt_of_lt_of_eq k.isLt trips3)⟩ ?_ ?_ ?_ ?_ ?_ ?_ ?_
  · intro r l; exact ld3_at _ _ _ _ _ _ _ _ _ (by rw [off26_eq]; rfl) (by rw [off26_eq]; show 128 * (k.val + 1) + r.val = 128 * (k.val + 1) + r.val; omega) (by rw [off26_eq]; show 128 * (2 * 1) + l.val = 256 + l.val; omega)
  · intro r l; exact ld3_at _ _ _ _ _ _ _ _ _ (by rw [off27_eq]; rfl) (by rw [off27_eq]; show 128 * (k.val + 1) + r.val = 128 * (k.val + 1) + r.val; omega) (by rw [off27_eq]; show 128 * (2 * 1 + 1) + l.val = 384 + l.val; omega)
  · intro r l; exact ld2_at _ _ _ _ _ _ _ (by rw [off18_eq]; show 128 * (k.val + 1) + r.val = 128 * (k.val + 1) + r.val; omega) (by rw [off18_eq]; show l.val = 0 + l.val; omega)
  · intro r l; exact ld2_at _ _ _ _ _ _ _ (by rw [off18_eq]; show 128 * (k.val + 1) + r.val = 128 * (k.val + 1) + r.val; omega) (by rw [off18_eq]; show l.val = 0 + l.val; omega)
  · intro kk l
    exact (ld2_at _ _ _ kk l _ ⟨128 * 1 + l.val, by omega⟩ (by rw [off28_eq]; rfl) (by rw [off28_eq]; show 128 * 1 + l.val = 128 + l.val; omega)).trans (kr_at x4 x6 x7 1 _ l _ rfl)
  · intro kk l; exact ld3_at _ _ _ _ _ _ _ _ _ (by rw [off21_eq]; show (cse _).val = (if k.val + 1 = 15 then 2 else 1) + 0; unfold cse; rw [if_neg (Nat.succ_ne_zero _)]; split <;> rfl) (by rw [off21_eq]; show kk.val = 0 + kk.val; omega) (by rw [off21_eq]; show l.val = 0 + l.val; omega)
  · intro kk l; exact ld3_at _ _ _ _ _ _ _ _ _ rfl rfl (by show 128 * 1 + l.val = 128 + l.val; omega)

/-! ## The sinks -/

/-- The first head's place among the sinks. -/
theorem soff13_val : ∀ (a : Fin 2) (r : Fin 2), (Scalar.indexCast (Scalar.addi (Scalar.muli (BitVec.ofNat 32 a.val) 8#32) (BitVec.ofNat 32 (4 * r.val)))).toNat = 8 * a.val + 4 * r.val := by decide +kernel
/-- The other heads' places among the sinks. -/
theorem soff14_val : ∀ (a : Fin 2) (r : Fin 2) (s : Fin 3), (Scalar.indexCast (Scalar.addi (Scalar.addi (Scalar.muli (BitVec.ofNat 32 a.val) 8#32) (BitVec.ofNat 32 (4 * r.val))) (BitVec.ofNat 32 (1 + s.val)))).toNat = 8 * a.val + 4 * r.val + (1 + s.val) := by decide +kernel

/-- A sink read at an offset. -/
theorem sinkAt_at (off : Fin 1 → ℕ) (inb : ∀ a, off a + S1.size a ≤ S16.size a) (K : Fin 16) (h : off 0 = K.val) : sinkAt (F := Ideal) x2 off inb = x2 (ix1 K) := by
  unfold sinkAt
  refine View.ld_unit_apply_of (Val := Elt Ideal) (e := .f32) (S := S16) x2 off S1.size inb _ (ix1 K) ?_
  intro a
  have ha : a = 0 := Subsingleton.elim _ _
  subst ha
  have hz : ((Shape.Idx.first (numel1_S1 ▸ Nat.one_pos) : S1.Idx) 0).val < 1 := ((Shape.Idx.first (numel1_S1 ▸ Nat.one_pos) : S1.Idx) 0).isLt
  show K.val = off 0 + ((Shape.Idx.first (numel1_S1 ▸ Nat.one_pos) : S1.Idx) 0).val
  omega

/-- The head group's sinks. -/
def zsel (i : grid0.Coords) (g : Fin 2) (h : Fin 4) : EReal := x2 (ix1 ⟨8 * (i 1).val + 4 * g.val + h.val, by have h1 : (i 1).val < 2 := (i 1).isLt; omega⟩)

/-- The first head's sink in the first group. -/
theorem sink13 (i : grid0.Coords) (g : Fin 2) : sinkAt (F := Ideal) x2 (k0_off13 i (BitVec.ofNat 32 (4 * g.val))) (k0_off13_inb i g) = zsel x2 i g 0 := sinkAt_at x2 _ _ _ (soff13_val (i 1) g)
/-- The first head's sink in the second group. -/
theorem sink22 (i : grid0.Coords) (g : Fin 2) : sinkAt (F := Ideal) x2 (k0_off22 i (BitVec.ofNat 32 (4 * g.val))) (k0_off22_inb i g) = zsel x2 i g 0 := sinkAt_at x2 _ _ _ (soff13_val (i 1) g)
/-- The other heads' sinks in the first group. -/
theorem sink14 (i : grid0.Coords) (g : Fin 2) (s : Fin 3) (h : Fin 4) (hh : h.val = 1 + s.val) : sinkAt (F := Ideal) x2 (k0_off14 i (BitVec.ofNat 32 (4 * g.val)) (BitVec.ofNat 32 (1 + s.val))) (k0_off14_inb i g s) = zsel x2 i g h :=
  sinkAt_at x2 _ _ _ ((soff14_val (i 1) g s).trans (by show _ = 8 * (i 1).val + 4 * g.val + h.val; rw [hh]))
/-- The other heads' sinks in the second group. -/
theorem sink23 (i : grid0.Coords) (g : Fin 2) (s : Fin 3) (h : Fin 4) (hh : h.val = 1 + s.val) : sinkAt (F := Ideal) x2 (k0_off23 i (BitVec.ofNat 32 (4 * g.val)) (BitVec.ofNat 32 (1 + s.val))) (k0_off23_inb i g s) = zsel x2 i g h :=
  sinkAt_at x2 _ _ _ ((soff14_val (i 1) g s).trans (by show _ = 8 * (i 1).val + 4 * g.val + h.val; rw [hh]))

/-- The weights of scores, -/
def wS (i : grid0.Coords) (g : Fin 2) (s : FVec Ideal S640x512 .f32) : FVec Ideal S640x512 .bf16 := wT (F := Ideal) s (zsel x2 i g 0) (zsel x2 i g 1) (zsel x2 i g 2) (zsel x2 i g 3)
/-- and their reciprocals. -/
def rS (i : grid0.Coords) (g : Fin 2) (s : FVec Ideal S640x512 .f32) : FVec Ideal S8x512 .f32 := rT (F := Ideal) s (zsel x2 i g 0) (zsel x2 i g 1) (zsel x2 i g 2) (zsel x2 i g 3)

/-- The first group's weights in a turn are those of its scores. -/
theorem pA_val (i : grid0.Coords) (s : FVec Ideal S640x512 .f32) : pA (F := Ideal) i x2 lane s = wS x2 i 0 s := by
  refine (pA_eq (F := Ideal) x2 i s).trans ?_
  have e0 := sink22 x2 i 0
  have e1 := sink23 x2 i 0 0 1 rfl
  have e2 := sink23 x2 i 0 1 2 rfl
  have e3 := sink23 x2 i 0 2 3 rfl
  unfold wS
  rw [ldW_at]
  exact congr (congr (congr (congrArg (wT (F := Ideal) s) e0) e1) e2) e3
/-- The first group's reciprocals in a turn are those of its scores. -/
theorem rA_val (i : grid0.Coords) (s : FVec Ideal S640x512 .f32) : rA (F := Ideal) i x2 lane s = rS x2 i 0 s := by
  refine (rA_eq (F := Ideal) x2 i s).trans ?_
  have e0 := sink22 x2 i 0
  have e1 := sink23 x2 i 0 0 1 rfl
  have e2 := sink23 x2 i 0 1 2 rfl
  have e3 := sink23 x2 i 0 2 3 rfl
  unfold rS
  rw [ldW_at]
  exact congr (congr (congr (congrArg (rT (F := Ideal) s) e0) e1) e2) e3
/-- The second group's weights in a turn are those of its scores. -/
theorem pB_val (i : grid0.Coords) (s : FVec Ideal S640x512 .f32) : pB (F := Ideal) i x2 lane s = wS x2 i 1 s := by
  refine (pB_eq (F := Ideal) x2 i s).trans ?_
  have e0 := sink22 x2 i 1
  have e1 := sink23 x2 i 1 0 1 rfl
  have e2 := sink23 x2 i 1 1 2 rfl
  have e3 := sink23 x2 i 1 2 3 rfl
  unfold wS
  rw [ldW_at]
  exact congr (congr (congr (congrArg (wT (F := Ideal) s) e0) e1) e2) e3
/-- The second group's reciprocals in a turn are those of its scores. -/
theorem rB_val (i : grid0.Coords) (s : FVec Ideal S640x512 .f32) : rB (F := Ideal) i x2 lane s = rS x2 i 1 s := by
  refine (rB_eq (F := Ideal) x2 i s).trans ?_
  have e0 := sink22 x2 i 1
  have e1 := sink23 x2 i 1 0 1 rfl
  have e2 := sink23 x2 i 1 1 2 rfl
  have e3 := sink23 x2 i 1 2 3 rfl
  unfold rS
  rw [ldW_at]
  exact congr (congr (congr (congrArg (rT (F := Ideal) s) e0) e1) e2) e3
/-- The first group's weights before the loop are those of its scores. -/
theorem pA0_val (i : grid0.Coords) (s : FVec Ideal S640x512 .f32) : pA0 (F := Ideal) i x2 s = wS x2 i 0 s := by
  refine (pA0_eq (F := Ideal) x2 i s).trans ?_
  have e0 := sink13 x2 i 0
  have e1 := sink14 x2 i 0 0 1 rfl
  have e2 := sink14 x2 i 0 1 2 rfl
  have e3 := sink14 x2 i 0 2 3 rfl
  unfold wS
  rw [ldW_at]
  exact congr (congr (congr (congrArg (wT (F := Ideal) s) e0) e1) e2) e3
/-- The first group's reciprocals before the loop are those of its scores. -/
theorem rA0_val (i : grid0.Coords) (s : FVec Ideal S640x512 .f32) : rA0 (F := Ideal) i x2 s = rS x2 i 0 s := by
  refine (rA0_eq (F := Ideal) x2 i s).trans ?_
  have e0 := sink13 x2 i 0
  have e1 := sink14 x2 i 0 0 1 rfl
  have e2 := sink14 x2 i 0 1 2 rfl
  have e3 := sink14 x2 i 0 2 3 rfl
  unfold rS
  rw [ldW_at]
  exact congr (congr (congr (congrArg (rT (F := Ideal) s) e0) e1) e2) e3
/-- The second group's weights after the loop are those of its scores. -/
theorem pBz_val (i : grid0.Coords) (s : FVec Ideal S640x512 .f32) : pBz (F := Ideal) i x2 s = wS x2 i 1 s := by
  refine (pBz_eq (F := Ideal) x2 i s).trans ?_
  have e0 := sink13 x2 i 1
  have e1 := sink14 x2 i 1 0 1 rfl
  have e2 := sink14 x2 i 1 1 2 rfl
  have e3 := sink14 x2 i 1 2 3 rfl
  unfold wS
  rw [ldW_at]
  exact congr (congr (congr (congrArg (wT (F := Ideal) s) e0) e1) e2) e3
/-- The second group's reciprocals after the loop are those of its scores. -/
theorem rBz_val (i : grid0.Coords) (s : FVec Ideal S640x512 .f32) : rBz (F := Ideal) i x2 s = rS x2 i 1 s := by
  refine (rBz_eq (F := Ideal) x2 i s).trans ?_
  have e0 := sink13 x2 i 1
  have e1 := sink14 x2 i 1 0 1 rfl
  have e2 := sink14 x2 i 1 1 2 rfl
  have e3 := sink14 x2 i 1 2 3 rfl
  unfold rS
  rw [ldW_at]
  exact congr (congr (congr (congrArg (rT (F := Ideal) s) e0) e1) e2) e3

/-! ## The stored tiles -/

/-- The result as one array. -/
def outG (i : grid0.Coords) (y : S1x2048x512.Idx) : EReal :=
  outv x3 x4 x5 x6 x7 x8 (zsel x2 i ⟨(y 2).val / 256, by have h : (y 2).val < 512 := (y 2).isLt; omega⟩ ⟨(y 2).val % 256 / 64, by omega⟩)
    ⟨(y 2).val / 256, by have h : (y 2).val < 512 := (y 2).isLt; omega⟩ ⟨(y 1).val / 128, by have h : (y 1).val < 2048 := (y 1).isLt; omega⟩ ⟨(y 2).val % 256 / 64, by omega⟩
    ⟨(y 1).val % 128, by omega⟩ ⟨(y 2).val % 64, by omega⟩

/-- The body's result array at a row and a column. -/
theorem outG_eq (i : grid0.Coords) (y : S1x2048x512.Idx) (g : Fin 2) (n : Fin 16) (h : Fin 4) (j : Fin 128) (d : Fin 64) (h1 : (y 1).val = 128 * n.val + j.val) (h2 : (y 2).val = 256 * g.val + 64 * h.val + d.val) :
    outG x2 x3 x4 x5 x6 x7 x8 i y = outv x3 x4 x5 x6 x7 x8 (zsel x2 i g h) g n h j d := by
  have eg : ∀ p, (⟨(y 2).val / 256, p⟩ : Fin 2) = g := fun p => Fin.ext (by show (y 2).val / 256 = g.val; omega)
  have eh : ∀ p, (⟨(y 2).val % 256 / 64, p⟩ : Fin 4) = h := fun p => Fin.ext (by show (y 2).val % 256 / 64 = h.val; omega)
  have en : ∀ p, (⟨(y 1).val / 128, p⟩ : Fin 16) = n := fun p => Fin.ext (by show (y 1).val / 128 = n.val; omega)
  have ej : ∀ p, (⟨(y 1).val % 128, p⟩ : Fin 128) = j := fun p => Fin.ext (by show (y 1).val % 128 = j.val; omega)
  have ed : ∀ p, (⟨(y 2).val % 64, p⟩ : Fin 64) = d := fun p => Fin.ext (by show (y 2).val % 64 = d.val; omega)
  unfold outG
  rw [eg, eh, en, ej, ed]

/-- A stored tile of the result. -/
theorem out_piece (i : grid0.Coords) (s : FVec Ideal S640x512 .f32) (g : Fin 2) (n : Fin 16) (hs : IsSc x3 x4 x6 x7 x8 s g n) (p : FVec Ideal S640x512 .bf16) (r : FVec Ideal S8x512 .f32)
    (hp : p = wS x2 i g s) (hr : r = rS x2 i g s)
    (vw : FVec Ideal S1x64x384 .bf16) (vc : FVec Ideal S1x64x256 .bf16)
    (hvw : ∀ (d : Fin 64) (x : Fin 384), vw (ix3 0 d x) = x5 (ix3 0 ⟨wst n + x.val, by have := wst_le n; omega⟩ ⟨128 * g.val + d.val, by omega⟩))
    (hvc : ∀ (d : Fin 64) (x : Fin 256), vc (ix3 0 d x) = x5 (ix3 0 ⟨2048 + x.val, by omega⟩ ⟨128 * g.val + d.val, by omega⟩))
    (x : S1x128x256.Idx) (y : S1x2048x512.Idx) (h1 : (y 1).val = 128 * n.val + (x 1).val) (h2 : (y 2).val = 256 * g.val + (x 2).val) :
    oT (F := Ideal) vw vc p r x = outG x2 x3 x4 x5 x6 x7 x8 i y := by
  obtain ⟨z, j, k, rfl⟩ : ∃ (z : Fin 1) (j : Fin 128) (k : Fin 256), x = ix3 z j k := ⟨x 0, x 1, x 2, funext fun a => match a with | 0 => rfl | 1 => rfl | 2 => rfl⟩
  obtain rfl : z = 0 := Subsingleton.elim _ _
  have h1' : (y 1).val = 128 * n.val + j.val := h1
  have h2' : (y 2).val = 256 * g.val + k.val := h2
  rw [hp, hr, outG_eq x2 x3 x4 x5 x6 x7 x8 i y g n ⟨k.val / 64, by omega⟩ j ⟨k.val % 64, by omega⟩ h1' (by show (y 2).val = 256 * g.val + 64 * (k.val / 64) + k.val % 64; omega)]
  exact oT_val x3 x4 x5 x6 x7 x8 s g n hs (zsel x2 i g) vw vc hvw hvc ⟨k.val / 64, by omega⟩ j ⟨k.val % 64, by omega⟩ k (by show k.val = 64 * (k.val / 64) + k.val % 64; omega)

/-- The context's values of a group. -/
theorem vc_at (g : Fin 2) (off : Fin 3 → ℕ) (inb) (ho : off = ![g.val, 0, 2048]) (d : Fin 64) (x : Fin 256) :
    View.ld (Val := Elt Ideal) (e' := .bf16) (vt (F := Ideal) x5) (Rect.unit (s := S2x64x2304) off S1x64x256.size inb) (ix3 0 d x) = x5 (ix3 0 ⟨2048 + x.val, by omega⟩ ⟨128 * g.val + d.val, by omega⟩) := by
  subst ho
  exact (ld3_at _ _ _ 0 d x g d ⟨2048 + x.val, by omega⟩ (by show g.val = g.val + 0; omega) (by show d.val = 0 + d.val; omega) rfl).trans (vt_at x5 g d _)

/-- The window's values of a group. -/
theorem vw_at (g : Fin 2) (n : Fin 16) (off : Fin 3 → ℕ) (inb) (ho : off = ![g.val, 0, wst n]) (d : Fin 64) (x : Fin 384) :
    View.ld (Val := Elt Ideal) (e' := .bf16) (vt (F := Ideal) x5) (Rect.unit (s := S2x64x2304) off S1x64x384.size inb) (ix3 0 d x) = x5 (ix3 0 ⟨wst n + x.val, by have := wst_le n; omega⟩ ⟨128 * g.val + d.val, by omega⟩) := by
  subst ho
  exact (ld3_at _ _ _ 0 d x g d ⟨wst n + x.val, by have := wst_le n; omega⟩ (by show g.val = g.val + 0; omega) (by show d.val = 0 + d.val; omega) rfl).trans (vt_at x5 g d _)

/-- The second group's scores before a trip are a tile's. -/
theorem stS_is (n : ℕ) (hn : n < 16) : IsSc x3 x4 x6 x7 x8 (stS (F := Ideal) x3 x4 x6 x7 x8 (kr (F := Ideal) x4 x6 x7) k0_pay35 k0_pay36 k0_pay37 (sB0 (F := Ideal) x3 x4 x6 x7 x8 (kr (F := Ideal) x4 x6 x7)) n) 1 ⟨n, hn⟩ := by
  cases n with
  | zero => exact isB0 x3 x4 x6 x7 x8
  | succ n =>
    have hlt : n < k0_t3_loop.trips := by rw [trips3]; omega
    have e := stS_succ (F := Ideal) x3 x4 x6 x7 x8 (kr (F := Ideal) x4 x6 x7) k0_pay35 k0_pay36 k0_pay37 (sB0 (F := Ideal) x3 x4 x6 x7 x8 (kr (F := Ideal) x4 x6 x7)) ⟨n, hlt⟩
    exact (congrArg (fun s => IsSc x3 x4 x6 x7 x8 s 1 ⟨n + 1, hn⟩) e).mpr (isB x3 x4 x6 x7 x8 ⟨n, hlt⟩)

/-- The first group's weights and reciprocals before a trip are of a tile's scores. -/
theorem stPR_is (i : grid0.Coords) (n : ℕ) (hn : n < 16) : ∃ s, IsSc x3 x4 x6 x7 x8 s 0 ⟨n, hn⟩
    ∧ stP (F := Ideal) i x2 x3 x4 x6 x7 x8 (kr (F := Ideal) x4 x6 x7) k0_pay35 k0_pay36 k0_pay37 lane (pA0 (F := Ideal) i x2 (sA0 (F := Ideal) x3 x4 x6 x7 x8 (kr (F := Ideal) x4 x6 x7))) n = wS x2 i 0 s
    ∧ stR (F := Ideal) i x2 x3 x4 x6 x7 x8 (kr (F := Ideal) x4 x6 x7) k0_pay35 k0_pay36 k0_pay37 lane (rA0 (F := Ideal) i x2 (sA0 (F := Ideal) x3 x4 x6 x7 x8 (kr (F := Ideal) x4 x6 x7))) n = rS x2 i 0 s := by
  cases n with
  | zero => exact ⟨_, isA0 x3 x4 x6 x7 x8, pA0_val x2 i _, rA0_val x2 i _⟩
  | succ n =>
    have hlt : n < k0_t3_loop.trips := by rw [trips3]; omega
    exact ⟨_, isA x3 x4 x6 x7 x8 ⟨n, hlt⟩,
      (stP_succ (F := Ideal) i x2 x3 x4 x6 x7 x8 (kr (F := Ideal) x4 x6 x7) k0_pay35 k0_pay36 k0_pay37 lane (pA0 (F := Ideal) i x2 (sA0 (F := Ideal) x3 x4 x6 x7 x8 (kr (F := Ideal) x4 x6 x7))) ⟨n, hlt⟩).trans (pA_val x2 i _),
      (stR_succ (F := Ideal) i x2 x3 x4 x6 x7 x8 (kr (F := Ideal) x4 x6 x7) k0_pay35 k0_pay36 k0_pay37 lane (rA0 (F := Ideal) i x2 (sA0 (F := Ideal) x3 x4 x6 x7 x8 (kr (F := Ideal) x4 x6 x7))) ⟨n, hlt⟩).trans (rA_val x2 i _)⟩

/-- Every piece the loop stores. -/
theorem outL_all (i : grid0.Coords) : ∀ n : ℕ, n ≤ 15 → ∀ pc ∈ outL (F := Ideal) i x2 x3 x4 x6 x7 x8 (kr (F := Ideal) x4 x6 x7) (vt (F := Ideal) x5) k0_pay35 k0_pay36 k0_pay37 lane (sB0 (F := Ideal) x3 x4 x6 x7 x8 (kr (F := Ideal) x4 x6 x7)) (pA0 (F := Ideal) i x2 (sA0 (F := Ideal) x3 x4 x6 x7 x8 (kr (F := Ideal) x4 x6 x7))) (rA0 (F := Ideal) i x2 (sA0 (F := Ideal) x3 x4 x6 x7 x8 (kr (F := Ideal) x4 x6 x7))) n,
    ∀ x : pc.1.shape.Idx, pc.2 x = outG x2 x3 x4 x5 x6 x7 x8 i (pc.1.emb x)
  | 0, _, pc, hp, _ => absurd hp List.not_mem_nil
  | n + 1, hn, pc, hp, x => by
    have hlt : n < k0_t3_loop.trips := by rw [trips3]; omega
    have e := outL_succ (F := Ideal) i x2 x3 x4 x6 x7 x8 (kr (F := Ideal) x4 x6 x7) (vt (F := Ideal) x5) k0_pay35 k0_pay36 k0_pay37 lane (sB0 (F := Ideal) x3 x4 x6 x7 x8 (kr (F := Ideal) x4 x6 x7)) (pA0 (F := Ideal) i x2 (sA0 (F := Ideal) x3 x4 x6 x7 x8 (kr (F := Ideal) x4 x6 x7))) (rA0 (F := Ideal) i x2 (sA0 (F := Ideal) x3 x4 x6 x7 x8 (kr (F := Ideal) x4 x6 x7))) ⟨n, hlt⟩
    replace hp := e ▸ hp
    rcases List.mem_cons.mp hp with rfl | hp
    · refine (congrFun (oB_eq (F := Ideal) _ _ _ _) x).trans ?_
      refine out_piece x2 x3 x4 x5 x6 x7 x8 i _ 1 ⟨n, by omega⟩ (stS_is x3 x4 x6 x7 x8 n (by omega)) _ _ (pB_val x2 i _) (rB_val x2 i _) _ _
        (vw_at x5 1 ⟨n, by omega⟩ _ _ (off24_eq ⟨n, hlt⟩)) (vc_at x5 1 _ _ rfl) x _ ?_ ?_
      · exact emb_val _ _ (k0_off25_inb ⟨n, hlt⟩) x 1 _ (congrFun (off25_eq ⟨n, hlt⟩) 1)
      · exact emb_val _ _ (k0_off25_inb ⟨n, hlt⟩) x 2 _ (congrFun (off25_eq ⟨n, hlt⟩) 2)
    rcases List.mem_cons.mp hp with rfl | hp
    · obtain ⟨s, hs, hP, hR⟩ := stPR_is x2 x3 x4 x6 x7 x8 i n (by omega)
      refine (congrFun (oA_eq (F := Ideal) _ _ _ _) x).trans ?_
      refine out_piece x2 x3 x4 x5 x6 x7 x8 i s 0 ⟨n, by omega⟩ hs _ _ hP hR _ _
        (vw_at x5 0 ⟨n, by omega⟩ _ _ (off15_eq ⟨n, hlt⟩)) (vc_at x5 0 _ _ rfl) x _ ?_ ?_
      · exact emb_val _ _ (k0_off16_inb ⟨n, hlt⟩) x 1 _ (congrFun (off16_eq ⟨n, hlt⟩) 1)
      · exact emb_val _ _ (k0_off16_inb ⟨n, hlt⟩) x 2 _ (congrFun (off16_eq ⟨n, hlt⟩) 2)
    exact outL_all i n (by omega) pc hp x

/-- Every piece of the result. -/
theorem outP_all (i : grid0.Coords) : ∀ pc ∈ outP (F := Ideal) i x2 x3 x4 x5 x6 x7 x8, ∀ x : pc.1.shape.Idx, pc.2 x = outG x2 x3 x4 x5 x6 x7 x8 i (pc.1.emb x) := by
  intro pc hp x
  unfold outP at hp
  rcases List.mem_cons.mp hp with rfl | hp
  · refine (congrFun (oBz_eq (F := Ideal) _ _ _) x).trans ?_
    refine out_piece x2 x3 x4 x5 x6 x7 x8 i _ 1 ⟨15, by omega⟩ (stS_is x3 x4 x6 x7 x8 15 (by omega)) _ _ (pBz_val x2 i _) (rBz_val x2 i _) _ _
      (vw_at x5 1 ⟨15, by omega⟩ _ _ off30_eq) (vc_at x5 1 _ _ rfl) x _ ?_ ?_
    · exact emb_val _ _ inb_S1x2048x512_S1x128x256_0_1920_256 x 1 _ rfl
    · exact emb_val _ _ inb_S1x2048x512_S1x128x256_0_1920_256 x 2 _ rfl
  rcases List.mem_cons.mp hp with rfl | hp
  · obtain ⟨s, hs, hP, hR⟩ := stPR_is x2 x3 x4 x6 x7 x8 i 15 (by omega)
    refine (congrFun (oAz_eq (F := Ideal) _ _ _) x).trans ?_
    refine out_piece x2 x3 x4 x5 x6 x7 x8 i s 0 ⟨15, by omega⟩ hs _ _ hP hR _ _
      (vw_at x5 0 ⟨15, by omega⟩ _ _ off29_eq) (vc_at x5 0 _ _ rfl) x _ ?_ ?_
    · exact emb_val _ _ inb_S1x2048x512_S1x128x256_0_1920_0 x 1 _ rfl
    · exact emb_val _ _ inb_S1x2048x512_S1x128x256_0_1920_0 x 2 _ rfl
  exact outL_all x2 x3 x4 x5 x6 x7 x8 i 15 le_rfl pc hp x

/-- The result block at an index. -/
theorem out_at (i : grid0.Coords) (g : Fin 2) (n : Fin 16) (h : Fin 4) (j : Fin 128) (d : Fin 64) (r : Fin 2048) (c : Fin 512) (hr : r.val = 128 * n.val + j.val) (hc : c.val = 256 * g.val + 64 * h.val + d.val) :
    out (F := Ideal) i x2 x3 x4 x5 x6 x7 x8 (ix3 0 r c) = outv x3 x4 x5 x6 x7 x8 (zsel x2 i g h) g n h j d := by
  unfold out
  exact (View.canon_apply_of_pieces (Val := Elt Ideal) (outG x2 x3 x4 x5 x6 x7 x8 i) _ (outP_all x2 x3 x4 x5 x6 x7 x8 i) _ (cover_out (F := Ideal) i x2 x3 x4 x5 x6 x7 x8 _)).trans
    (outG_eq x2 x3 x4 x5 x6 x7 x8 i _ g n h j d hr hc)

end Data

end Cert.Proof.Swa
-- ==== Proof.SwaMath.lean ====
/- Hand-written: the windowed attention over real numbers, and the kernel's tile value as it. -/
module

public import proofs.«01_k».proof.Proof.SwaOut
public import Idealize.ShloMosaic.PureOps.IdealRules
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem
open scoped BigOperators

namespace Cert.Proof.Swa
open Cert.KernelIdeal Cert.KernelIdeal.Gen Cert.KernelIdeal.Swa

/-! ## Sums and exponentials of real entries -/

/-- The word of minus infinity. -/
theorem negInf : Ideal.ofBits .f32 4286578688#32 = (⊥ : EReal) := by simp [Ideal.ofBits, Ideal.ieee]

/-- A sum of real entries. -/
theorem csum {ι : Type} [Fintype ι] (f : ι → ℝ) : ∑ x, ((f x : ℝ) : EReal) = ((∑ x, f x : ℝ) : EReal) := by
  classical
  refine Finset.induction_on (motive := fun s => ∑ x ∈ s, ((f x : ℝ) : EReal) = ((∑ x ∈ s, f x : ℝ) : EReal)) Finset.univ (by simp) ?_
  intro a s ha ih
  rw [Finset.sum_insert ha, Finset.sum_insert ha, ih, EReal.coe_add]

/-- A power of two of a shifted score, in the kernel's scale. -/
theorem kexp (p : Prop) [Decidable p] (S M : ℝ) :
    Ideal.exp2 ((if p then ((S * (8 * Real.log 2)⁻¹ : ℝ) : EReal) else ⊥) - ((M : ℝ) : EReal)) = (((if p then Real.exp (S / 8) else 0) * Real.rpow 2 (-M) : ℝ) : EReal) := by
  by_cases hp : p
  · rw [if_pos hp, if_pos hp, ← EReal.coe_sub]
    show ((Real.rpow 2 _ : ℝ) : EReal) = _
    congr 1
    rw [Real.rpow_eq_pow, Real.rpow_eq_pow, Real.rpow_def_of_pos (by norm_num), Real.rpow_def_of_pos (by norm_num), ← Real.exp_add]
    congr 1
    have h2 : Real.log 2 ≠ 0 := (Real.log_pos (by norm_num)).ne'
    field_simp
    ring
  · rw [if_neg hp, if_neg hp, EReal.bot_sub, zero_mul]
    rfl

/-- The sink's. -/
theorem kexpz (z M : ℝ) : Ideal.exp2 (((z : ℝ) : EReal) * l2e - ((M : ℝ) : EReal)) = ((Real.exp z * Real.rpow 2 (-M) : ℝ) : EReal) := by
  unfold l2e
  rw [← EReal.coe_mul, ← EReal.coe_sub]
  show ((Real.rpow 2 _ : ℝ) : EReal) = _
  congr 1
  rw [Real.rpow_eq_pow, Real.rpow_eq_pow, Real.rpow_def_of_pos (by norm_num), Real.rpow_def_of_pos (by norm_num), ← Real.exp_add]
  congr 1
  have h2 : Real.log 2 ≠ 0 := (Real.log_pos (by norm_num)).ne'
  field_simp
  ring

/-- A number below the top and at least a real one is real. -/
theorem real_of {x : EReal} (h1 : x < ⊤) (z : ℝ) (h2 : (z : EReal) ≤ x) : ∃ M : ℝ, x = (M : EReal) :=
  ⟨x.toReal, (EReal.coe_toReal h1.ne (ne_of_gt (lt_of_lt_of_le (EReal.bot_lt_coe z) h2))).symm⟩

/-- A column's largest score is real. -/
theorem smax_real (f : Fin 640 → EReal) (z : ℝ) (hf : ∀ x, f x < ⊤) : ∃ M : ℝ, smax f (z : EReal) = (M : EReal) := by
  unfold smax l2e
  rw [negInf, ← EReal.coe_mul]
  refine real_of (max_lt ?_ (EReal.coe_lt_top _)) _ (le_max_right _ _)
  rw [Finset.fold_max_lt]
  exact ⟨bot_lt_top, fun x _ => hf x⟩

/-! ## The rotation -/

/-- Where the rotation takes a lane's partner from. -/
def sw64 (l : Fin 64) : Fin 64 := if h : l.val % 32 < 16 then ⟨l.val + 16, by omega⟩ else ⟨l.val - 16, by omega⟩
/-- A position's angle at a lane: by its row in the first half of the lanes, by its column in the second. -/
def thR (r : Fin 2048) (l : Fin 64) : ℝ := ((if l.val < 32 then r.val / 64 else r.val % 64 : ℕ) : ℝ) * Real.rpow 10000 (-((l.val % 16 : ℕ) : ℝ) / 16)
/-- The signed sine. -/
def snR (r : Fin 2048) (l : Fin 64) : ℝ := if l.val % 32 < 16 then -Real.sin (thR r l) else Real.sin (thR r l)
/-- A rotated head. -/
def ropeR (f : Fin 64 → ℝ) (r : Fin 2048) (l : Fin 64) : ℝ := f l * Real.cos (thR r l) + f (sw64 l) * snR r l

/-- A lane among a head's. -/
def l64 (l : Fin 128) : Fin 64 := ⟨l.val % 64, by omega⟩
/-- A partner lane, among a head's lanes. -/
theorem sw_mod : ∀ l : Fin 128, l64 (sw l) = sw64 (l64 l) := by decide +kernel
/-- A partner lane is in the same head. -/
theorem sw_div : ∀ l : Fin 128, (sw l).val / 64 = l.val / 64 := by decide +kernel

/-! ## The attention over real numbers -/

section Spec
variable (pr : Fin 2304 → Fin 13888 → ℝ)

/-- A rotated query entry, -/
def qR (G h : Fin 4) (r : Fin 2048) (l : Fin 64) : ℝ := ropeR (fun l => pr ⟨r.val, by omega⟩ ⟨9792 + 64 * (4 * G.val + h.val) + l.val, by omega⟩) r l
/-- a rotated key entry, -/
def kR (G : Fin 4) (s : Fin 2048) (l : Fin 64) : ℝ := ropeR (fun l => pr ⟨s.val, by omega⟩ ⟨6208 + 64 * G.val + l.val, by omega⟩) s l
/-- a value entry -/
def vR (G : Fin 4) (s : Fin 2304) (d : Fin 64) : ℝ := pr s ⟨6464 + 64 * G.val + d.val, by omega⟩
/-- and a context key's entry. -/
def cR (G : Fin 4) (x : Fin 256) (l : Fin 64) : ℝ := pr ⟨2048 + x.val, by omega⟩ ⟨6208 + 64 * G.val + l.val, by omega⟩
/-- The product of a key and a query, -/
def dotL (G h : Fin 4) (r s : Fin 2048) : ℝ := ∑ l, kR pr G s l * qR pr G h r l
/-- and of a context key and a query. -/
def dotC (G h : Fin 4) (r : Fin 2048) (x : Fin 256) : ℝ := ∑ l, cR pr G x l * qR pr G h r l
/-- Keys near enough. -/
def okd (r s : Fin 2048) : Prop := s.val ≤ r.val + 128 ∧ r.val ≤ s.val + 128
instance (r s : Fin 2048) : Decidable (okd r s) := by unfold okd; infer_instance
/-- A key's weight -/
def eL (G h : Fin 4) (r s : Fin 2048) : ℝ := if okd r s then Real.exp (dotL pr G h r s / 8) else 0
/-- and a context key's. -/
def eC (G h : Fin 4) (r : Fin 2048) (x : Fin 256) : ℝ := Real.exp (dotC pr G h r x / 8)
/-- The attention's numerator, -/
def numR (G h : Fin 4) (r : Fin 2048) (d : Fin 64) : ℝ := (∑ s : Fin 2048, vR pr G ⟨s.val, by omega⟩ d * eL pr G h r s) + ∑ x : Fin 256, vR pr G ⟨2048 + x.val, by omega⟩ d * eC pr G h r x
/-- its denominator -/
def denR (z : ℝ) (G h : Fin 4) (r : Fin 2048) : ℝ := (∑ s : Fin 2048, eL pr G h r s) + (∑ x : Fin 256, eC pr G h r x) + Real.exp z

/-- The denominator is positive. -/
theorem denR_pos (z : ℝ) (G h : Fin 4) (r : Fin 2048) : 0 < denR pr z G h r := by
  unfold denR
  have h1 : 0 ≤ ∑ s : Fin 2048, eL pr G h r s := Finset.sum_nonneg fun s _ => by unfold eL; split <;> positivity
  have h2 : 0 ≤ ∑ x : Fin 256, eC pr G h r x := Finset.sum_nonneg fun s _ => by unfold eC; positivity
  positivity

end Spec

/-! ## The tile's window -/

/-- Where a tile's window begins, by the tile's case. -/
theorem wst_cse : ∀ i : Fin 16, wst i + 128 * (cse i).val = 128 * i.val := by decide +kernel
/-- The first tile's window, the last one's and the others'. -/
theorem wst_cases : ∀ i : Fin 16, (i.val = 0 ∧ wst i = 0) ∨ (i.val = 15 ∧ wst i = 1664) ∨ (0 < i.val ∧ i.val < 15 ∧ wst i + 128 = 128 * i.val) := by decide +kernel

/-- A sum over the near keys is one over the tile's window. -/
theorem window_sum (i : Fin 16) (j : Fin 128) (F : Fin 2048 → ℝ) (hF : ∀ s, ¬ okd ⟨128 * i.val + j.val, by omega⟩ s → F s = 0) :
    ∑ kk : Fin 384, F ⟨wst i + kk.val, by have := wst_le i; omega⟩ = ∑ s, F s := by
  refine Finset.sum_of_injOn (fun kk : Fin 384 => (⟨wst i + kk.val, by have := wst_le i; omega⟩ : Fin 2048)) ?_ (fun _ _ => Finset.mem_coe.mpr (Finset.mem_univ _)) ?_ (fun _ _ => rfl)
  · intro a _ b _ h
    have h' : wst i + a.val = wst i + b.val := congrArg Fin.val h
    exact Fin.ext (by omega)
  · intro s _ hs
    refine hF s fun ho => hs ?_
    have h1 : s.val ≤ 128 * i.val + j.val + 128 := ho.1
    have h2 : 128 * i.val + j.val ≤ s.val + 128 := ho.2
    have hj := j.isLt
    have hsl := s.isLt
    have hw := wst_cases i
    exact ⟨⟨s.val - wst i, by omega⟩, Finset.mem_coe.mpr (Finset.mem_univ _), Fin.ext (by show wst i + (s.val - wst i) = s.val; omega)⟩

/-- A dot product over two heads' lanes, one head's cleared. -/
theorem half_sum (e : ℕ) (he : e < 2) (K Q : Fin 64 → ℝ) (c : ℝ) :
    ∑ l : Fin 128, ((K (l64 l) : ℝ) : EReal) * (if l.val / 64 = e then ((Q (l64 l) : ℝ) : EReal) * ((c : ℝ) : EReal) else 0) = (((∑ l, K l * Q l) * c : ℝ) : EReal) := by
  have h : ∀ l : Fin 128, ((K (l64 l) : ℝ) : EReal) * (if l.val / 64 = e then ((Q (l64 l) : ℝ) : EReal) * ((c : ℝ) : EReal) else 0)
      = ((if l.val / 64 = e then K (l64 l) * Q (l64 l) * c else 0 : ℝ) : EReal) := by
    intro l
    by_cases hl : l.val / 64 = e
    · rw [if_pos hl, if_pos hl, ← EReal.coe_mul, ← EReal.coe_mul, mul_assoc]
    · rw [if_neg hl, if_neg hl, mul_zero, EReal.coe_zero]
  simp only [h]
  rw [csum, Fin.sum_univ_two_halves (N := 128) 64 64 rfl, Finset.sum_mul]
  congr 1
  have a0 : ∀ (t : Fin 64) (p), l64 ⟨t.val, p⟩ = t := fun t p => Fin.ext (by show t.val % 64 = t.val; omega)
  have a1 : ∀ (t : Fin 64) (p), l64 ⟨64 + t.val, p⟩ = t := fun t p => Fin.ext (by show (64 + t.val) % 64 = t.val; omega)
  simp only [a0, a1]
  have hc : e = 0 ∨ e = 1 := by omega
  rcases hc with rfl | rfl
  · rw [Finset.sum_congr rfl fun t _ => if_pos (show (t : Fin 64).val / 64 = 0 by omega), Finset.sum_eq_zero (s := Finset.univ) (f := fun t : Fin 64 => if (64 + t.val) / 64 = 0 then K t * Q t * c else 0) fun t _ => if_neg (by omega), add_zero]
  · rw [Finset.sum_eq_zero (s := Finset.univ) (f := fun t : Fin 64 => if t.val / 64 = 1 then K t * Q t * c else 0) fun t _ => if_neg (by omega), zero_add]
    exact Finset.sum_congr rfl fun t _ => if_pos (by omega)

/-- The mask's product. -/
theorem eye_sum (m : Fin 128 → EReal) (j : Fin 128) : ∑ l : Fin 128, m l * (if l = j then (⊥ : EReal) else 0) = m j * ⊥ := by
  rw [Finset.sum_eq_single j (fun l _ hl => by rw [if_neg hl, mul_zero]) (fun h => absurd (Finset.mem_univ j) h), if_pos rfl]

/-! ## The kernel's tile over real entries -/

/-- The keys' first column lies before the values', -/
theorem le6208 : 6208 ≤ 6464 := by norm_num
/-- and the values' not after it. -/
theorem le6464 : 6464 ≤ 6464 := le_refl _

section Kernel
variable (x3 : FVec Ideal S1x2304x512 .bf16) (x4 x5 : FVec Ideal S1x2304x256 .bf16) (x6 x7 : FVec Ideal S2048x128 .f32) (x8 : FVec Ideal S3x384x128 .bf16)
  (pr : Fin 2304 → Fin 13888 → ℝ) (a : Fin 2)

/-- A block's queries, -/
def HasQ : Prop := ∀ (R : Fin 2304) (c : Fin 512), x3 (ix3 0 R c) = ((pr R ⟨9792 + 512 * a.val + c.val, by omega⟩ : ℝ) : EReal)
/-- keys or values, each head's entries twice, -/
def HasD (o : ℕ) (ho : o ≤ 6464) (x : FVec Ideal S1x2304x256 .bf16) : Prop := ∀ (R : Fin 2304) (g : Fin 2) (e : Fin 2) (l : Fin 64) (c : Fin 256), c.val = 128 * g.val + 64 * e.val + l.val → x (ix3 0 R c) = ((pr R ⟨o + 64 * (2 * a.val + g.val) + l.val, by omega⟩ : ℝ) : EReal)
/-- the table of cosines, -/
def HasC : Prop := ∀ (r : Fin 2048) (l : Fin 128), x6 (ix2 r l) = ((Real.cos (thR r (l64 l)) : ℝ) : EReal)
/-- of signed sines, -/
def HasS : Prop := ∀ (r : Fin 2048) (l : Fin 128), x7 (ix2 r l) = ((snR r (l64 l) : ℝ) : EReal)
/-- and the masks. -/
def HasM : Prop := ∀ (c : Fin 3) (kk : Fin 384) (j : Fin 128), x8 (ix3 c kk j) = if kk.val ≤ j.val + 128 * c.val + 128 ∧ j.val + 128 * c.val ≤ kk.val + 128 then 0 else 1

variable (h3 : HasQ x3 pr a) (h4 : HasD pr a 6208 le6208 x4) (h5 : HasD pr a 6464 le6464 x5) (h6 : HasC x6) (h7 : HasS x7) (h8 : HasM x8)
include h3 h4 h6 h7

/-- A kernel's head among all. -/
def hd (a g : Fin 2) : Fin 4 := ⟨2 * a.val + g.val, by omega⟩

omit h3 in
/-- A rotated key of the kernel is that over real numbers. -/
theorem rk_real (g : Fin 2) (s : Fin 2048) (l : Fin 128) : rk x4 x6 x7 g s l = ((kR pr (hd a g) s (l64 l) : ℝ) : EReal) := by
  obtain ⟨f, hf⟩ : ∃ f : Fin 64 → ℝ, f = fun l => pr ⟨s.val, by omega⟩ ⟨6208 + 64 * (hd a g).val + l.val, by have := (hd a g).isLt; omega⟩ := ⟨_, rfl⟩
  have e : ∀ l : Fin 128, x4 (ix3 0 ⟨s.val, by omega⟩ ⟨128 * g.val + l.val, by omega⟩) = ((f (l64 l) : ℝ) : EReal) := fun l => by
    rw [hf]; exact h4 ⟨s.val, by omega⟩ g ⟨l.val / 64, by omega⟩ (l64 l) _ (by show 128 * g.val + l.val = 128 * g.val + 64 * (l.val / 64) + l.val % 64; omega)
  unfold rk
  rw [e, e, h6, h7, sw_mod, ← EReal.coe_mul, ← EReal.coe_mul, ← EReal.coe_add]
  unfold kR ropeR
  subst hf
  rfl

omit h4 in
/-- A stacked query of the kernel is the rotated, scaled one over real numbers. -/
theorem qv_real (g : Fin 2) (i : Fin 16) (h : Fin 4) (j l : Fin 128) :
    qv x3 x6 x7 g i h j l = if l.val / 64 = h.val % 2 then ((qR pr (hd a g) h ⟨128 * i.val + j.val, by omega⟩ (l64 l) : ℝ) : EReal) * (((8 * Real.log 2)⁻¹ : ℝ) : EReal) else 0 := by
  unfold qv
  by_cases hl : l.val / 64 = h.val % 2
  · rw [if_pos hl, if_pos hl]
    refine congrArg (· * _) ?_
    obtain ⟨f, hf⟩ : ∃ f : Fin 64 → ℝ, f = fun l => pr ⟨128 * i.val + j.val, by omega⟩ ⟨9792 + 64 * (4 * (hd a g).val + h.val) + l.val, by have := (hd a g).isLt; omega⟩ := ⟨_, rfl⟩
    have e : ∀ l' : Fin 128, l'.val / 64 = h.val % 2 → x3 (ix3 0 ⟨(⟨128 * i.val + j.val, by omega⟩ : Fin 2048).val, by omega⟩ ⟨128 * (⟨2 * g.val + h.val / 2, by omega⟩ : Fin 4).val + l'.val, by omega⟩)
        = ((f (l64 l') : ℝ) : EReal) := fun l' hl' => by
      rw [hf]
      refine (h3 _ _).trans ?_
      refine congrArg (fun c => ((pr ⟨128 * i.val + j.val, by omega⟩ c : ℝ) : EReal)) (Fin.ext ?_)
      show 9792 + 512 * a.val + (128 * (2 * g.val + h.val / 2) + l'.val) = 9792 + 64 * (4 * (2 * a.val + g.val) + h.val) + l'.val % 64
      omega
    unfold rq
    rw [e l hl, e (sw l) (by rw [sw_div, hl]), h6, h7, sw_mod, ← EReal.coe_mul, ← EReal.coe_mul, ← EReal.coe_add]
    unfold qR ropeR
    subst hf
    rfl
  · rw [if_neg hl, if_neg hl]

include h8 in
/-- A window score over real numbers: the product of key and query, or minus infinity for a key too far away. -/
theorem sloc_real (g : Fin 2) (i : Fin 16) (h : Fin 4) (j : Fin 128) (kk : Fin 384) :
    sloc x3 x4 x6 x7 x8 g i h j kk = if okd ⟨128 * i.val + j.val, by omega⟩ ⟨wst i + kk.val, by have := wst_le i; omega⟩
      then ((dotL pr (hd a g) h ⟨128 * i.val + j.val, by omega⟩ ⟨wst i + kk.val, by have := wst_le i; omega⟩ * (8 * Real.log 2)⁻¹ : ℝ) : EReal) else ⊥ := by
  unfold sloc
  simp only [rk_real x4 x6 x7 pr a h4 h6 h7, qv_real x3 x6 x7 pr a h3 h6 h7]
  rw [half_sum (h.val % 2) (Nat.mod_lt _ (by norm_num)) (kR pr (hd a g) ⟨wst i + kk.val, by have := wst_le i; omega⟩) (qR pr (hd a g) h ⟨128 * i.val + j.val, by omega⟩), eye_sum (fun l => x8 (ix3 (cse i) kk l)), h8]
  have hw := wst_cse i
  by_cases ho : okd ⟨128 * i.val + j.val, by omega⟩ ⟨wst i + kk.val, by have := wst_le i; omega⟩
  · have h1 : wst i + kk.val ≤ 128 * i.val + j.val + 128 := ho.1
    have h2 : 128 * i.val + j.val ≤ wst i + kk.val + 128 := ho.2
    rw [if_pos ho, if_pos ⟨by omega, by omega⟩, zero_mul, add_zero]
    rfl
  · have hn : ¬ (kk.val ≤ j.val + 128 * (cse i).val + 128 ∧ j.val + 128 * (cse i).val ≤ kk.val + 128) := fun hc => ho
      ⟨by show wst i + kk.val ≤ 128 * i.val + j.val + 128; omega, by show 128 * i.val + j.val ≤ wst i + kk.val + 128; omega⟩
    rw [if_neg ho, if_neg hn, one_mul, EReal.add_bot]

/-- A context score over real numbers. -/
theorem sctx_real (g : Fin 2) (i : Fin 16) (h : Fin 4) (j : Fin 128) (x : Fin 256) :
    sctx x3 x4 x6 x7 g i h j x = if True then ((dotC pr (hd a g) h ⟨128 * i.val + j.val, by omega⟩ x * (8 * Real.log 2)⁻¹ : ℝ) : EReal) else ⊥ := by
  have e : ∀ l : Fin 128, x4 (ix3 0 ⟨2048 + x.val, by omega⟩ ⟨128 * g.val + l.val, by omega⟩) = ((cR pr (hd a g) x (l64 l) : ℝ) : EReal) := fun l =>
    h4 ⟨2048 + x.val, by omega⟩ g ⟨l.val / 64, by omega⟩ (l64 l) _ (by show 128 * g.val + l.val = 128 * g.val + 64 * (l.val / 64) + l.val % 64; omega)
  unfold sctx
  simp only [e, qv_real x3 x6 x7 pr a h3 h6 h7]
  rw [half_sum (h.val % 2) (Nat.mod_lt _ (by norm_num)) (cR pr (hd a g) x) (qR pr (hd a g) h ⟨128 * i.val + j.val, by omega⟩), if_pos trivial]
  rfl

include h5 h8 in
/-- A tile's entry is the attention's. -/
theorem outv_real (z : ℝ) (g : Fin 2) (i : Fin 16) (h : Fin 4) (j : Fin 128) (d : Fin 64) :
    outv x3 x4 x5 x6 x7 x8 (z : EReal) g i h j d
      = ((numR pr (hd a g) h ⟨128 * i.val + j.val, by omega⟩ d / denR pr z (hd a g) h ⟨128 * i.val + j.val, by omega⟩ : ℝ) : EReal) := by
  have hL := sloc_real x3 x4 x6 x7 x8 pr a h3 h4 h6 h7 h8 g i h j
  have hC := sctx_real x3 x4 x6 x7 pr a h3 h4 h6 h7 g i h j
  have e1 : ∀ x : Fin 384, sc x3 x4 x6 x7 x8 g i h j ⟨x.val, by omega⟩ = sloc x3 x4 x6 x7 x8 g i h j x := fun x => dif_pos x.isLt
  have e2 : ∀ x : Fin 256, sc x3 x4 x6 x7 x8 g i h j ⟨384 + x.val, by omega⟩ = sctx x3 x4 x6 x7 g i h j x := fun x => by
    unfold sc
    rw [dif_neg (by show ¬ 384 + x.val < 384; omega)]
    exact congrArg _ (Fin.ext (by show 384 + x.val - 384 = x.val; omega))
  obtain ⟨M, hM⟩ := smax_real (sc x3 x4 x6 x7 x8 g i h j) z (fun x => by
    unfold sc
    split
    · rw [hL]; split
      · exact EReal.coe_lt_top _
      · exact bot_lt_top
    · rw [hC, if_pos trivial]; exact EReal.coe_lt_top _)
  have v1 : ∀ x : Fin 384, x5 (ix3 0 ⟨wst i + x.val, by have := wst_le i; omega⟩ ⟨128 * g.val + d.val, by omega⟩) = ((vR pr (hd a g) ⟨wst i + x.val, by have := wst_le i; omega⟩ d : ℝ) : EReal) := fun x =>
    h5 _ g 0 d _ (by show 128 * g.val + d.val = 128 * g.val + 64 * 0 + d.val; omega)
  have v2 : ∀ x : Fin 256, x5 (ix3 0 ⟨2048 + x.val, by omega⟩ ⟨128 * g.val + d.val, by omega⟩) = ((vR pr (hd a g) ⟨2048 + x.val, by omega⟩ d : ℝ) : EReal) := fun x =>
    h5 _ g 0 d _ (by show 128 * g.val + d.val = 128 * g.val + 64 * 0 + d.val; omega)
  unfold outv
  rw [hM, Fin.sum_univ_two_halves (N := 640) 384 256 rfl]
  simp only [e1, e2, v1, v2]
  have k1 : ∀ x : Fin 384, Ideal.exp2 (sloc x3 x4 x6 x7 x8 g i h j x - (M : EReal)) = ((eL pr (hd a g) h ⟨128 * i.val + j.val, by omega⟩ ⟨wst i + x.val, by have := wst_le i; omega⟩ * Real.rpow 2 (-M) : ℝ) : EReal) := fun x => by
    rw [hL, kexp]; rfl
  have k2 : ∀ x : Fin 256, Ideal.exp2 (sctx x3 x4 x6 x7 g i h j x - (M : EReal)) = ((eC pr (hd a g) h ⟨128 * i.val + j.val, by omega⟩ x * Real.rpow 2 (-M) : ℝ) : EReal) := fun x => by
    rw [hC, kexp, if_pos trivial]; rfl
  have w1 : ∑ x : Fin 384, vR pr (hd a g) ⟨wst i + x.val, by have := wst_le i; omega⟩ d * (eL pr (hd a g) h ⟨128 * i.val + j.val, by omega⟩ ⟨wst i + x.val, by have := wst_le i; omega⟩ * Real.rpow 2 (-M))
      = (∑ s : Fin 2048, vR pr (hd a g) ⟨s.val, by omega⟩ d * eL pr (hd a g) h ⟨128 * i.val + j.val, by omega⟩ s) * Real.rpow 2 (-M) := by
    rw [← window_sum i j (fun s => vR pr (hd a g) ⟨s.val, by omega⟩ d * eL pr (hd a g) h ⟨128 * i.val + j.val, by omega⟩ s) (fun s hs => by unfold eL; rw [if_neg hs, mul_zero]), Finset.sum_mul]
    exact Finset.sum_congr rfl fun x _ => (mul_assoc _ _ _).symm
  have w2 : ∑ x : Fin 384, eL pr (hd a g) h ⟨128 * i.val + j.val, by omega⟩ ⟨wst i + x.val, by have := wst_le i; omega⟩ * Real.rpow 2 (-M)
      = (∑ s : Fin 2048, eL pr (hd a g) h ⟨128 * i.val + j.val, by omega⟩ s) * Real.rpow 2 (-M) := by
    rw [← window_sum i j (fun s => eL pr (hd a g) h ⟨128 * i.val + j.val, by omega⟩ s) (fun s hs => by unfold eL; rw [if_neg hs]), Finset.sum_mul]
  have hf : (0 : ℝ) < Real.rpow 2 (-M) := Real.rpow_pos_of_pos (by norm_num) _
  have hd := denR_pos pr z (hd a g) h ⟨128 * i.val + j.val, by omega⟩
  simp only [k1, k2, kexpz, ← EReal.coe_mul, csum]
  rw [w1, w2, ← Finset.sum_mul, ← EReal.coe_add, ← EReal.coe_add, ← EReal.coe_add]
  simp only [← mul_assoc]
  rw [← Finset.sum_mul]
  unfold numR
  unfold denR at hd ⊢
  generalize Real.rpow 2 (-M) = f at hf
  rw [Ideal.div_coe (by rw [← add_mul, ← add_mul]; exact (mul_pos hd hf).ne'), one_mul, ← EReal.coe_mul, ← add_mul, ← add_mul, ← add_mul]
  congr 1
  field_simp

include h5 h8 in
/-- The same at a row. -/
theorem outv_row (z : ℝ) (g : Fin 2) (i : Fin 16) (h : Fin 4) (j : Fin 128) (d : Fin 64) (r : Fin 2048) (hr : r.val = 128 * i.val + j.val) :
    outv x3 x4 x5 x6 x7 x8 (z : EReal) g i h j d = ((numR pr (hd a g) h r d / denR pr z (hd a g) h r : ℝ) : EReal) := by
  obtain ⟨r, hr'⟩ := r
  have hr : r = 128 * i.val + j.val := hr
  subst hr
  exact outv_real x3 x4 x5 x6 x7 x8 pr a h3 h4 h5 h6 h7 h8 z g i h j d

end Kernel

end Cert.Proof.Swa
-- ==== Proof.SwaWords.lean ====
/- Hand-written: integer words and rotation angles that the attention kernel and its reference both form. -/
module

public import proofs.«01_k».proof.Proof.SwaMath
public import Idealize.ShloMosaic.PureOps.IdealRules
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem
open scoped BigOperators

namespace Cert.Proof.Swa

/-! ## Words and angles, for both programs -/

/-- The word of ten thousand, -/
theorem w10000 : Ideal.ofBits .f32 1176256512#32 = ((10000 : ℝ) : EReal) := by simp [Ideal.ofBits, Ideal.ieee, -EReal.coe_mul]; norm_num
/-- of sixteen -/
theorem w16 : Ideal.ofBits .f32 1098907648#32 = ((16 : ℝ) : EReal) := by simp [Ideal.ofBits, Ideal.ieee, -EReal.coe_mul]; norm_num
/-- and of an eighth. -/
theorem w8th : Ideal.ofBits .f32 1040187392#32 = ((1 / 8 : ℝ) : EReal) := by simp [Ideal.ofBits, Ideal.ieee, -EReal.coe_mul]; norm_num
/-- A lane's frequency times a position. -/
theorem angle (x : BitVec 32) (n : ℕ) (hn : x.toInt = (n : ℤ)) (w : BitVec 32) (l : ℕ) (hl : w.toInt = (l : ℤ)) :
    (FloatOps.sitofp FTy.f32 x : Ideal .f32) * Ideal.pow (Ideal.ofBits FTy.f32 1176256512#32) (Ideal.div (-(FloatOps.sitofp FTy.f32 w : Ideal .f32)) (Ideal.ofBits FTy.f32 1098907648#32)) =
      (((n : ℝ) * Real.rpow 10000 (-(l : ℝ) / 16) : ℝ) : EReal) := by
  rw [show (FloatOps.sitofp FTy.f32 x : Ideal .f32) = (((x.toInt : ℤ) : ℝ) : EReal) from rfl, show (FloatOps.sitofp FTy.f32 w : Ideal .f32) = (((w.toInt : ℤ) : ℝ) : EReal) from rfl,
    hn, hl, w10000, w16, Ideal.div_coe (by norm_num), ← EReal.coe_neg, ← EReal.coe_mul]
  rw [show Ideal.pow ((10000 : ℝ) : EReal) ((-((l : ℤ) : ℝ) * (1 / 16) : ℝ) : EReal) = ((Real.rpow 10000 (-((l : ℤ) : ℝ) * (1 / 16)) : ℝ) : EReal) from rfl, ← EReal.coe_mul]
  congr 1
  rw [Int.cast_natCast, Int.cast_natCast, mul_one_div]

/-- The lanes' numbers. -/
theorem lane_int : ∀ l : Fin 16, (BitVec.ofNat 32 l.val).toInt = (l.val : ℤ) := by decide +kernel
/-- The positions' rows -/
theorem row_int : ∀ r : Fin 2048, (IntOp.divsi ArithUnit.host (BitVec.ofNat 32 r.val) 64#32).toInt = ((r.val / 64 : ℕ) : ℤ) := by decide +kernel
/-- and columns. -/
theorem col_int : ∀ r : Fin 2048, (IntOp.remsi ArithUnit.host (BitVec.ofNat 32 r.val) 64#32).toInt = ((r.val % 64 : ℕ) : ℤ) := by decide +kernel

/-- Two numbers lie near enough, by their words. -/
theorem near (x y : ℕ) (hx : x < 4096) (hy : y < 4096) :
    IntOp.cmpi CmpIPredicate.sle (IntOp.absi (BitVec.ofInt 32 ((x : ℤ) - y))) 128#32 = if x ≤ y + 128 ∧ y ≤ x + 128 then 1#1 else 0#1 := by
  have e : (BitVec.ofInt 32 ((x : ℤ) - y)).toInt = (x : ℤ) - y := by
    rw [BitVec.toInt_ofInt]
    unfold Int.bmod
    norm_num
    split <;> omega
  generalize BitVec.ofInt 32 ((x : ℤ) - y) = w at e
  have h : (IntOp.absi w).toInt = |(x : ℤ) - y| := by
    unfold IntOp.absi
    rw [BitVec.msb_eq_toInt, e]
    by_cases hn : (x : ℤ) - y < 0
    · rw [decide_eq_true hn, if_pos rfl, BitVec.toInt_neg, e, abs_of_neg hn]
      unfold Int.bmod
      norm_num
      split <;> omega
    · rw [decide_eq_false hn, if_neg (by decide), e, abs_of_nonneg (by omega)]
  have h2 : (IntOp.absi w).sle 128#32 = decide (x ≤ y + 128 ∧ y ≤ x + 128) := by
    rw [BitVec.sle_eq_decide, h]
    refine decide_eq_decide.mpr ?_
    rw [show (128#32 : BitVec 32).toInt = 128 from rfl, abs_le]
    omega
  show BitVec.ofBool ((IntOp.absi w).sle 128#32) = _
  rw [h2]
  by_cases hh : x ≤ y + 128 ∧ y ≤ x + 128
  · rw [decide_eq_true hh, if_pos hh]; rfl
  · rw [decide_eq_false hh, if_neg hh]; rfl

end Cert.Proof.Swa

end
-- ==== Proof.SwaHost.lean ====
/- Hand-written: the tables and the prepared projection the attention call reads. -/
module

public import proofs.«01_k».proof.Proof.SwaMath
public import proofs.«01_k».proof.Proof.SwaIdealFrame
public import proofs.«01_k».proof.Proof.SwaWords
public import Idealize.ShloMosaic.Lib.StableHlo.Run
public import Idealize.ShloMosaic.Lib.StableHlo.RunRead
public import Idealize.ShloMosaic.PureOps.IdealRules
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem
open scoped BigOperators

namespace Cert.Proof.Swa
open Cert.KernelIdeal Cert.KernelIdeal.Gen Cert.KernelIdeal.Swa

variable (m : (ℓ : Loc nD τ sig) → Buf (Elt Ideal) ℓ)

/-- A lane within its head, -/
def klane : IVec S2048x128 32 := Host.remsi (iotaInDim S2048x128 32 1) (broadcastInDim S2048x128 ![] bcast_S_S2048x128 (constantI S_ 32 64#32))
/-- a position's row or column by the lane's half, -/
def kpos : IVec S2048x128 32 :=
  select (cmpi .slt klane (broadcastInDim S2048x128 ![] bcast_S_S2048x128 (constantI S_ 32 32#32)))
    (Host.divsi (iotaInDim S2048x128 32 0) (broadcastInDim S2048x128 ![] bcast_S_S2048x128 (constantI S_ 32 64#32)))
    (Host.remsi (iotaInDim S2048x128 32 0) (broadcastInDim S2048x128 ![] bcast_S_S2048x128 (constantI S_ 32 64#32)))
/-- and the angle. -/
def kang : FVec Ideal S2048x128 .f32 :=
  mulf (sitofp .f32 kpos) (Host.powf (broadcastInDim S2048x128 ![] bcast_S_S2048x128 (constant S_ .f32 0x461C4000#32 : FVec Ideal S_ .f32))
    (Host.divf (Host.negf (sitofp .f32 (Host.remsi klane (broadcastInDim S2048x128 ![] bcast_S_S2048x128 (constantI S_ 32 16#32))) : FVec Ideal S2048x128 .f32))
      (broadcastInDim S2048x128 ![] bcast_S_S2048x128 (constant S_ .f32 0x41800000#32 : FVec Ideal S_ .f32))))
/-- The table of signed sines. -/
def ksin : FVec Ideal S2048x128 .f32 :=
  select (cmpi .slt (Host.remsi klane (broadcastInDim S2048x128 ![] bcast_S_S2048x128 (constantI S_ 32 32#32))) (broadcastInDim S2048x128 ![] bcast_S_S2048x128 (constantI S_ 32 16#32)))
    (Host.negf (Host.sin kang)) (Host.sin kang)
/-- The masks. -/
def kmask : FVec Ideal S3x384x128 .bf16 :=
  truncf .bf16 (select (cmpi .sle (absi (addi (subi (iotaInDim S3x384x128 32 1) (iotaInDim S3x384x128 32 2)) (muli (iotaInDim S3x384x128 32 0) (broadcastInDim S3x384x128 ![] bcast_S_S3x384x128 (constantI S_ 32 4294967168#32)))))
      (broadcastInDim S3x384x128 ![] bcast_S_S3x384x128 (constantI S_ 32 128#32)))
    (broadcastInDim S3x384x128 ![] bcast_S_S3x384x128 (constant S_ .f32 0x00000000#32 : FVec Ideal S_ .f32))
    (broadcastInDim S3x384x128 ![] bcast_S_S3x384x128 (constant S_ .f32 0x3F800000#32 : FVec Ideal S_ .f32))) bitsLt_bf16_f32

/-- The kernel's arrays of cosines, -/
theorem v22_eq (c : Dev nD) : V m c main_v22 = Host.cos kang := by
  unfold V
  after_reads_simp
  rfl

/-- signed sines -/
theorem v28_eq (c : Dev nD) : V m c main_v28 = ksin := by
  unfold V
  after_reads_simp
  rfl

/-- and masks. -/
theorem v42_eq (c : Dev nD) : V m c main_v42 = kmask := by
  unfold V
  after_reads_simp
  rfl

/-- A head's columns twice. -/
def dup (x : FVec Ideal S8x2304x256 .bf16) : FVec Ideal S8x2304x512 .bf16 :=
  shapeCast S8x2304x512 (concatenate S8x2304x4x2x64 3 [⟨S8x2304x4x1x64, shapeCast S8x2304x4x1x64 x shapeCasts_S8x2304x256_S8x2304x4x1x64⟩, ⟨S8x2304x4x1x64, shapeCast S8x2304x4x1x64 x shapeCasts_S8x2304x256_S8x2304x4x1x64⟩]
    concatenates_S8x2304x4x1x64_S8x2304x4x1x64_S8x2304x4x2x64_d3) shapeCasts_S8x2304x4x2x64_S8x2304x512

/-- Nine pieces side by side. -/
def cat9 (a0 : FVec Ideal S8x2304x4096 .bf16) (a1 a2 : FVec Ideal S8x2304x1024 .bf16) (a3 a4 : FVec Ideal S8x2304x512 .bf16)
    (a5 : FVec Ideal S8x2304x2048 .bf16) (a6 a7 : FVec Ideal S8x2304x1024 .bf16) (a8 : FVec Ideal S8x2304x3072 .bf16) : FVec Ideal S8x2304x14336 .bf16 :=
  concatenate S8x2304x14336 2 [⟨S8x2304x4096, a0⟩, ⟨S8x2304x1024, a1⟩, ⟨S8x2304x1024, a2⟩, ⟨S8x2304x512, a3⟩, ⟨S8x2304x512, a4⟩, ⟨S8x2304x2048, a5⟩, ⟨S8x2304x1024, a6⟩, ⟨S8x2304x1024, a7⟩, ⟨S8x2304x3072, a8⟩]
    concatenates_S8x2304x4096_S8x2304x1024_S8x2304x1024_S8x2304x512_S8x2304x512_S8x2304x2048_S8x2304x1024_S8x2304x1024_S8x2304x3072_S8x2304x14336_d2
/-- The prepared projection. -/
def prep (p : FVec Ideal S8x2304x13888 .bf16) : FVec Ideal S8x2304x14336 .bf16 :=
  cat9 (extractStridedSlice S8x2304x4096 ![0, 0, 0] p slices_S8x2304x13888_S8x2304x4096_0_0_0)
    (extractStridedSlice S8x2304x1024 ![0, 0, 4160] p slices_S8x2304x13888_S8x2304x1024_0_0_4160)
    (extractStridedSlice S8x2304x1024 ![0, 0, 5184] p slices_S8x2304x13888_S8x2304x1024_0_0_5184)
    (dup (extractStridedSlice S8x2304x256 ![0, 0, 6208] p slices_S8x2304x13888_S8x2304x256_0_0_6208))
    (dup (extractStridedSlice S8x2304x256 ![0, 0, 6464] p slices_S8x2304x13888_S8x2304x256_0_0_6464))
    (extractStridedSlice S8x2304x2048 ![0, 0, 6720] p slices_S8x2304x13888_S8x2304x2048_0_0_6720)
    (extractStridedSlice S8x2304x1024 ![0, 0, 8768] p slices_S8x2304x13888_S8x2304x1024_0_0_8768)
    (extractStridedSlice S8x2304x1024 ![0, 0, 9792] p slices_S8x2304x13888_S8x2304x1024_0_0_9792)
    (extractStridedSlice S8x2304x3072 ![0, 0, 10816] p slices_S8x2304x13888_S8x2304x3072_0_0_10816)

/-- Equal pieces give equal joins. -/
theorem cat9_congr {a0 b0 : FVec Ideal S8x2304x4096 .bf16} {a1 b1 a2 b2 : FVec Ideal S8x2304x1024 .bf16} {a3 b3 a4 b4 : FVec Ideal S8x2304x512 .bf16}
    {a5 b5 : FVec Ideal S8x2304x2048 .bf16} {a6 b6 a7 b7 : FVec Ideal S8x2304x1024 .bf16} {a8 b8 : FVec Ideal S8x2304x3072 .bf16}
    (h0 : a0 = b0) (h1 : a1 = b1) (h2 : a2 = b2) (h3 : a3 = b3) (h4 : a4 = b4) (h5 : a5 = b5) (h6 : a6 = b6) (h7 : a7 = b7) (h8 : a8 = b8) :
    cat9 a0 a1 a2 a3 a4 a5 a6 a7 a8 = cat9 b0 b1 b2 b3 b4 b5 b6 b7 b8 := by
  subst h0 h1 h2 h3 h4 h5 h6 h7 h8
  rfl

section Lines
variable (c : Dev nD)

/-- The slice of 4096 columns from 0. -/
theorem u43 : StableHlo.upto (Val := Elt Ideal) hostOps0 (fun b => m (c, b)) 71 (Proc.tc.devRef main_v43) = extractStridedSlice S8x2304x4096 ![0, 0, 0] (m ((c : Thread nD τ).loc main_arg0)) slices_S8x2304x13888_S8x2304x4096_0_0_0 := by
  after_reads_simp

/-- The slice of 1024 columns from 4160. -/
theorem u44 : StableHlo.upto (Val := Elt Ideal) hostOps0 (fun b => m (c, b)) 71 (Proc.tc.devRef main_v44) = extractStridedSlice S8x2304x1024 ![0, 0, 4160] (m ((c : Thread nD τ).loc main_arg0)) slices_S8x2304x13888_S8x2304x1024_0_0_4160 := by
  after_reads_simp

/-- The slice of 1024 columns from 5184. -/
theorem u45 : StableHlo.upto (Val := Elt Ideal) hostOps0 (fun b => m (c, b)) 71 (Proc.tc.devRef main_v45) = extractStridedSlice S8x2304x1024 ![0, 0, 5184] (m ((c : Thread nD τ).loc main_arg0)) slices_S8x2304x13888_S8x2304x1024_0_0_5184 := by
  after_reads_simp

/-- The slice of 2048 columns from 6720. -/
theorem u54 : StableHlo.upto (Val := Elt Ideal) hostOps0 (fun b => m (c, b)) 71 (Proc.tc.devRef main_v54) = extractStridedSlice S8x2304x2048 ![0, 0, 6720] (m ((c : Thread nD τ).loc main_arg0)) slices_S8x2304x13888_S8x2304x2048_0_0_6720 := by
  after_reads_simp

/-- The slice of 1024 columns from 8768. -/
theorem u55 : StableHlo.upto (Val := Elt Ideal) hostOps0 (fun b => m (c, b)) 71 (Proc.tc.devRef main_v55) = extractStridedSlice S8x2304x1024 ![0, 0, 8768] (m ((c : Thread nD τ).loc main_arg0)) slices_S8x2304x13888_S8x2304x1024_0_0_8768 := by
  after_reads_simp

/-- The slice of 1024 columns from 9792. -/
theorem u56 : StableHlo.upto (Val := Elt Ideal) hostOps0 (fun b => m (c, b)) 71 (Proc.tc.devRef main_v56) = extractStridedSlice S8x2304x1024 ![0, 0, 9792] (m ((c : Thread nD τ).loc main_arg0)) slices_S8x2304x13888_S8x2304x1024_0_0_9792 := by
  after_reads_simp

/-- The slice of 3072 columns from 10816. -/
theorem u57 : StableHlo.upto (Val := Elt Ideal) hostOps0 (fun b => m (c, b)) 71 (Proc.tc.devRef main_v57) = extractStridedSlice S8x2304x3072 ![0, 0, 10816] (m ((c : Thread nD τ).loc main_arg0)) slices_S8x2304x13888_S8x2304x3072_0_0_10816 := by
  after_reads_simp

/-- The key heads. -/
theorem u47 : StableHlo.upto (Val := Elt Ideal) hostOps0 (fun b => m (c, b)) 61 (Proc.tc.devRef main_v47) = shapeCast S8x2304x4x1x64 (extractStridedSlice S8x2304x256 ![0, 0, 6208] (m ((c : Thread nD τ).loc main_arg0)) slices_S8x2304x13888_S8x2304x256_0_0_6208) shapeCasts_S8x2304x256_S8x2304x4x1x64 := by
  after_reads_simp
  rfl

/-- The key heads, each twice. -/
theorem u49 : StableHlo.upto (Val := Elt Ideal) hostOps0 (fun b => m (c, b)) 71 (Proc.tc.devRef main_v49) = dup (extractStridedSlice S8x2304x256 ![0, 0, 6208] (m ((c : Thread nD τ).loc main_arg0)) slices_S8x2304x13888_S8x2304x256_0_0_6208) := by
  after_reads_simp
  exact congrArg (fun z : FVec Ideal S8x2304x4x1x64 .bf16 => shapeCast S8x2304x512 (concatenate S8x2304x4x2x64 3 [⟨S8x2304x4x1x64, z⟩, ⟨S8x2304x4x1x64, z⟩]
    concatenates_S8x2304x4x1x64_S8x2304x4x1x64_S8x2304x4x2x64_d3) shapeCasts_S8x2304x4x2x64_S8x2304x512) (u47 m c)

/-- The value heads. -/
theorem u51 : StableHlo.upto (Val := Elt Ideal) hostOps0 (fun b => m (c, b)) 65 (Proc.tc.devRef main_v51) = shapeCast S8x2304x4x1x64 (extractStridedSlice S8x2304x256 ![0, 0, 6464] (m ((c : Thread nD τ).loc main_arg0)) slices_S8x2304x13888_S8x2304x256_0_0_6464) shapeCasts_S8x2304x256_S8x2304x4x1x64 := by
  after_reads_simp
  rfl

/-- The value heads, each twice. -/
theorem u53 : StableHlo.upto (Val := Elt Ideal) hostOps0 (fun b => m (c, b)) 71 (Proc.tc.devRef main_v53) = dup (extractStridedSlice S8x2304x256 ![0, 0, 6464] (m ((c : Thread nD τ).loc main_arg0)) slices_S8x2304x13888_S8x2304x256_0_0_6464) := by
  after_reads_simp
  exact congrArg (fun z : FVec Ideal S8x2304x4x1x64 .bf16 => shapeCast S8x2304x512 (concatenate S8x2304x4x2x64 3 [⟨S8x2304x4x1x64, z⟩, ⟨S8x2304x4x1x64, z⟩]
    concatenates_S8x2304x4x1x64_S8x2304x4x1x64_S8x2304x4x2x64_d3) shapeCasts_S8x2304x4x2x64_S8x2304x512) (u51 m c)

end Lines

/-- The kernel's array of it. -/
theorem v58_eq (c : Dev nD) : V m c main_v58 = prep (m ((c : Thread nD τ).loc main_arg0)) := by
  unfold V
  after_reads_simp
  exact cat9_congr (u43 m c) (u44 m c) (u45 m c) (u49 m c) (u53 m c) (u54 m c) (u55 m c) (u56 m c) (u57 m c)

end Cert.Proof.Swa

end
-- ==== Proof.SwaTab.lean ====
/- Hand-written: the attention call's tables at an index. -/
module

public import proofs.«01_k».proof.Proof.SwaHost
public import Idealize.ShloMosaic.Lib.StableHlo.Run
public import Idealize.ShloMosaic.Lib.StableHlo.RunRead
public import Idealize.ShloMosaic.PureOps.IdealRules
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem
open scoped BigOperators

namespace Cert.Proof.Swa
open Cert.KernelIdeal Cert.KernelIdeal.Gen Cert.KernelIdeal.Swa

/-- The lanes within a head, -/
theorem lane64 : ∀ l : Fin 128, IntOp.cmpi CmpIPredicate.slt (IntOp.remsi ArithUnit.host (BitVec.ofNat 32 l.val) 64#32) 32#32 = if (l64 l).val < 32 then 1#1 else 0#1 := by decide +kernel
/-- within a quarter -/
theorem lane16 : ∀ l : Fin 128, (IntOp.remsi ArithUnit.host (IntOp.remsi ArithUnit.host (BitVec.ofNat 32 l.val) 64#32) 16#32).toInt = (((l64 l).val % 16 : ℕ) : ℤ) := by decide +kernel
/-- and the quarters' signs. -/
theorem lane32 : ∀ l : Fin 128, IntOp.cmpi CmpIPredicate.slt (IntOp.remsi ArithUnit.host (IntOp.remsi ArithUnit.host (BitVec.ofNat 32 l.val) 64#32) 32#32) 16#32 = if (l64 l).val % 32 < 16 then 1#1 else 0#1 := by decide +kernel

/-- An angle at a position and a lane. -/
theorem kang_at (r : Fin 2048) (l : Fin 128) : kang (ix2 r l) = ((thR r (l64 l) : ℝ) : EReal) := by
  pointwise [kang, kpos, klane]
  unfold thR
  rw [lane64]
  by_cases h : (l64 l).val < 32
  · rw [if_pos h, if_pos h]
    exact angle _ _ (row_int r) _ _ (lane16 l)
  · rw [if_neg h, if_neg h]
    exact angle _ _ (col_int r) _ _ (lane16 l)

/-- The cosine there -/
theorem kcos_at (r : Fin 2048) (l : Fin 128) : (Host.cos kang : FVec Ideal S2048x128 .f32) (ix2 r l) = ((Real.cos (thR r (l64 l)) : ℝ) : EReal) := by
  have h := kang_at r l
  generalize kang = k at h
  pointwise
  rw [h]
  rfl

/-- and the signed sine. -/
theorem ksin_at (r : Fin 2048) (l : Fin 128) : ksin (ix2 r l) = ((snR r (l64 l) : ℝ) : EReal) := by
  have h := kang_at r l
  generalize hk : kang = k at h
  pointwise [ksin, klane, hk]
  rw [h, lane32, show Ideal.sin ((thR r (l64 l) : ℝ) : EReal) = ((Real.sin (thR r (l64 l)) : ℝ) : EReal) from rfl]
  unfold snR
  by_cases h : (l64 l).val % 32 < 16
  · rw [if_pos h, if_pos h, EReal.coe_neg]; rfl
  · rw [if_neg h, if_neg h]; rfl

/-- A mask's entry. -/
theorem kmask_at (c : Fin 3) (kk : Fin 384) (j : Fin 128) : kmask (ix3 c kk j) = if kk.val ≤ j.val + 128 * c.val + 128 ∧ j.val + 128 * c.val ≤ kk.val + 128 then 0 else 1 := by
  pointwise [kmask]
  have e : IntOp.addi (IntOp.subi (BitVec.ofNat 32 kk.val) (BitVec.ofNat 32 j.val)) (IntOp.muli (BitVec.ofNat 32 c.val) 4294967168#32) = BitVec.ofInt 32 ((kk.val : ℤ) - (j.val + 128 * c.val : ℕ)) := by
    show BitVec.ofNat 32 kk.val - BitVec.ofNat 32 j.val + BitVec.ofNat 32 c.val * 4294967168#32 = _
    rw [show (4294967168#32 : BitVec 32) = BitVec.ofInt 32 (-128) from by decide +kernel, ← BitVec.ofInt_natCast, ← BitVec.ofInt_natCast, ← BitVec.ofInt_natCast, BitVec.sub_eq_add_neg, ← BitVec.ofInt_neg, ← BitVec.ofInt_add, ← BitVec.ofInt_mul, ← BitVec.ofInt_add]
    congr 1
    push_cast
    ring
  rw [e, near kk.val (j.val + 128 * c.val) (by omega) (by omega)]
  by_cases h : kk.val ≤ j.val + 128 * c.val + 128 ∧ j.val + 128 * c.val ≤ kk.val + 128
  · rw [if_pos h, if_pos h]; rfl
  · rw [if_neg h, if_neg h]; rfl

end Cert.Proof.Swa

end
-- ==== Proof.SwaPrep.lean ====
/- Hand-written: the prepared projection at an index. -/
module

public import proofs.«01_k».proof.Proof.SwaHost
public import Idealize.ShloMosaic.Lib.StableHlo.Run
public import Idealize.ShloMosaic.Lib.StableHlo.RunRead
public import Idealize.ShloMosaic.PureOps.IdealRules
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem
open scoped BigOperators

namespace Cert.Proof.Swa
open Cert.KernelIdeal Cert.KernelIdeal.Gen Cert.KernelIdeal.Swa

/-- A doubled head's column. -/
theorem dup_at (x : FVec Ideal S8x2304x256 .bf16) (b : Fin 8) (R : Fin 2304) (k : Fin 512) : dup x (ix3 b R k) = x (ix3 b R ⟨k.val / 128 * 64 + k.val % 64, by omega⟩) := by
  pointwise [dup]
  by_cases h : k.val / 64 % 2 < 1
  · rw [dif_pos h]
  · rw [dif_neg h]

section Pieces
variable (a0 : FVec Ideal S8x2304x4096 .bf16) (a1 a2 : FVec Ideal S8x2304x1024 .bf16) (a3 a4 : FVec Ideal S8x2304x512 .bf16)
  (a5 : FVec Ideal S8x2304x2048 .bf16) (a6 a7 : FVec Ideal S8x2304x1024 .bf16) (a8 : FVec Ideal S8x2304x3072 .bf16) (b : Fin 8) (R : Fin 2304)

/-- The prepared projection's fourth piece, -/
theorem cat9_k (k : Fin 512) : cat9 a0 a1 a2 a3 a4 a5 a6 a7 a8 (ix3 b R ⟨6144 + k.val, by omega⟩) = a3 (ix3 b R k) := by
  pointwise [cat9]
  iterate 3 rw [dif_neg (by omega)]
  rw [dif_pos (by omega)]
  refine congrArg (fun z => a3 (ix3 b R z)) (Fin.ext ?_)
  dsimp only
  omega

/-- fifth -/
theorem cat9_v (k : Fin 512) : cat9 a0 a1 a2 a3 a4 a5 a6 a7 a8 (ix3 b R ⟨6656 + k.val, by omega⟩) = a4 (ix3 b R k) := by
  pointwise [cat9]
  iterate 4 rw [dif_neg (by omega)]
  rw [dif_pos (by omega)]
  refine congrArg (fun z => a4 (ix3 b R z)) (Fin.ext ?_)
  dsimp only
  omega

/-- and eighth. -/
theorem cat9_q (k : Fin 1024) : cat9 a0 a1 a2 a3 a4 a5 a6 a7 a8 (ix3 b R ⟨10240 + k.val, by omega⟩) = a7 (ix3 b R k) := by
  pointwise [cat9]
  iterate 7 rw [dif_neg (by omega)]
  rw [dif_pos (by omega)]
  refine congrArg (fun z => a7 (ix3 b R z)) (Fin.ext ?_)
  dsimp only
  omega
end Pieces

/-- A doubled slice's column. -/
theorem dupK (p : FVec Ideal S8x2304x13888 .bf16) (b : Fin 8) (R : Fin 2304) (k : Fin 512) (K : Fin 13888) (hK : K.val = 6208 + (k.val / 128 * 64 + k.val % 64)) :
    dup (extractStridedSlice S8x2304x256 ![0, 0, 6208] p slices_S8x2304x13888_S8x2304x256_0_0_6208) (ix3 b R k) = p (ix3 b R K) := by
  rw [dup_at]
  pointwise
  exact congrArg (fun z => p (ix3 b R z)) (Fin.ext hK.symm)

/-- The same of the values. -/
theorem dupV (p : FVec Ideal S8x2304x13888 .bf16) (b : Fin 8) (R : Fin 2304) (k : Fin 512) (K : Fin 13888) (hK : K.val = 6464 + (k.val / 128 * 64 + k.val % 64)) :
    dup (extractStridedSlice S8x2304x256 ![0, 0, 6464] p slices_S8x2304x13888_S8x2304x256_0_0_6464) (ix3 b R k) = p (ix3 b R K) := by
  rw [dup_at]
  pointwise
  exact congrArg (fun z => p (ix3 b R z)) (Fin.ext hK.symm)

/-- The prepared keys, -/
theorem prep_k (p : FVec Ideal S8x2304x13888 .bf16) (b : Fin 8) (R : Fin 2304) (k : Fin 512) (K : Fin 13888) (hK : K.val = 6208 + (k.val / 128 * 64 + k.val % 64)) :
    prep p (ix3 b R ⟨6144 + k.val, by omega⟩) = p (ix3 b R K) :=
  (cat9_k _ _ _ _ _ _ _ _ _ b R k).trans (dupK p b R k K hK)

/-- values -/
theorem prep_v (p : FVec Ideal S8x2304x13888 .bf16) (b : Fin 8) (R : Fin 2304) (k : Fin 512) (K : Fin 13888) (hK : K.val = 6464 + (k.val / 128 * 64 + k.val % 64)) :
    prep p (ix3 b R ⟨6656 + k.val, by omega⟩) = p (ix3 b R K) :=
  (cat9_v _ _ _ _ _ _ _ _ _ b R k).trans (dupV p b R k K hK)

/-- and queries. -/
theorem prep_q (p : FVec Ideal S8x2304x13888 .bf16) (b : Fin 8) (R : Fin 2304) (k : Fin 1024) (K : Fin 13888) (hK : K.val = 9792 + k.val) :
    prep p (ix3 b R ⟨10240 + k.val, by omega⟩) = p (ix3 b R K) := by
  refine (cat9_q _ _ _ _ _ _ _ _ _ b R k).trans ?_
  pointwise
  exact congrArg (fun z => p (ix3 b R z)) (Fin.ext hK.symm)

end Cert.Proof.Swa

end
-- ==== Proof.SwaBlk.lean ====
/- Hand-written: the attention call's blocks of real entries. -/
module

public import proofs.«01_k».proof.Proof.SwaTab
public import proofs.«01_k».proof.Proof.SwaPrep
public import Idealize.ShloMosaic.Lib.StableHlo.Run
public import Idealize.ShloMosaic.Lib.StableHlo.RunRead
public import Idealize.ShloMosaic.PureOps.IdealRules
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem
open scoped BigOperators

namespace Cert.Proof.Swa
open Cert.KernelIdeal Cert.KernelIdeal.Gen Cert.KernelIdeal.Swa

/-! ## The blocks -/

/-- Where each window's block lies at each grid point. -/
theorem blocks : ∀ t : Fin cfg0.N, win0_0.index t = ![0]
    ∧ win0_1.index t = ![t.val / 2, 0, 20 + t.val % 2]
    ∧ win0_2.index t = ![t.val / 2, 0, 24 + t.val % 2]
    ∧ win0_3.index t = ![t.val / 2, 0, 26 + t.val % 2]
    ∧ win0_4.index t = ![0, 0]
    ∧ win0_5.index t = ![0, 0]
    ∧ win0_6.index t = ![0, 0, 0]
    ∧ win0_7.index t = ![t.val / 2, 0, t.val % 2] :=
  (by decide +kernel : ∀ t : Fin grid0.N, _)

/-- The grid's second coordinate. -/
theorem coord1 : ∀ t : Fin cfg0.N, ((grid0.coords t) 1).val = t.val % 2 :=
  (by decide +kernel : ∀ t : Fin grid0.N, _)

section Reads
variable (t : Fin cfg0.N) (b : Fin 8) (hb : b.val = t.val / 2) (a : Fin 2) (ha : a.val = t.val % 2)
include hb ha

/-- The queries' block of an array, -/
theorem readQ (A : FVec Ideal S8x2304x14336 .bf16) (R : Fin 2304) (k : Fin 512) :
    ((cfg0.win 1).blk t).view.read (Elt Ideal) A (ix3 0 R k) = A (ix3 b R ⟨10240 + (⟨512 * a.val + k.val, by omega⟩ : Fin 1024).val, by dsimp only; omega⟩) := by
  have ht : t.val < 16 := t.isLt
  blk_simp
  congr 1
  blk_ext [blocks t] <;> omega

/-- the keys' -/
theorem readK (A : FVec Ideal S8x2304x14336 .bf16) (R : Fin 2304) (k : Fin 256) :
    ((cfg0.win 2).blk t).view.read (Elt Ideal) A (ix3 0 R k) = A (ix3 b R ⟨6144 + (⟨256 * a.val + k.val, by omega⟩ : Fin 512).val, by dsimp only; omega⟩) := by
  have ht : t.val < 16 := t.isLt
  blk_simp
  congr 1
  blk_ext [blocks t] <;> omega

/-- and the values'. -/
theorem readV (A : FVec Ideal S8x2304x14336 .bf16) (R : Fin 2304) (k : Fin 256) :
    ((cfg0.win 3).blk t).view.read (Elt Ideal) A (ix3 0 R k) = A (ix3 b R ⟨6656 + (⟨256 * a.val + k.val, by omega⟩ : Fin 512).val, by dsimp only; omega⟩) := by
  have ht : t.val < 16 := t.isLt
  blk_simp
  congr 1
  blk_ext [blocks t] <;> omega

omit hb ha

/-- The sink's block of an array, -/
theorem readZ (A : FVec Ideal S16 .f32) (x : Fin 16) : ((cfg0.win 0).blk t).view.read (Elt Ideal) A (ix1 x) = A (ix1 x) := by
  blk_simp
  congr 1
  blk_ext [blocks t] <;> omega

/-- the cosines' -/
theorem readC (A : FVec Ideal S2048x128 .f32) (r : Fin 2048) (l : Fin 128) : ((cfg0.win 4).blk t).view.read (Elt Ideal) A (ix2 r l) = A (ix2 r l) := by
  blk_simp
  congr 1
  blk_ext [blocks t] <;> omega

/-- the sines' -/
theorem readS (A : FVec Ideal S2048x128 .f32) (r : Fin 2048) (l : Fin 128) : ((cfg0.win 5).blk t).view.read (Elt Ideal) A (ix2 r l) = A (ix2 r l) := by
  blk_simp
  congr 1
  blk_ext [blocks t] <;> omega

/-- and the masks'. -/
theorem readM (A : FVec Ideal S3x384x128 .bf16) (x : Fin 3) (kk : Fin 384) (j : Fin 128) : ((cfg0.win 6).blk t).view.read (Elt Ideal) A (ix3 x kk j) = A (ix3 x kk j) := by
  blk_simp
  congr 1
  blk_ext [blocks t] <;> omega

end Reads

variable (m : (ℓ : Loc nD τ sig) → Buf (Elt Ideal) ℓ)
variable (c : Dev nD) (t : Fin cfg0.N) (b : Fin 8) (hb : b.val = t.val / 2) (a : Fin 2) (ha : a.val = t.val % 2)
  (pr : Fin 2304 → Fin 13888 → ℝ) (hp : ∀ R k, m ((c : Thread nD τ).loc main_arg0) (ix3 b R k) = ((pr R k : ℝ) : EReal))

/-- The sink's array. -/
theorem v0_eq : V m c main_arg1 = m ((c : Thread nD τ).loc main_arg1) := by
  unfold V
  after_reads_simp

/-- The sink's block. -/
theorem z_at (x : Fin 16) : iblk m c 0 t (ix1 x) = m ((c : Thread nD τ).loc main_arg1) (ix1 x) :=
  (congrArg (fun A => ((cfg0.win 0).blk t).view.read (Elt Ideal) A (ix1 x)) (v0_eq m c)).trans (readZ t _ x)

include hb ha hp

/-- The queries' block, -/
theorem hasQ : HasQ (iblk m c 1 t) pr a := by
  intro R k
  refine (congrArg (fun A => ((cfg0.win 1).blk t).view.read (Elt Ideal) A (ix3 0 R k)) (v58_eq m c)).trans ((readQ t b hb a ha _ R k).trans ?_)
  rw [← hp]
  exact prep_q _ b R _ _ (by dsimp only; omega)

/-- the keys' -/
theorem hasK : HasD pr a 6208 le6208 (iblk m c 2 t) := by
  intro R g d l k hk
  refine (congrArg (fun A => ((cfg0.win 2).blk t).view.read (Elt Ideal) A (ix3 0 R k)) (v58_eq m c)).trans ((readK t b hb a ha _ R k).trans ?_)
  rw [← hp]
  exact prep_k _ b R _ _ (by dsimp only; omega)

/-- and the values'. -/
theorem hasV : HasD pr a 6464 le6464 (iblk m c 3 t) := by
  intro R g d l k hk
  refine (congrArg (fun A => ((cfg0.win 3).blk t).view.read (Elt Ideal) A (ix3 0 R k)) (v58_eq m c)).trans ((readV t b hb a ha _ R k).trans ?_)
  rw [← hp]
  exact prep_v _ b R _ _ (by dsimp only; omega)

omit hb ha hp

/-- The cosines' block, -/
theorem hasC : HasC (iblk m c 4 t) := by
  intro r l
  exact (congrArg (fun A => ((cfg0.win 4).blk t).view.read (Elt Ideal) A (ix2 r l)) (v22_eq m c)).trans ((readC t _ r l).trans (kcos_at r l))

/-- the sines' -/
theorem hasS : HasS (iblk m c 5 t) := by
  intro r l
  exact (congrArg (fun A => ((cfg0.win 5).blk t).view.read (Elt Ideal) A (ix2 r l)) (v28_eq m c)).trans ((readS t _ r l).trans (ksin_at r l))

/-- and the masks'. -/
theorem hasM : HasM (iblk m c 6 t) := by
  intro x kk j
  exact (congrArg (fun A => ((cfg0.win 6).blk t).view.read (Elt Ideal) A (ix3 x kk j)) (v42_eq m c)).trans ((readM t _ x kk j).trans (kmask_at x kk j))

end Cert.Proof.Swa

end
-- ==== Proof.SwaRef.lean ====
/- Hand-written: the reference's windowed attention in stages, and its rotation at an index. -/
module

public import proofs.«01_k».proof.Proof.SwaWords
public import proofs.«01_k».proof.Proof.Gen.ReferenceIdeal
public import Idealize.ShloMosaic.Lib.StableHlo.Run
public import Idealize.ShloMosaic.PureOps.IdealRules
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem
open scoped BigOperators

namespace Cert.Proof.Swa.Ref
open Cert.ReferenceIdeal Cert.ReferenceIdeal.Gen

/-! ## The rotation -/

/-- The lanes' frequencies. -/
def freq : FVec Ideal S16 .f32 :=
  Host.powf (broadcastInDim S16 ![] bcast_S_S16 (constant S_ .f32 0x461C4000#32 : FVec Ideal S_ .f32))
    (Host.divf (Host.negf (sitofp .f32 (iotaInDim S16 32 0) : FVec Ideal S16 .f32)) (broadcastInDim S16 ![] bcast_S_S16 (constant S_ .f32 0x41800000#32 : FVec Ideal S_ .f32)))
/-- The positions' angles. -/
def ang (p : IVec S2048 32) : FVec Ideal S2048x16 .f32 :=
  mulf (broadcastInDim S2048x16 ![0, 1] bcast_S2048x1_S2048x16_0_1 (broadcastInDim S2048x1 ![0] bcast_S2048_S2048x1_0 (sitofp .f32 p : FVec Ideal S2048 .f32)))
    (broadcastInDim S2048x16 ![0, 1] bcast_S1x16_S2048x16_0_1 (broadcastInDim S1x16 ![1] bcast_S16_S1x16_1 freq))
/-- Each position's row -/
def rowP : IVec S2048 32 := Host.divsi (iotaInDim S2048 32 0) (broadcastInDim S2048 ![] bcast_S_S2048 (constantI S_ 32 64#32))
/-- and column. -/
def colP : IVec S2048 32 := Host.remsi (iotaInDim S2048 32 0) (broadcastInDim S2048 ![] bcast_S_S2048 (constantI S_ 32 64#32))
/-- A table over the batch's positions. -/
def tab (t : FVec Ideal S2048x16 .f32) : FVec Ideal S1x2048x1x16 .f32 :=
  broadcastInDim S1x2048x1x16 ![1, 2, 3] bcast_S2048x1x16_S1x2048x1x16_1_2_3 (broadcastInDim S2048x1x16 ![0, 2] bcast_S2048x16_S2048x1x16_0_2 t)

/-- Half of a query head's lanes, rotated. -/
def halfQ (x : FVec Ideal S8x2048x16x32 .f32) (a : FVec Ideal S2048x16 .f32) : FVec Ideal S8x2048x16x32 .f32 :=
  concatenate S8x2048x16x32 3 [
    ⟨S8x2048x16x16, subf (mulf (extractStridedSlice S8x2048x16x16 ![0, 0, 0, 0] x slices_S8x2048x16x32_S8x2048x16x16_0_0_0_0) (broadcastInDim S8x2048x16x16 ![0, 1, 2, 3] bcast_S1x2048x1x16_S8x2048x16x16_0_1_2_3 (tab (Host.cos a))))
      (mulf (extractStridedSlice S8x2048x16x16 ![0, 0, 0, 16] x slices_S8x2048x16x32_S8x2048x16x16_0_0_0_16) (broadcastInDim S8x2048x16x16 ![0, 1, 2, 3] bcast_S1x2048x1x16_S8x2048x16x16_0_1_2_3 (tab (Host.sin a))))⟩,
    ⟨S8x2048x16x16, addf (mulf (extractStridedSlice S8x2048x16x16 ![0, 0, 0, 0] x slices_S8x2048x16x32_S8x2048x16x16_0_0_0_0) (broadcastInDim S8x2048x16x16 ![0, 1, 2, 3] bcast_S1x2048x1x16_S8x2048x16x16_0_1_2_3 (tab (Host.sin a))))
      (mulf (extractStridedSlice S8x2048x16x16 ![0, 0, 0, 16] x slices_S8x2048x16x32_S8x2048x16x16_0_0_0_16) (broadcastInDim S8x2048x16x16 ![0, 1, 2, 3] bcast_S1x2048x1x16_S8x2048x16x16_0_1_2_3 (tab (Host.cos a))))⟩]
    concatenates_S8x2048x16x16_S8x2048x16x16_S8x2048x16x32_d3
/-- The query heads, rotated. -/
def ropeQ (x : FVec Ideal S8x2048x16x64 .f32) : FVec Ideal S8x2048x16x64 .f32 :=
  concatenate S8x2048x16x64 3 [
    ⟨S8x2048x16x32, halfQ (extractStridedSlice S8x2048x16x32 ![0, 0, 0, 0] x slices_S8x2048x16x64_S8x2048x16x32_0_0_0_0) (ang rowP)⟩,
    ⟨S8x2048x16x32, halfQ (extractStridedSlice S8x2048x16x32 ![0, 0, 0, 32] x slices_S8x2048x16x64_S8x2048x16x32_0_0_0_32) (ang colP)⟩]
    concatenates_S8x2048x16x32_S8x2048x16x32_S8x2048x16x64_d3

/-- Half of a key head's lanes, rotated. -/
def halfK (x : FVec Ideal S8x2048x4x32 .f32) (a : FVec Ideal S2048x16 .f32) : FVec Ideal S8x2048x4x32 .f32 :=
  concatenate S8x2048x4x32 3 [
    ⟨S8x2048x4x16, subf (mulf (extractStridedSlice S8x2048x4x16 ![0, 0, 0, 0] x slices_S8x2048x4x32_S8x2048x4x16_0_0_0_0) (broadcastInDim S8x2048x4x16 ![0, 1, 2, 3] bcast_S1x2048x1x16_S8x2048x4x16_0_1_2_3 (tab (Host.cos a))))
      (mulf (extractStridedSlice S8x2048x4x16 ![0, 0, 0, 16] x slices_S8x2048x4x32_S8x2048x4x16_0_0_0_16) (broadcastInDim S8x2048x4x16 ![0, 1, 2, 3] bcast_S1x2048x1x16_S8x2048x4x16_0_1_2_3 (tab (Host.sin a))))⟩,
    ⟨S8x2048x4x16, addf (mulf (extractStridedSlice S8x2048x4x16 ![0, 0, 0, 0] x slices_S8x2048x4x32_S8x2048x4x16_0_0_0_0) (broadcastInDim S8x2048x4x16 ![0, 1, 2, 3] bcast_S1x2048x1x16_S8x2048x4x16_0_1_2_3 (tab (Host.sin a))))
      (mulf (extractStridedSlice S8x2048x4x16 ![0, 0, 0, 16] x slices_S8x2048x4x32_S8x2048x4x16_0_0_0_16) (broadcastInDim S8x2048x4x16 ![0, 1, 2, 3] bcast_S1x2048x1x16_S8x2048x4x16_0_1_2_3 (tab (Host.cos a))))⟩]
    concatenates_S8x2048x4x16_S8x2048x4x16_S8x2048x4x32_d3
/-- The key heads, rotated. -/
def ropeK (x : FVec Ideal S8x2048x4x64 .f32) : FVec Ideal S8x2048x4x64 .f32 :=
  concatenate S8x2048x4x64 3 [
    ⟨S8x2048x4x32, halfK (extractStridedSlice S8x2048x4x32 ![0, 0, 0, 0] x slices_S8x2048x4x64_S8x2048x4x32_0_0_0_0) (ang rowP)⟩,
    ⟨S8x2048x4x32, halfK (extractStridedSlice S8x2048x4x32 ![0, 0, 0, 32] x slices_S8x2048x4x64_S8x2048x4x32_0_0_0_32) (ang colP)⟩]
    concatenates_S8x2048x4x32_S8x2048x4x32_S8x2048x4x64_d3

/-- An angle at a position and a lane. -/
theorem ang_at (p : IVec S2048 32) (r : Fin 2048) (l : Fin 16) (n : ℕ) (hn : (p (ix1 r)).toInt = (n : ℤ)) :
    ang p (ix2 r l) = (((n : ℝ) * Real.rpow 10000 (-((l.val : ℕ) : ℝ) / 16) : ℝ) : EReal) := by
  pointwise [ang, freq]
  exact angle _ _ hn _ _ (lane_int l)

/-- A lane's angle in the first half -/
theorem rowA (r : Fin 2048) (l : Fin 16) (L : Fin 64) (h : L.val < 32) (hL : L.val % 16 = l.val) : ang rowP (ix2 r l) = ((thR r L : ℝ) : EReal) := by
  rw [ang_at rowP r l (r.val / 64) (by pointwise [rowP]; exact row_int r), thR, if_pos h, hL]

/-- and in the second. -/
theorem colA (r : Fin 2048) (l : Fin 16) (L : Fin 64) (h : ¬ L.val < 32) (hL : L.val % 16 = l.val) : ang colP (ix2 r l) = ((thR r L : ℝ) : EReal) := by
  rw [ang_at colP r l (r.val % 64) (by pointwise [colP]; exact col_int r), thR, if_neg h, hL]

/-- A rotated half at a lane, over its lanes and angles. -/
def halfV (y : Fin 32 → EReal) (t : Fin 16 → EReal) (l : Fin 32) : EReal :=
  if h : l.val < 16 then y l * Ideal.cos (t ⟨l.val, h⟩) - y ⟨16 + l.val, by omega⟩ * Ideal.sin (t ⟨l.val, h⟩)
  else y ⟨l.val - 16, by omega⟩ * Ideal.sin (t ⟨l.val - 16, by omega⟩) + y l * Ideal.cos (t ⟨l.val - 16, by omega⟩)

/-- It is the rotation of real entries. -/
theorem halfV_real (f : Fin 64 → ℝ) (r : Fin 2048) (o : ℕ) (ho : o = 0 ∨ o = 32) (y : Fin 32 → EReal) (t : Fin 16 → EReal)
    (hy : ∀ l L, L.val = o + l.val → y l = ((f L : ℝ) : EReal)) (ht : ∀ l (L : Fin 64), o ≤ L.val → L.val < o + 32 → L.val % 16 = l.val → t l = ((thR r L : ℝ) : EReal))
    (l : Fin 32) (L : Fin 64) (hL : L.val = o + l.val) : halfV y t l = ((ropeR f r L : ℝ) : EReal) := by
  unfold halfV ropeR snR
  by_cases h : l.val < 16
  · rw [dif_pos h, hy l L hL, ht ⟨l.val, h⟩ L (by omega) (by omega) (by show L.val % 16 = l.val; omega), hy ⟨16 + l.val, by omega⟩ (sw64 L) (by unfold sw64; rw [dif_pos (by omega)]; show L.val + 16 = o + (16 + l.val); omega), if_pos (by omega)]
    rw [show Ideal.cos ((thR r L : ℝ) : EReal) = ((Real.cos (thR r L) : ℝ) : EReal) from rfl, show Ideal.sin ((thR r L : ℝ) : EReal) = ((Real.sin (thR r L) : ℝ) : EReal) from rfl]
    rw [← EReal.coe_mul, ← EReal.coe_mul, ← EReal.coe_sub]
    congr 1
    ring
  · rw [dif_neg h, hy l L hL, ht ⟨l.val - 16, by omega⟩ L (by omega) (by omega) (by show L.val % 16 = l.val - 16; omega), hy ⟨l.val - 16, by omega⟩ (sw64 L) (by unfold sw64; rw [dif_neg (by omega)]; show L.val - 16 = o + (l.val - 16); omega), if_neg (by omega)]
    rw [show Ideal.cos ((thR r L : ℝ) : EReal) = ((Real.cos (thR r L) : ℝ) : EReal) from rfl, show Ideal.sin ((thR r L : ℝ) : EReal) = ((Real.sin (thR r L) : ℝ) : EReal) from rfl]
    rw [← EReal.coe_mul, ← EReal.coe_mul, ← EReal.coe_add]
    congr 1
    ring

/-- A query head's rotated half at a lane. -/
theorem halfQ_at (x : FVec Ideal S8x2048x16x32 .f32) (a : FVec Ideal S2048x16 .f32) (b : Fin 8) (r : Fin 2048) (H : Fin 16) (l : Fin 32) :
    halfQ x a (ix4 b r H l) = halfV (fun l => x (ix4 b r H l)) (fun l => a (ix2 r l)) l := by
  pointwise [halfQ, tab, halfV]
  by_cases h : l.val < 16
  · rw [dif_pos h, dif_pos h]
  · rw [dif_neg h, dif_neg h]
    have e : (⟨16 + (l.val - 16), by omega⟩ : Fin 32) = l := Fin.ext (by show 16 + (l.val - 16) = l.val; omega)
    rw [e]

/-- A rotated query head at a lane. -/
theorem ropeQ_at (x : FVec Ideal S8x2048x16x64 .f32) (b : Fin 8) (r : Fin 2048) (H : Fin 16) (l : Fin 64) (f : Fin 64 → ℝ) (hf : ∀ l, x (ix4 b r H l) = ((f l : ℝ) : EReal)) :
    ropeQ x (ix4 b r H l) = ((ropeR f r l : ℝ) : EReal) := by
  pointwise [ropeQ]
  by_cases h : l.val < 32
  · rw [dif_pos h, halfQ_at]
    refine halfV_real f r 0 (Or.inl rfl) _ _ (fun k L hL => ?_) (fun k L h1 h2 h3 => rowA r k L (by omega) h3) _ l (Nat.zero_add _).symm
    rw [← hf L]
    pointwise
    exact congrArg (fun z => x (ix4 b r H z)) (Fin.ext (by dsimp only; omega))
  · rw [dif_neg h, halfQ_at]
    refine halfV_real f r 32 (Or.inr rfl) _ _ (fun k L hL => ?_) (fun k L h1 h2 h3 => colA r k L (by omega) h3) _ l (by show l.val = 32 + (l.val - 32); omega)
    rw [← hf L]
    pointwise
    exact congrArg (fun z => x (ix4 b r H z)) (Fin.ext (by dsimp only; omega))

/-- A key head's rotated half at a lane. -/
theorem halfK_at (x : FVec Ideal S8x2048x4x32 .f32) (a : FVec Ideal S2048x16 .f32) (b : Fin 8) (r : Fin 2048) (H : Fin 4) (l : Fin 32) :
    halfK x a (ix4 b r H l) = halfV (fun l => x (ix4 b r H l)) (fun l => a (ix2 r l)) l := by
  pointwise [halfK, tab, halfV]
  by_cases h : l.val < 16
  · rw [dif_pos h, dif_pos h]
  · rw [dif_neg h, dif_neg h]
    have e : (⟨16 + (l.val - 16), by omega⟩ : Fin 32) = l := Fin.ext (by show 16 + (l.val - 16) = l.val; omega)
    rw [e]

/-- A rotated key head at a lane. -/
theorem ropeK_at (x : FVec Ideal S8x2048x4x64 .f32) (b : Fin 8) (r : Fin 2048) (H : Fin 4) (l : Fin 64) (f : Fin 64 → ℝ) (hf : ∀ l, x (ix4 b r H l) = ((f l : ℝ) : EReal)) :
    ropeK x (ix4 b r H l) = ((ropeR f r l : ℝ) : EReal) := by
  pointwise [ropeK]
  by_cases h : l.val < 32
  · rw [dif_pos h, halfK_at]
    refine halfV_real f r 0 (Or.inl rfl) _ _ (fun k L hL => ?_) (fun k L h1 h2 h3 => rowA r k L (by omega) h3) _ l (Nat.zero_add _).symm
    rw [← hf L]
    pointwise
    exact congrArg (fun z => x (ix4 b r H z)) (Fin.ext (by dsimp only; omega))
  · rw [dif_neg h, halfK_at]
    refine halfV_real f r 32 (Or.inr rfl) _ _ (fun k L hL => ?_) (fun k L h1 h2 h3 => colA r k L (by omega) h3) _ l (by show l.val = 32 + (l.val - 32); omega)
    rw [← hf L]
    pointwise
    exact congrArg (fun z => x (ix4 b r H z)) (Fin.ext (by dsimp only; omega))

/-! ## The attention in stages -/

/-- The image rows -/
def imgP (p : FVec Ideal S8x2304x13888 .bf16) : FVec Ideal S8x2048x13888 .f32 :=
  extf .f32 (extractStridedSlice S8x2048x13888 ![0, 0, 0] p slices_S8x2304x13888_S8x2048x13888_0_0_0) bitsLt_bf16_f32
/-- and the context rows. -/
def ctxP (p : FVec Ideal S8x2304x13888 .bf16) : FVec Ideal S8x256x13888 .f32 :=
  extf .f32 (extractStridedSlice S8x256x13888 ![0, 2048, 0] p slices_S8x2304x13888_S8x256x13888_0_2048_0) bitsLt_bf16_f32
/-- The rotated queries, -/
def qh (p : FVec Ideal S8x2304x13888 .bf16) : FVec Ideal S8x2048x4x4x64 .f32 :=
  shapeCast S8x2048x4x4x64 (ropeQ (shapeCast S8x2048x16x64 (extractStridedSlice S8x2048x1024 ![0, 0, 9792] (imgP p) slices_S8x2048x13888_S8x2048x1024_0_0_9792) shapeCasts_S8x2048x1024_S8x2048x16x64)) shapeCasts_S8x2048x16x64_S8x2048x4x4x64
/-- the rotated keys, -/
def kh (p : FVec Ideal S8x2304x13888 .bf16) : FVec Ideal S8x2048x4x64 .f32 :=
  ropeK (shapeCast S8x2048x4x64 (extractStridedSlice S8x2048x256 ![0, 0, 6208] (imgP p) slices_S8x2048x13888_S8x2048x256_0_0_6208) shapeCasts_S8x2048x256_S8x2048x4x64)
/-- the values, -/
def vh (p : FVec Ideal S8x2304x13888 .bf16) : FVec Ideal S8x2048x4x64 .f32 :=
  shapeCast S8x2048x4x64 (extractStridedSlice S8x2048x256 ![0, 0, 6464] (imgP p) slices_S8x2048x13888_S8x2048x256_0_0_6464) shapeCasts_S8x2048x256_S8x2048x4x64
/-- the context keys -/
def kc (p : FVec Ideal S8x2304x13888 .bf16) : FVec Ideal S8x256x4x64 .f32 :=
  shapeCast S8x256x4x64 (extractStridedSlice S8x256x256 ![0, 0, 6208] (ctxP p) slices_S8x256x13888_S8x256x256_0_0_6208) shapeCasts_S8x256x256_S8x256x4x64
/-- and context values. -/
def vc (p : FVec Ideal S8x2304x13888 .bf16) : FVec Ideal S8x256x4x64 .f32 :=
  shapeCast S8x256x4x64 (extractStridedSlice S8x256x256 ![0, 0, 6464] (ctxP p) slices_S8x256x13888_S8x256x256_0_0_6464) shapeCasts_S8x256x256_S8x256x4x64
/-- The windowed scores, -/
def scL (q : FVec Ideal S8x2048x4x4x64 .f32) (k : FVec Ideal S8x2048x4x64 .f32) : FVec Ideal S8x4x4x2048x2048 .f32 :=
  select (cmpi .sle (absi (subi (iotaInDim S8x4x4x2048x2048 32 4) (iotaInDim S8x4x4x2048x2048 32 3))) (broadcastInDim S8x4x4x2048x2048 ![] bcast_S_S8x4x4x2048x2048 (constantI S_ 32 128#32)))
    (mulf (transpose S8x4x4x2048x2048 [0, 1, 4, 3, 2] (Host.dotGeneral dot_S8x2048x4x64_S8x2048x4x4x64_S8x4x2048x2048x4_3_4_1_13_02_02 none k q : FVec Ideal S8x4x2048x2048x4 .f32) transposes_S8x4x2048x2048x4_S8x4x4x2048x2048_0_1_4_3_2)
      (broadcastInDim S8x4x4x2048x2048 ![] bcast_S_S8x4x4x2048x2048 (constant S_ .f32 0x3E000000#32 : FVec Ideal S_ .f32)))
    (broadcastInDim S8x4x4x2048x2048 ![] bcast_S_S8x4x4x2048x2048 (constant S_ .f32 0xFF800000#32 : FVec Ideal S_ .f32))
/-- the context scores -/
def scC (q : FVec Ideal S8x2048x4x4x64 .f32) (k : FVec Ideal S8x256x4x64 .f32) : FVec Ideal S8x4x4x2048x256 .f32 :=
  mulf (transpose S8x4x4x2048x256 [0, 1, 4, 3, 2] (Host.dotGeneral dot_S8x256x4x64_S8x2048x4x4x64_S8x4x256x2048x4_3_4_1_13_02_02 none k q : FVec Ideal S8x4x256x2048x4 .f32) transposes_S8x4x256x2048x4_S8x4x4x2048x256_0_1_4_3_2)
    (broadcastInDim S8x4x4x2048x256 ![] bcast_S_S8x4x4x2048x256 (constant S_ .f32 0x3E000000#32 : FVec Ideal S_ .f32))
/-- and the sink's. -/
def scZ (z : FVec Ideal S16 .f32) : FVec Ideal S8x4x4x2048x1 .f32 :=
  broadcastInDim S8x4x4x2048x1 ![0, 1, 2, 3, 4] bcast_S1x4x4x1x1_S8x4x4x2048x1_0_1_2_3_4 (shapeCast S1x4x4x1x1 z shapeCasts_S16_S1x4x4x1x1)
/-- All scores side by side. -/
def cat (x : FVec Ideal S8x4x4x2048x2048 .f32) (y : FVec Ideal S8x4x4x2048x256 .f32) (z : FVec Ideal S8x4x4x2048x1 .f32) : FVec Ideal S8x4x4x2048x2305 .f32 :=
  concatenate S8x4x4x2048x2305 4 [⟨S8x4x4x2048x2048, x⟩, ⟨S8x4x4x2048x256, y⟩, ⟨S8x4x4x2048x1, z⟩] concatenates_S8x4x4x2048x2048_S8x4x4x2048x256_S8x4x4x2048x1_S8x4x4x2048x2305_d4
/-- A row's largest entry, -/
def redR (c : FVec Ideal S8x4x4x2048x2305 .f32) : FVec Ideal S8x4x4x2048 .f32 :=
  Host.reduce FloatOps.maximumf c (constant S_ .f32 0xFF800000#32 : FVec Ideal S_ .f32) reducesTo_S8x4x4x2048x2305_S8x4x4x2048_d4 h_S_
/-- numbers not below minus infinity -/
def maxI (g : FVec Ideal S8x4x4x2048 .f32) : FVec Ideal S8x4x4x2048 .f32 :=
  maximumf (broadcastInDim S8x4x4x2048 ![] bcast_S_S8x4x4x2048 (constant S_ .f32 0xFF800000#32 : FVec Ideal S_ .f32)) g
/-- and the largest entry as one. -/
def mxR (c : FVec Ideal S8x4x4x2048x2305 .f32) : FVec Ideal S8x4x4x2048 .f32 := maxI (redR c)
/-- A row's number over its entries. -/
def rowB (x : FVec Ideal S8x4x4x2048 .f32) : FVec Ideal S8x4x4x2048x2305 .f32 :=
  broadcastInDim S8x4x4x2048x2305 ![0, 1, 2, 3, 4] bcast_S8x4x4x2048x1_S8x4x4x2048x2305_0_1_2_3_4 (broadcastInDim S8x4x4x2048x1 ![0, 1, 2, 3] bcast_S8x4x4x2048_S8x4x4x2048x1_0_1_2_3 x)
/-- The exponentials. -/
def exR (c : FVec Ideal S8x4x4x2048x2305 .f32) : FVec Ideal S8x4x4x2048x2305 .f32 := Host.exp (subf c (rowB (mxR c)))
/-- The weights. -/
def wtR (e : FVec Ideal S8x4x4x2048x2305 .f32) : FVec Ideal S8x4x4x2048x2305 .f32 :=
  Host.divf e (rowB (Host.reduceAdd e (constant S_ .f32 0x00000000#32 : FVec Ideal S_ .f32) reducesTo_S8x4x4x2048x2305_S8x4x4x2048_d4 h_S_))
/-- The weighted values. -/
def avR (v : FVec Ideal S8x2048x4x64 .f32) (v' : FVec Ideal S8x256x4x64 .f32) (w : FVec Ideal S8x4x4x2048x2305 .f32) : FVec Ideal S8x2048x4x4x64 .f32 :=
  addf (transpose S8x2048x4x4x64 [0, 4, 1, 3, 2] (Host.dotGeneral dot_S8x2048x4x64_S8x4x4x2048x2048_S8x4x64x4x2048_1_4_3_23_02_01 none v (extractStridedSlice S8x4x4x2048x2048 ![0, 0, 0, 0, 0] w slices_S8x4x4x2048x2305_S8x4x4x2048x2048_0_0_0_0_0) : FVec Ideal S8x4x64x4x2048 .f32) transposes_S8x4x64x4x2048_S8x2048x4x4x64_0_4_1_3_2)
    (transpose S8x2048x4x4x64 [0, 4, 1, 3, 2] (Host.dotGeneral dot_S8x256x4x64_S8x4x4x2048x256_S8x4x64x4x2048_1_4_3_23_02_01 none v' (extractStridedSlice S8x4x4x2048x256 ![0, 0, 0, 0, 2048] w slices_S8x4x4x2048x2305_S8x4x4x2048x256_0_0_0_0_2048) : FVec Ideal S8x4x64x4x2048 .f32) transposes_S8x4x64x4x2048_S8x2048x4x4x64_0_4_1_3_2)
/-- The reference's result. -/
def swaRef (p : FVec Ideal S8x2304x13888 .bf16) (z : FVec Ideal S16 .f32) : FVec Ideal S8x2048x1024 .bf16 :=
  truncf .bf16 (shapeCast S8x2048x1024 (avR (vh p) (vc p) (wtR (exR (cat (scL (qh p) (kh p)) (scC (qh p) (kc p)) (scZ z))))) shapeCasts_S8x2048x4x4x64_S8x2048x1024) bitsLt_bf16_f32

end Cert.Proof.Swa.Ref

end
-- ==== Proof.SwaRow.lean ====
/- Hand-written: a softmax row with its largest entry taken off, over real numbers. -/
module

public import proofs.«01_k».proof.Proof.SwaWords
public import Idealize.ShloMosaic.PureOps.IdealRules
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem
open scoped BigOperators

namespace Cert.Proof.Swa

/-- A row's largest entry is real when none is the top and one is real. -/
theorem rowmax_real (c : Fin 2305 → EReal) (hc : ∀ k, c k < ⊤) (z : ℝ) (i : Fin 2305) (hz : c i = (z : EReal)) :
    ∃ M : ℝ, max (Ideal.ofBits FTy.f32 4286578688#32) (Finset.univ.fold max (Ideal.ofBits FTy.f32 4286578688#32) c) = (M : EReal) := by
  rw [negInf]
  refine real_of (max_lt bot_lt_top ?_) z (le_max_of_le_right ?_)
  · rw [Finset.fold_max_lt]
    exact ⟨bot_lt_top, fun x _ => hc x⟩
  · rw [Finset.le_fold_max]
    exact Or.inr ⟨i, Finset.mem_univ _, hz.ge⟩

/-- An exponential with the largest entry taken off. -/
theorem rexp (p : Prop) [Decidable p] (S M : ℝ) :
    Ideal.exp ((if p then ((S * (1 / 8) : ℝ) : EReal) else ⊥) - ((M : ℝ) : EReal)) = (((if p then Real.exp (S / 8) else 0) * Real.exp (-M) : ℝ) : EReal) := by
  by_cases hp : p
  · rw [if_pos hp, if_pos hp, ← EReal.coe_sub, ← Real.exp_add, mul_one_div, ← sub_eq_add_neg]
    rfl
  · rw [if_neg hp, if_neg hp, EReal.bot_sub, zero_mul]
    rfl

/-- The same of a real entry. -/
theorem rexp' (S M : ℝ) : Ideal.exp (((S : ℝ) : EReal) - ((M : ℝ) : EReal)) = ((Real.exp S * Real.exp (-M) : ℝ) : EReal) := by
  rw [← EReal.coe_sub, ← Real.exp_add, ← sub_eq_add_neg]
  rfl

/-- A sum over a row is one over its three parts. -/
theorem row_sum (f : Fin 2305 → ℝ) : ∑ t, f t = (∑ s : Fin 2048, f ⟨s.val, by omega⟩) + (∑ x : Fin 256, f ⟨2048 + x.val, by omega⟩) + f ⟨2304, by omega⟩ := by
  rw [Fin.sum_univ_castSucc (n := 2304)]
  congr 1
  exact Fin.sum_univ_two_halves (N := 2304) 2048 256 rfl (fun x => f (Fin.castSucc x))

/-- The row's weighted values. -/
theorem row_real (c : Fin 2305 → EReal) (p : Fin 2048 → Prop) [DecidablePred p] (S v : Fin 2048 → ℝ) (C w : Fin 256 → ℝ) (z : ℝ) (m : EReal)
    (hm : m = max (Ideal.ofBits FTy.f32 4286578688#32) (Finset.univ.fold max (Ideal.ofBits FTy.f32 4286578688#32) c))
    (h1 : ∀ s : Fin 2048, c ⟨s.val, by omega⟩ = if p s then ((S s * (1 / 8) : ℝ) : EReal) else ⊥)
    (h2 : ∀ x : Fin 256, c ⟨2048 + x.val, by omega⟩ = ((C x * (1 / 8) : ℝ) : EReal)) (h3 : c ⟨2304, by omega⟩ = ((z : ℝ) : EReal)) :
    (∑ s : Fin 2048, ((v s : ℝ) : EReal) * Ideal.div (Ideal.exp (c ⟨s.val, by omega⟩ - m)) (∑ t, Ideal.exp (c t - m))) +
      (∑ x : Fin 256, ((w x : ℝ) : EReal) * Ideal.div (Ideal.exp (c ⟨2048 + x.val, by omega⟩ - m)) (∑ t, Ideal.exp (c t - m))) =
    ((((∑ s, v s * (if p s then Real.exp (S s / 8) else 0)) + ∑ x, w x * Real.exp (C x / 8)) /
      ((∑ s, (if p s then Real.exp (S s / 8) else 0)) + (∑ x, Real.exp (C x / 8)) + Real.exp z) : ℝ) : EReal) := by
  have hc : ∀ k, c k < ⊤ := by
    intro k
    by_cases k1 : k.val < 2048
    · rw [show k = ⟨(⟨k.val, k1⟩ : Fin 2048).val, k.isLt⟩ from rfl, h1]
      split
      · exact EReal.coe_lt_top _
      · exact bot_lt_top
    · by_cases k2 : k.val < 2304
      · rw [show k = ⟨2048 + (⟨k.val - 2048, by omega⟩ : Fin 256).val, by dsimp only; omega⟩ from Fin.ext (by dsimp only; omega), h2]
        exact EReal.coe_lt_top _
      · rw [show k = ⟨2304, by omega⟩ from Fin.ext (by dsimp only; omega), h3]
        exact EReal.coe_lt_top _
  obtain ⟨M, hM⟩ := rowmax_real c hc z _ h3
  rw [hM] at hm
  subst hm
  have e1 : ∀ s : Fin 2048, Ideal.exp (c ⟨s.val, by omega⟩ - (M : EReal)) = (((if p s then Real.exp (S s / 8) else 0) * Real.exp (-M) : ℝ) : EReal) := fun s => by rw [h1, rexp]
  have e2 : ∀ x : Fin 256, Ideal.exp (c ⟨2048 + x.val, by omega⟩ - (M : EReal)) = ((Real.exp (C x / 8) * Real.exp (-M) : ℝ) : EReal) := fun x => by rw [h2, rexp', mul_one_div]
  have e3 : Ideal.exp (c ⟨2304, by omega⟩ - (M : EReal)) = ((Real.exp z * Real.exp (-M) : ℝ) : EReal) := by rw [h3, rexp']
  have ep : ∀ t, ∃ f : ℝ, Ideal.exp (c t - (M : EReal)) = (f : EReal) := by
    intro k
    by_cases k1 : k.val < 2048
    · exact ⟨_, e1 ⟨k.val, k1⟩⟩
    · by_cases k2 : k.val < 2304
      · rw [show k = ⟨2048 + (⟨k.val - 2048, by omega⟩ : Fin 256).val, by dsimp only; omega⟩ from Fin.ext (by dsimp only; omega)]
        exact ⟨_, e2 _⟩
      · rw [show k = ⟨2304, by omega⟩ from Fin.ext (by dsimp only; omega)]
        exact ⟨_, e3⟩
  choose f hf using ep
  have hE : 0 < Real.exp (-M) := Real.exp_pos _
  have g1 : ∀ s : Fin 2048, f ⟨s.val, by omega⟩ = (if p s then Real.exp (S s / 8) else 0) * Real.exp (-M) := fun s => EReal.coe_injective ((hf _).symm.trans (e1 s))
  have g2 : ∀ x : Fin 256, f ⟨2048 + x.val, by omega⟩ = Real.exp (C x / 8) * Real.exp (-M) := fun x => EReal.coe_injective ((hf _).symm.trans (e2 x))
  have g3 : f ⟨2304, by omega⟩ = Real.exp z * Real.exp (-M) := EReal.coe_injective ((hf _).symm.trans e3)
  have hsum : ∑ t, Ideal.exp (c t - (M : EReal)) = ((((∑ s, (if p s then Real.exp (S s / 8) else 0)) + (∑ x, Real.exp (C x / 8)) + Real.exp z) * Real.exp (-M) : ℝ) : EReal) := by
    rw [Finset.sum_congr rfl fun t _ => hf t, csum, row_sum, Finset.sum_congr rfl fun s _ => g1 s, Finset.sum_congr rfl fun s _ => g2 s, g3, ← Finset.sum_mul, ← Finset.sum_mul, ← add_mul, ← add_mul]
  have hD : 0 < (∑ s, (if p s then Real.exp (S s / 8) else 0)) + (∑ x, Real.exp (C x / 8)) + Real.exp z := by
    have a1 : 0 ≤ ∑ s, (if p s then Real.exp (S s / 8) else 0) := Finset.sum_nonneg fun s _ => by split <;> positivity
    have a2 : 0 ≤ ∑ x, Real.exp (C x / 8) := Finset.sum_nonneg fun s _ => by positivity
    exact add_pos_of_nonneg_of_pos (add_nonneg a1 a2) (Real.exp_pos z)
  rw [hsum]
  generalize (∑ s, (if p s then Real.exp (S s / 8) else 0)) + (∑ x, Real.exp (C x / 8)) + Real.exp z = D at hD ⊢
  have hD' : D * Real.exp (-M) ≠ 0 := by positivity
  have q1 : ∀ s : Fin 2048, ((v s : ℝ) : EReal) * Ideal.div (Ideal.exp (c ⟨s.val, by omega⟩ - (M : EReal))) ((D * Real.exp (-M) : ℝ) : EReal) = ((v s * (if p s then Real.exp (S s / 8) else 0) / D : ℝ) : EReal) := by
    intro s
    rw [e1, Ideal.div_coe hD', ← EReal.coe_mul, ← EReal.coe_mul]
    congr 1
    generalize (if p s then Real.exp (S s / 8) else 0) = X
    have := hE.ne'
    have := hD.ne'
    field_simp
  have q2 : ∀ x : Fin 256, ((w x : ℝ) : EReal) * Ideal.div (Ideal.exp (c ⟨2048 + x.val, by omega⟩ - (M : EReal))) ((D * Real.exp (-M) : ℝ) : EReal) = ((w x * Real.exp (C x / 8) / D : ℝ) : EReal) := by
    intro s
    rw [e2, Ideal.div_coe hD', ← EReal.coe_mul, ← EReal.coe_mul]
    congr 1
    have := hE.ne'
    have := hD.ne'
    field_simp
  rw [Finset.sum_congr rfl fun s _ => q1 s, Finset.sum_congr rfl fun s _ => q2 s, csum, csum, ← EReal.coe_add, add_div, Finset.sum_div, Finset.sum_div]

end Cert.Proof.Swa

end
-- ==== Proof.SwaRefAt.lean ====
/- Hand-written: the reference's windowed attention at an index, over real numbers. -/
module

public import proofs.«01_k».proof.Proof.SwaRef
public import proofs.«01_k».proof.Proof.SwaRow
public import proofs.«01_k».proof.Proof.Gen.ReferenceIdeal
public import Idealize.ShloMosaic.Lib.StableHlo.Run
public import Idealize.ShloMosaic.PureOps.IdealRules
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem
open scoped BigOperators

namespace Cert.Proof.Swa.Ref
open Cert.ReferenceIdeal Cert.ReferenceIdeal.Gen

section Stages
variable (p : FVec Ideal S8x2304x13888 .bf16) (b : Fin 8) (pr : Fin 2304 → Fin 13888 → ℝ) (hp : ∀ R c, p (ix3 b R c) = ((pr R c : ℝ) : EReal))
include hp

/-- A rotated query entry, -/
theorem qh_at (r : Fin 2048) (G h : Fin 4) (l : Fin 64) : qh p (ix5 b r G h l) = ((qR pr G h r l : ℝ) : EReal) := by
  pointwise [qh]
  refine ropeQ_at _ b r _ l _ fun l' => ?_
  pointwise [imgP]
  refine (congrArg p ?_).trans (hp ⟨r.val, by omega⟩ ⟨9792 + 64 * (4 * G.val + h.val) + l'.val, by omega⟩)
  congr 1
  all_goals exact Fin.ext (by dsimp only; omega)

/-- a rotated key entry, -/
theorem kh_at (r : Fin 2048) (G : Fin 4) (l : Fin 64) : kh p (ix4 b r G l) = ((kR pr G r l : ℝ) : EReal) := by
  unfold kh
  refine ropeK_at _ b r _ l _ fun l' => ?_
  pointwise [imgP]
  refine (congrArg p ?_).trans (hp ⟨r.val, by omega⟩ ⟨6208 + 64 * G.val + l'.val, by omega⟩)
  congr 1
  all_goals exact Fin.ext (by dsimp only; omega)

/-- a value entry, -/
theorem vh_at (r : Fin 2048) (G : Fin 4) (d : Fin 64) : vh p (ix4 b r G d) = ((vR pr G ⟨r.val, by omega⟩ d : ℝ) : EReal) := by
  pointwise [vh, imgP]
  refine (congrArg p ?_).trans (hp ⟨r.val, by omega⟩ ⟨6464 + 64 * G.val + d.val, by omega⟩)
  congr 1
  all_goals exact Fin.ext (by dsimp only; omega)

/-- a context key's entry -/
theorem kc_at (x : Fin 256) (G : Fin 4) (l : Fin 64) : kc p (ix4 b x G l) = ((cR pr G x l : ℝ) : EReal) := by
  pointwise [kc, ctxP]
  refine (congrArg p ?_).trans (hp ⟨2048 + x.val, by omega⟩ ⟨6208 + 64 * G.val + l.val, by omega⟩)
  congr 1
  all_goals exact Fin.ext (by dsimp only; omega)

/-- and a context value's. -/
theorem vc_at (x : Fin 256) (G : Fin 4) (d : Fin 64) : vc p (ix4 b x G d) = ((vR pr G ⟨2048 + x.val, by omega⟩ d : ℝ) : EReal) := by
  pointwise [vc, ctxP]
  refine (congrArg p ?_).trans (hp ⟨2048 + x.val, by omega⟩ ⟨6464 + 64 * G.val + d.val, by omega⟩)
  congr 1
  all_goals exact Fin.ext (by dsimp only; omega)

end Stages

/-- A windowed score. -/
theorem scL_at (q : FVec Ideal S8x2048x4x4x64 .f32) (k : FVec Ideal S8x2048x4x64 .f32) (b : Fin 8) (G h : Fin 4) (r s : Fin 2048) :
    scL q k (ix5 b G h r s) = if okd r s then (∑ x, k (ix4 b s G x) * q (ix5 b r G h x)) * Ideal.ofBits .f32 1040187392#32 else ⊥ := by
  pointwise [scL]
  rw [show IntOp.subi (BitVec.ofNat 32 s.val) (BitVec.ofNat 32 r.val) = BitVec.ofInt 32 ((s.val : ℤ) - (r.val : ℤ)) from by
    show BitVec.ofNat 32 s.val - BitVec.ofNat 32 r.val = _
    rw [← BitVec.ofInt_natCast, ← BitVec.ofInt_natCast, BitVec.sub_eq_add_neg, ← BitVec.ofInt_neg, ← BitVec.ofInt_add, sub_eq_add_neg], near s.val r.val (by omega) (by omega), negInf]
  by_cases ho : okd r s
  · rw [if_pos ho, if_pos (show s.val ≤ r.val + 128 ∧ r.val ≤ s.val + 128 from ho)]
    rfl
  · rw [if_neg ho, if_neg (show ¬ (s.val ≤ r.val + 128 ∧ r.val ≤ s.val + 128) from ho)]
    rfl

/-- A context score. -/
theorem scC_at (q : FVec Ideal S8x2048x4x4x64 .f32) (k : FVec Ideal S8x256x4x64 .f32) (b : Fin 8) (G h : Fin 4) (r : Fin 2048) (s : Fin 256) :
    scC q k (ix5 b G h r s) = (∑ x, k (ix4 b s G x) * q (ix5 b r G h x)) * Ideal.ofBits .f32 1040187392#32 := by
  pointwise [scC]

/-- The sink's score. -/
theorem scZ_at (z : FVec Ideal S16 .f32) (b : Fin 8) (G h : Fin 4) (r : Fin 2048) : scZ z (ix5 b G h r 0) = z (ix1 ⟨4 * G.val + h.val, by omega⟩) := by
  pointwise [scZ]
  exact congrArg (fun x => z (ix1 x)) (Fin.ext (by dsimp only; omega))

section Cat
variable (x : FVec Ideal S8x4x4x2048x2048 .f32) (y : FVec Ideal S8x4x4x2048x256 .f32) (z : FVec Ideal S8x4x4x2048x1 .f32) (b : Fin 8) (G h : Fin 4) (r : Fin 2048)

/-- The side-by-side scores: a windowed one, -/
theorem cat_x (s : Fin 2048) : cat x y z (ix5 b G h r ⟨s.val, by omega⟩) = x (ix5 b G h r s) := by
  pointwise [cat]

/-- a context one -/
theorem cat_y (s : Fin 256) : cat x y z (ix5 b G h r ⟨2048 + s.val, by omega⟩) = y (ix5 b G h r s) := by
  pointwise [cat]

/-- and the sink's. -/
theorem cat_z : cat x y z (ix5 b G h r ⟨2304, by omega⟩) = z (ix5 b G h r 0) := by
  pointwise [cat]
  try rw [dif_neg (by omega), dif_neg (by omega)]
  try exact congrArg (fun k => z (ix5 b G h r k)) (Subsingleton.elim _ _)

end Cat

/-- A row's largest score is the largest of its entries. -/
theorem redmax {n0 n1 n2 n3 n4 : ℕ} {u : Shape} (c : FVec Ideal ⟨5, ![n0, n1, n2, n3, n4]⟩ .f32) (i : u.Idx → Ideal .f32)
    (h : (⟨5, ![n0, n1, n2, n3, n4]⟩ : Shape).ReducesTo [4] ⟨4, ![n0, n1, n2, n3]⟩) (hu : 0 < u.numel) (a : Fin n0) (b : Fin n1) (d : Fin n2) (e : Fin n3) :
    Host.reduce FloatOps.maximumf c i h hu (ix4 a b d e) = Finset.univ.fold max (i (Shape.Idx.first hu)) (fun k => c (ix5 a b d e k)) := by
  rw [Host.reduce_eq_fold]
  exact h.fold_fiber_r5_a4 _ _ _ _

/-- The scores' largest entry of a row. -/
theorem redR_at (c : FVec Ideal S8x4x4x2048x2305 .f32) (b : Fin 8) (G h : Fin 4) (r : Fin 2048) :
    redR c (ix4 b G h r) = Finset.univ.fold max (Ideal.ofBits FTy.f32 4286578688#32) (fun k => c (ix5 b G h r k)) :=
  redmax (n0 := 8) (n1 := 4) (n2 := 4) (n3 := 2048) (n4 := 2305) c (constant S_ .f32 0xFF800000#32 : FVec Ideal S_ .f32) reducesTo_S8x4x4x2048x2305_S8x4x4x2048_d4 h_S_ b G h r

/-- A number not below minus infinity. -/
theorem maxI_at (g : FVec Ideal S8x4x4x2048 .f32) (b : Fin 8) (G h : Fin 4) (r : Fin 2048) :
    maxI g (ix4 b G h r) = max (Ideal.ofBits FTy.f32 4286578688#32) (g (ix4 b G h r)) := by
  pointwise [maxI]

/-- A row's largest score, from minus infinity. -/
theorem mxR_at (c : FVec Ideal S8x4x4x2048x2305 .f32) (b : Fin 8) (G h : Fin 4) (r : Fin 2048) :
    mxR c (ix4 b G h r) = max (Ideal.ofBits FTy.f32 4286578688#32) (Finset.univ.fold max (Ideal.ofBits FTy.f32 4286578688#32) (fun k => c (ix5 b G h r k))) :=
  (maxI_at (redR c) b G h r).trans (congrArg (max (Ideal.ofBits FTy.f32 4286578688#32)) (redR_at c b G h r))

/-- An exponential. -/
theorem exR_at (c : FVec Ideal S8x4x4x2048x2305 .f32) (b : Fin 8) (G h : Fin 4) (r : Fin 2048) (s : Fin 2305) :
    exR c (ix5 b G h r s) = Ideal.exp (c (ix5 b G h r s) - mxR c (ix4 b G h r)) := by
  generalize hm : mxR c = m
  pointwise [exR, rowB, hm]

/-- A weight. -/
theorem wtR_at (e : FVec Ideal S8x4x4x2048x2305 .f32) (b : Fin 8) (G h : Fin 4) (r : Fin 2048) (s : Fin 2305) :
    wtR e (ix5 b G h r s) = Ideal.div (e (ix5 b G h r s)) (∑ t, e (ix5 b G h r t)) := by
  pointwise [wtR, rowB]

/-- A weighted sum of values. -/
theorem avR_at (v : FVec Ideal S8x2048x4x64 .f32) (v' : FVec Ideal S8x256x4x64 .f32) (w : FVec Ideal S8x4x4x2048x2305 .f32) (b : Fin 8) (r : Fin 2048) (G h : Fin 4) (d : Fin 64) :
    avR v v' w (ix5 b r G h d) = (∑ s : Fin 2048, v (ix4 b s G d) * w (ix5 b G h r ⟨s.val, by omega⟩)) + ∑ x : Fin 256, v' (ix4 b x G d) * w (ix5 b G h r ⟨2048 + x.val, by omega⟩) := by
  pointwise [avR]

/-- The heads side by side. -/
def outR (v : FVec Ideal S8x2048x4x4x64 .f32) : FVec Ideal S8x2048x1024 .bf16 :=
  truncf .bf16 (shapeCast S8x2048x1024 v shapeCasts_S8x2048x4x4x64_S8x2048x1024) bitsLt_bf16_f32

/-- A column of the heads. -/
theorem outR_at (v : FVec Ideal S8x2048x4x4x64 .f32) (b : Fin 8) (r : Fin 2048) (c : Fin 1024) (G h : Fin 4) (d : Fin 64) (hc : c.val = 64 * (4 * G.val + h.val) + d.val) :
    outR v (ix3 b r c) = v (ix5 b r G h d) := by
  pointwise [outR]
  congr 1
  congr 1 <;> exact Fin.ext (by dsimp only; omega)

/-- The scores of real entries. -/
def scr (p : FVec Ideal S8x2304x13888 .bf16) (z : FVec Ideal S16 .f32) : FVec Ideal S8x4x4x2048x2305 .f32 := cat (scL (qh p) (kh p)) (scC (qh p) (kc p)) (scZ z)

/-- A weighted sum of values with its weights' exponentials. -/
theorem soft_at (v : FVec Ideal S8x2048x4x64 .f32) (v' : FVec Ideal S8x256x4x64 .f32) (c : FVec Ideal S8x4x4x2048x2305 .f32) (b : Fin 8) (r : Fin 2048) (G h : Fin 4) (d : Fin 64) :
    avR v v' (wtR (exR c)) (ix5 b r G h d) =
      (∑ s : Fin 2048, v (ix4 b s G d) * Ideal.div (Ideal.exp (c (ix5 b G h r ⟨s.val, by omega⟩) - mxR c (ix4 b G h r))) (∑ t, Ideal.exp (c (ix5 b G h r t) - mxR c (ix4 b G h r)))) +
      ∑ x : Fin 256, v' (ix4 b x G d) * Ideal.div (Ideal.exp (c (ix5 b G h r ⟨2048 + x.val, by omega⟩) - mxR c (ix4 b G h r))) (∑ t, Ideal.exp (c (ix5 b G h r t) - mxR c (ix4 b G h r))) := by
  rw [avR_at]
  have e : ∀ s : Fin 2305, wtR (exR c) (ix5 b G h r s) = Ideal.div (Ideal.exp (c (ix5 b G h r s) - mxR c (ix4 b G h r))) (∑ t, Ideal.exp (c (ix5 b G h r t) - mxR c (ix4 b G h r))) := fun s =>
    (wtR_at _ b G h r s).trans (congrArg₂ Ideal.div (exR_at c b G h r s) (Finset.sum_congr rfl fun t _ => exR_at c b G h r t))
  exact congrArg₂ (· + ·) (Finset.sum_congr rfl fun s _ => congrArg (v (ix4 b s G d) * ·) (e _)) (Finset.sum_congr rfl fun s _ => congrArg (v' (ix4 b s G d) * ·) (e _))

/-- The reference's result over real numbers. -/
theorem swaRef_real (p : FVec Ideal S8x2304x13888 .bf16) (z : FVec Ideal S16 .f32) (b : Fin 8) (pr : Fin 2304 → Fin 13888 → ℝ) (hp : ∀ R c, p (ix3 b R c) = ((pr R c : ℝ) : EReal))
    (zr : ℝ) (r : Fin 2048) (c : Fin 1024) (G h : Fin 4) (d : Fin 64) (hc : c.val = 64 * (4 * G.val + h.val) + d.val) (hz : z (ix1 ⟨4 * G.val + h.val, by omega⟩) = ((zr : ℝ) : EReal)) :
    swaRef p z (ix3 b r c) = ((numR pr G h r d / denR pr zr G h r : ℝ) : EReal) := by
  refine (outR_at (avR (vh p) (vc p) (wtR (exR (scr p z)))) b r c G h d hc).trans ?_
  rw [soft_at, Finset.sum_congr rfl fun s _ => congrArg (· * _) (vh_at p b pr hp s G d), Finset.sum_congr rfl fun s _ => congrArg (· * _) (vc_at p b pr hp s G d)]
  refine row_real (fun k => scr p z (ix5 b G h r k)) (okd r) (dotL pr G h r) (fun s => vR pr G ⟨s.val, by omega⟩ d) (dotC pr G h r) (fun x => vR pr G ⟨2048 + x.val, by omega⟩ d) zr _
    (mxR_at (scr p z) b G h r) (fun s => ?_) (fun x => ?_) ?_
  · refine (cat_x _ _ _ b G h r s).trans ?_
    rw [scL_at, w8th, Finset.sum_congr rfl fun x _ => congrArg₂ (· * ·) (kh_at p b pr hp s G x) (qh_at p b pr hp r G h x)]
    rw [Finset.sum_congr rfl fun x _ => (EReal.coe_mul _ _).symm, csum, ← EReal.coe_mul]
    rfl
  · refine (cat_y _ _ _ b G h r x).trans ?_
    rw [scC_at, w8th, Finset.sum_congr rfl fun l _ => congrArg₂ (· * ·) (kc_at p b pr hp x G l) (qh_at p b pr hp r G h l)]
    rw [Finset.sum_congr rfl fun x _ => (EReal.coe_mul _ _).symm, csum, ← EReal.coe_mul]
    rfl
  · exact (cat_z _ _ _ b G h r).trans ((scZ_at z b G h r).trans hz)

end Cert.Proof.Swa.Ref

end
-- ==== Proof.SwaValue.lean ====
/- Hand-written: the attention call's result is the reference's, for real arguments. -/
module

public import proofs.«01_k».proof.Proof.SwaScore
public import proofs.«01_k».proof.Proof.SwaBlk
public import proofs.«01_k».proof.Proof.SwaRefAt
public import Idealize.ShloMosaic.Lib.StableHlo.Run
public import Idealize.ShloMosaic.Lib.StableHlo.RunRead
public import Idealize.ShloMosaic.PureOps.IdealRules
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem
open scoped BigOperators

namespace Cert.Proof.Swa
open Cert.KernelIdeal Cert.KernelIdeal.Gen Cert.KernelIdeal.Swa

variable (m : (ℓ : Loc nD τ sig) → Buf (Elt Ideal) ℓ)

/-- The reference's result of the call's arguments. -/
def refAt (c : Dev nD) : FVec Ideal S8x2048x1024 .bf16 := Ref.swaRef (m ((c : Thread nD τ).loc main_arg0)) (m ((c : Thread nD τ).loc main_arg1))

section Point
variable (c : Dev nD) (t : Fin cfg0.N) (b : Fin 8) (hb : b.val = t.val / 2) (a : Fin 2) (ha : a.val = t.val % 2)
  (pr : Fin 2304 → Fin 13888 → ℝ) (hp : ∀ R k, m ((c : Thread nD τ).loc main_arg0) (ix3 b R k) = ((pr R k : ℝ) : EReal))
  (zr : Fin 16 → ℝ) (hz : ∀ x, m ((c : Thread nD τ).loc main_arg1) (ix1 x) = ((zr x : ℝ) : EReal))
include hb ha hp hz

/-- What the body leaves at a row and a column. -/
theorem left_at (g : Fin 2) (n : Fin 16) (h : Fin 4) (j : Fin 128) (d : Fin 64) (r : Fin 2048) (k : Fin 512) (hr : r.val = 128 * n.val + j.val) (hk : k.val = 256 * g.val + 64 * h.val + d.val) :
    out (F := Ideal) (grid0.coords t) (iblk m c 0 t) (iblk m c 1 t) (iblk m c 2 t) (iblk m c 3 t) (iblk m c 4 t) (iblk m c 5 t) (iblk m c 6 t) (ix3 0 r k) =
      ((numR pr (hd a g) h r d / denR pr (zr ⟨4 * (hd a g).val + h.val, by omega⟩) (hd a g) h r : ℝ) : EReal) := by
  have e : zsel (iblk m c 0 t) (grid0.coords t) g h = ((zr ⟨4 * (hd a g).val + h.val, by omega⟩ : ℝ) : EReal) := by
    refine (z_at m c t _).trans ((congrArg (fun x => m ((c : Thread nD τ).loc main_arg1) (ix1 x)) (Fin.ext ?_)).trans (hz _))
    have h1 := coord1 t
    show 8 * ((grid0.coords t) 1).val + 4 * g.val + h.val = 4 * (2 * a.val + g.val) + h.val
    omega
  rw [out_at _ _ _ _ _ _ _ _ g n h j d r k hr hk, e,
    outv_row _ _ _ _ _ _ pr a (hasQ m c t b hb a ha pr hp) (hasK m c t b hb a ha pr hp) (hasV m c t b hb a ha pr hp) (hasC m c t) (hasS m c t) (hasM m c t) _ g n h j d r hr]

end Point

/-- The result at a row and a column. -/
theorem stored (hm0 : ∀ c : Dev nD, ∀ i, ∃ x : ℝ, m ((c : Thread nD τ).loc main_arg0) i = (x : EReal)) (hm1 : ∀ c : Dev nD, ∀ i, ∃ x : ℝ, m ((c : Thread nD τ).loc main_arg1) i = (x : EReal))
    (c : Dev nD) (t : Fin cfg0.N) (r : Fin 2048) (k : Fin 512) :
    out (F := Ideal) (grid0.coords t) (iblk m c 0 t) (iblk m c 1 t) (iblk m c 2 t) (iblk m c 3 t) (iblk m c 4 t) (iblk m c 5 t) (iblk m c 6 t) (ix3 0 r k) =
      refAt m c (((cfg0.win 7).blk t).view.emb (ix3 0 r k)) := by
  have ht : t.val < 16 := t.isLt
  choose p0 hp0 using hm0 c
  choose z0 hz0 using hm1 c
  have e7 : ((cfg0.win 7).blk t).view.emb (ix3 0 r k) = ix3 (⟨t.val / 2, by omega⟩ : Fin 8) r (⟨512 * (t.val % 2) + k.val, by omega⟩ : Fin 1024) := by
    blk_ext [blocks t] <;> omega
  rw [e7, left_at m c t ⟨t.val / 2, by omega⟩ rfl ⟨t.val % 2, by omega⟩ rfl (fun R K => p0 (ix3 ⟨t.val / 2, by omega⟩ R K)) (fun R K => hp0 _) (fun x => z0 (ix1 x)) (fun x => hz0 _)
    ⟨k.val / 256, by omega⟩ ⟨r.val / 128, by omega⟩ ⟨k.val / 64 % 4, by omega⟩ ⟨r.val % 128, by omega⟩ ⟨k.val % 64, by omega⟩ r k (by dsimp only; omega) (by dsimp only; omega)]
  refine (Ref.swaRef_real _ _ _ _ (fun R K => hp0 _) _ r _ _ _ _ ?_ (hz0 _)).symm
  show 512 * (t.val % 2) + k.val = 64 * (4 * (2 * (t.val % 2) + k.val / 256) + k.val / 64 % 4) + k.val % 64
  omega

/-- The result array after the run is the reference. -/
theorem result (hm0 : ∀ c : Dev nD, ∀ i, ∃ x : ℝ, m ((c : Thread nD τ).loc main_arg0) i = (x : EReal)) (hm1 : ∀ c : Dev nD, ∀ i, ∃ x : ℝ, m ((c : Thread nD τ).loc main_arg1) i = (x : EReal))
    (c : Dev nD) : (dats m 0 c).arrAt 7 (cfgs 0).N = refAt m c := by
  refine (dats m 0 c).arrAt_eq_of_covers 7 _ (by decide +kernel) fun t hf y => ?_
  blk_simp
  rw [after0_7]
  obtain ⟨r, d, rfl⟩ : ∃ (r : Fin 2048) (d : Fin 512), y = ix3 0 r d := ⟨y 1, y 2, by rw [eq_ix3 y]; congr 1; exact Subsingleton.elim _ _⟩
  exact stored m hm0 hm1 c t r d

end Cert.Proof.Swa

end
-- ==== Proof.SwaRefRun.lean ====
/- Hand-written: the reference's run ends with its windowed attention in stages. -/
module

public import proofs.«01_k».proof.Proof.SwaRef
public import Idealize.ShloMosaic.Lib.Claim
public import Idealize.ShloMosaic.Lib.StableHlo.Run
public import Idealize.ShloMosaic.Lib.StableHlo.RunRead

@[expose] public section

set_option maxRecDepth 16384
set_option maxHeartbeats 4000000

noncomputable section

open Idealize.ShloMosaic Idealize.ShloMosaic.TcCoe Idealize.SL.Sem

namespace Cert.Proof.Swa.Ref
open Cert.ReferenceIdeal Cert.ReferenceIdeal.Gen

/-- The reference's operations in order. -/
def opsS : { ops : List (HloOp τ sig (Elt Ideal)) // ∀ d, StableHlo.IsSeq (main (F := Ideal) d) ops } := by
  apply Subtype.mk
  · hlo_seq

/-- The operations. -/
def opsR : List (HloOp τ sig (Elt Ideal)) := opsS.1

/-- The reference's run ends with its operations' contents. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = StableHlo.after opsR (StableHlo.launchContents m d) (Proc.devRef .tc b) :=
  StableHlo.run_hlo _ _ opsS.2 (by decide) (by decide) (by unfold opsS; simp)
    (by unfold opsS; intro _ h; (repeat (cases h with | head => rfl | tail _ h => ?_)); exact nomatch h) m ρ

variable (V : Valuation τ sig (Elt Ideal))

/-- The first argument ends as it began -/
theorem arg0_eq : StableHlo.after opsR V (Proc.tc.devRef main_arg0) = V (Proc.tc.devRef main_arg0) := by
  after_reads_simp

/-- and the second. -/
theorem arg1_eq : StableHlo.after opsR V (Proc.tc.devRef main_arg1) = V (Proc.tc.devRef main_arg1) := by
  after_reads_simp

/-- The windowed scores, -/
theorem v178_eq : StableHlo.upto opsR V 201 (Proc.tc.devRef main_v178) = scL (qh (V (Proc.tc.devRef main_arg0))) (kh (V (Proc.tc.devRef main_arg0))) := by
  after_reads_simp
  rfl

/-- the context scores -/
theorem v182_eq : StableHlo.upto opsR V 201 (Proc.tc.devRef main_v182) = scC (qh (V (Proc.tc.devRef main_arg0))) (kc (V (Proc.tc.devRef main_arg0))) := by
  after_reads_simp
  rfl

/-- and the sink's. -/
theorem v184_eq : StableHlo.upto opsR V 201 (Proc.tc.devRef main_v184) = scZ (V (Proc.tc.devRef main_arg1)) := by
  after_reads_simp
  rfl

/-- Equal scores side by side are equal. -/
theorem cat_congr {x x' : FVec Ideal S8x4x4x2048x2048 .f32} {y y' : FVec Ideal S8x4x4x2048x256 .f32} {z z' : FVec Ideal S8x4x4x2048x1 .f32} (hx : x = x') (hy : y = y') (hz : z = z') :
    cat x y z = cat x' y' z' := by
  subst hx hy hz
  rfl

/-- The result. -/
theorem v205_eq : StableHlo.after opsR V (Proc.tc.devRef main_v205) = swaRef (V (Proc.tc.devRef main_arg0)) (V (Proc.tc.devRef main_arg1)) := by
  after_reads_simp
  exact congrArg (fun c : FVec Ideal S8x4x4x2048x2305 .f32 => (truncf .bf16 (shapeCast S8x2048x1024 (avR (vh (V (Proc.tc.devRef main_arg0))) (vc (V (Proc.tc.devRef main_arg0))) (wtR (exR c))) shapeCasts_S8x2048x4x4x64_S8x2048x1024) bitsLt_bf16_f32 : FVec Ideal S8x2048x1024 .bf16))
    (cat_congr (v178_eq V) (v182_eq V) (v184_eq V))

end Cert.Proof.Swa.Ref

end
-- ==== Proof.SwaPre.lean ====
/- Hand-written: what the precondition of the attention call's equality says of its arguments. -/
module

public import proofs.«01_k».proof.Pre_finite
public import Idealize.ShloMosaic.Lib.ReduceAll
public import Idealize.ShloMosaic.Lib.StableHlo.Run
public import Idealize.ShloMosaic.PureOps.IdealRules
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic

namespace Cert.Proof.Swa

/-- The precondition's side conditions. -/
theorem pre_facts : Cert.Pre_finite.Facts where
  bcast_S_S8x2304x13888 := by decide
  reducesTo_S8x2304x13888_S_d0_1_2 := by decide
  h_S_ := by decide
  bcast_S_S16 := by decide
  reducesTo_S16_S_d0 := by decide

/-- A number whose size is below the top is real. -/
theorem real_of_abs {x : EReal} (h : max x (-x) < ⊤) : ∃ r : ℝ, x = (r : EReal) := by
  induction x using EReal.rec with
  | bot => simp at h
  | coe r => exact ⟨r, rfl⟩
  | top => simp at h

/-- The words of plus infinity. -/
theorem posInf16 : Ideal.ofBits .bf16 0x7F80#16 = (⊤ : EReal) := by simp [Ideal.ofBits, Ideal.ieee]
/-- The word of infinity. -/
theorem posInf32 : Ideal.ofBits .f32 0x7F800000#32 = (⊤ : EReal) := by simp [Ideal.ofBits, Ideal.ieee]

/-- A size compared with the top. -/
theorem real_of_cmp {x : EReal} (h : Ideal.cmp .olt (max x (-x)) ⊤ = 1#1) : ∃ r : ℝ, x = (r : EReal) := by
  refine real_of_abs ?_
  by_contra hn
  unfold Ideal.cmp at h
  simp only [decide_eq_false hn] at h
  exact absurd h (by decide)

/-- Two bits whose conjunction is one. -/
theorem and_one : ∀ a b : BitVec 1, IntOp.andi a b = 1#1 → a = 1#1 ∧ b = 1#1 := by decide

open Cert.Pre_finite in
/-- Real arguments, where the precondition holds. -/
theorem finite_real (a0 : FVec Ideal S8x2304x13888 .bf16) (a1 : FVec Ideal S16 .f32) (h : @Cert.Pre_finite.fn pre_facts Ideal _ a0 a1 = fun _ => 1#1) :
    (∀ i, ∃ r : ℝ, a0 i = (r : EReal)) ∧ (∀ i, ∃ r : ℝ, a1 i = (r : EReal)) := by
  have hs : Subsingleton S_.Idx := ⟨fun a b => funext fun k => k.elim0⟩
  have h' := congrFun h (fun k => k.elim0)
  unfold Cert.Pre_finite.fn at h'
  obtain ⟨h0, h1⟩ := and_one _ _ h'
  refine ⟨fun i => ?_, fun i => ?_⟩
  · have e := Host.reduce_andi_all _ _ _ _ _ h0 i
    refine real_of_cmp (x := a0 i) ?_
    rw [← posInf16]
    exact e
  · have e := Host.reduce_andi_all _ _ _ _ _ h1 i
    refine real_of_cmp (x := a1 i) ?_
    rw [← posInf32]
    exact e

end Cert.Proof.Swa

end
-- ==== Proof.SwaAlg.lean ====
/- Hand-written: the attention call's equality with its reference, for real arguments. -/
module

public import proofs.«01_k».proof.Defs
public import proofs.«01_k».proof.Proof.SwaValue
public import proofs.«01_k».proof.Proof.SwaRefRun
public import proofs.«01_k».proof.Proof.SwaPre
public import proofs.«01_k».proof.Proof.SwaClaims
public import Idealize.ShloMosaic.Lib.Claim
public import Idealize.ShloMosaic.Lib.StableHlo.Run
public import Idealize.ShloMosaic.Adequacy
public import Idealize.ShloMosaic.Init

@[expose] public section

set_option maxRecDepth 16384
set_option maxHeartbeats 4000000

noncomputable section

open Idealize.ShloMosaic Idealize.SL.Sem

namespace Cert.Proof.Swa

/-- The idealised kernel runs where the precondition holds, since it does anywhere. -/
theorem frame_pi_finite : Cert.quiescent_KernelIdeal_pre_finite (hKernelIdeal := Cert.KernelIdeal.Gen.facts) (hPre_finite := pre_facts) :=
  fun m ρ _ => frame_pi m ρ trivial

/-- The same for the reference. -/
theorem frame_ri_finite : Cert.quiescent_ReferenceIdeal_pre_finite (hReferenceIdeal := Cert.ReferenceIdeal.Gen.facts) (hPre_finite := pre_facts) :=
  fun m ρ _ => frame_ri m ρ trivial

/-- The kernel's result is the reference's, for real arguments. -/
theorem algebraic : Cert.algebraic_KernelIdeal_ReferenceIdeal_pre_finite (hKernelIdeal := Cert.KernelIdeal.Gen.facts)
    (hReferenceIdeal := Cert.ReferenceIdeal.Gen.facts) (hPre_finite := pre_facts) := by
  pair_intro
  · run_from Cert.KernelIdeal.Swa.run_main m g
  · refine Idealize.ShloMosaic.θ_run_mono (Ref.run_ref m' g') ?_
    intro r hr c
    have h0 : m' ((c.tc : Thread Cert.ReferenceIdeal.nD Cert.ReferenceIdeal.τ).loc Cert.ReferenceIdeal.main_arg0) = _ := (hagree c).1
    have h1 : m' ((c.tc : Thread Cert.ReferenceIdeal.nD Cert.ReferenceIdeal.τ).loc Cert.ReferenceIdeal.main_arg1) = _ := (hagree c).2
    refine ⟨(hr c _).trans ((Ref.v205_eq _).trans ?_), (hr c _).trans (Ref.arg0_eq _), (hr c _).trans (Ref.arg1_eq _)⟩
    refine (congrArg₂ Ref.swaRef h0 h1).trans ?_
    exact (result m (fun c => (finite_real _ _ (hpre c)).1) (fun c => (finite_real _ _ (hpre c)).2) c).symm

end Cert.Proof.Swa

end
-- ==== Proof.lean ====
/- Hand-written: the certificate's claim. -/
module

public import proofs.«01_k».proof.Defs
public import proofs.«01_k».proof.Proof.InProjClaims
public import proofs.«01_k».proof.Proof.FfnClaims
public import proofs.«01_k».proof.Proof.MergeClaims
public import proofs.«01_k».proof.Proof.SwaClaims
public import proofs.«01_k».proof.Proof.SwaAlg
public import Idealize.ShloMosaic.Adequacy
public import Idealize.ShloMosaic.Init

@[expose] public section

noncomputable section

namespace Cert.Proof

/-- Every claim of the certificate: the frames of the four calls, then what the idealisations preserve
and the equalities with the references. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Swa.pre_facts,
    Swa.frame_p, Swa.frame_pi, Swa.frame_pi_finite, Swa.frame_ri, Swa.frame_ri_finite, InProj.frame_p, InProj.frame_pi, InProj.frame_ri, Ffn.frame_p, Ffn.frame_pi, Ffn.frame_ri, Merge.frame_p, Merge.frame_pi, Merge.frame_ri,
    Swa.preserves, Swa.algebraic, trivial, InProj.algebraic, trivial, Ffn.algebraic, trivial, Merge.algebraic⟩

end Cert.Proof

end
